-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "scale2" .f32 0x3E16C740#32 (((3424635 / 33554432) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6_1)) (v1 : (c : Dev Cert.Kernel7Ideal.nD) → Buf (Elt Ideal) ((c.tc : Thread Cert.Kernel7Ideal.nD Cert.Kernel7Ideal.τ).loc Cert.Kernel7Ideal.main_v6_3)) (v2 : (c : Dev Cert.Kernel7Ideal.nD) → Buf (Elt Ideal) ((c.tc : Thread Cert.Kernel7Ideal.nD Cert.Kernel7Ideal.τ).loc Cert.Kernel7Ideal.main_v6_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_1) = v0 c
          ∧ r.2.mem ((c.tc : Thread Cert.Kernel7Ideal.nD Cert.Kernel7Ideal.τ).loc Cert.Kernel7Ideal.main_v6_3) = v1 c
          ∧ r.2.mem ((c.tc : Thread Cert.Kernel7Ideal.nD Cert.Kernel7Ideal.τ).loc Cert.Kernel7Ideal.main_v6_5) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_v60) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_inputs.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8192x8x96 1 × IVec S8192x8x96 1 × IVec S8192x8x64 1 × IVec S8192x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8x64 .f32 := Host.absf main_arg3
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  (main_v2, main_v5, main_v8, main_v11)
-- ==== Kernel.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩
abbrev S8192x8 : Shape := ⟨2, ![8192, 8]⟩
abbrev S8192x8x128 : Shape := ⟨3, ![8192, 8, 128]⟩
abbrev S8192x1024 : Shape := ⟨2, ![8192, 1024]⟩
abbrev S1024x8192 : Shape := ⟨2, ![1024, 8192]⟩
abbrev S8192x128 : Shape := ⟨2, ![8192, 128]⟩
abbrev S1024x128 : Shape := ⟨2, ![1024, 128]⟩
abbrev S128x1024 : Shape := ⟨2, ![128, 1024]⟩
abbrev S1x1x8192 : Shape := ⟨3, ![1, 1, 8192]⟩
abbrev S128x8192 : Shape := ⟨2, ![128, 8192]⟩
abbrev S1024x1024 : Shape := ⟨2, ![1024, 1024]⟩
abbrev S96x1024 : Shape := ⟨2, ![96, 1024]⟩
abbrev S1x1x1024 : Shape := ⟨3, ![1, 1, 1024]⟩
abbrev S1x1024 : Shape := ⟨2, ![1, 1024]⟩

abbrev nBuf : Space → Nat
  | .hbm => 66
  | .vmem => 25
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x64x8192, .f32⟩
  | .hbm, ⟨32, _⟩ => ⟨S8192x8x64, .f32⟩
  | .hbm, ⟨33, _⟩ => ⟨S8x8192x1, .f32⟩
  | .hbm, ⟨34, _⟩ => ⟨S8x8192x1, .f32⟩
  | .hbm, ⟨35, _⟩ => ⟨S8x8192, .f32⟩
  | .hbm, ⟨36, _⟩ => ⟨S8x1x8192, .f32⟩
  | .hbm, ⟨37, _⟩ => ⟨S8192x8x64, .f32⟩
  | .hbm, ⟨38, _⟩ => ⟨S_, .f32⟩
  | .hbm, ⟨39, _⟩ => ⟨S8192x8, .f32⟩
  | .hbm, ⟨40, _⟩ => ⟨S8x8192, .f32⟩
  | .hbm, ⟨41, _⟩ => ⟨S8x1x8192, .f32⟩
  | .hbm, ⟨42, _⟩ => ⟨S_, .i32⟩
  | .hbm, ⟨43, _⟩ => ⟨S_, .f32⟩
  | .hbm, ⟨44, _⟩ => ⟨S8192x8x128, .f32⟩
  | .hbm, ⟨45, _⟩ => ⟨S8192x1024, .f32⟩
  | .hbm, ⟨46, _⟩ => ⟨S8192x1024, .bf16⟩
  | .hbm, ⟨47, _⟩ => ⟨S_, .i32⟩
  | .hbm, ⟨48, _⟩ => ⟨S_, .f32⟩
  | .hbm, ⟨49, _⟩ => ⟨S8192x8x128, .f32⟩
  | .hbm, ⟨50, _⟩ => ⟨S8192x1024, .f32⟩
  | .hbm, ⟨51, _⟩ => ⟨S8192x1024, .bf16⟩
  | .hbm, ⟨52, _⟩ => ⟨S_, .i32⟩
  | .hbm, ⟨53, _⟩ => ⟨S_, .f32⟩
  | .hbm, ⟨54, _⟩ => ⟨S8192x8x128, .f32⟩
  | .hbm, ⟨55, _⟩ => ⟨S8192x1024, .f32⟩
  | .hbm, ⟨56, _⟩ => ⟨S8192x1024, .bf16⟩
  | .hbm, ⟨57, _⟩ => ⟨S_, .i32⟩
  | .hbm, ⟨58, _⟩ => ⟨S_, .f32⟩
  | .hbm, ⟨59, _⟩ => ⟨S8192x8x128, .f32⟩
  | .hbm, ⟨60, _⟩ => ⟨S8192x1024, .f32⟩
  | .hbm, ⟨61, _⟩ => ⟨S8192x1024, .bf16⟩
  | .hbm, ⟨62, _⟩ => ⟨S1024x8192, .bf16⟩
  | .hbm, ⟨63, _⟩ => ⟨S8192x1024, .bf16⟩
  | .hbm, ⟨64, _⟩ => ⟨S8192x1024, .bf16⟩
  | .hbm, ⟨65, _⟩ => ⟨S8192x1024, .bf16⟩
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S8192x128, .bf16⟩
  | .local _ .vmem, ⟨9, _⟩ => ⟨S8192x128, .bf16⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S8192x128, .bf16⟩
  | .local _ .vmem, ⟨15, _⟩ => ⟨S8192x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S128x8192, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call2_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_call3_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_call4_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev main_v43_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c7_i32 : BitVec 32 := 7#32
  let arg1 : BitVec 32 := BitVec.ofNat 32 (i 1).val
  let v0 : BitVec 32 := Scalar.subi c7_i32 arg1
  let c0_i32_6 : BitVec 32 := 0#32
  let v11 : BitVec 1 := Scalar.cmpi .sgt v0 c0_i32_6
  let c1_i32 : BitVec 32 := 1#32
  let v12 : BitVec 32 := Scalar.addi arg1 c1_i32
  let c0_i32_7 : BitVec 32 := 0#32
  let v13 : BitVec 32 := Scalar.addi v12 c0_i32_7
  let v14 : BitVec 32 := Scalar.select v11 v13 arg1
  let c1024_i32 : BitVec 32 := 1024#32
  let v15 : BitVec 32 := Scalar.muli v14 c1024_i32
  v15
def k0_off1 (i : grid0.Coords) : Fin 2 → Nat :=
  let c7_i32 : BitVec 32 := 7#32
  let arg1 : BitVec 32 := BitVec.ofNat 32 (i 1).val
  let v0 : BitVec 32 := Scalar.subi c7_i32 arg1
  let c0_i32_6 : BitVec 32 := 0#32
  let v11 : BitVec 1 := Scalar.cmpi .sgt v0 c0_i32_6
  let c1_i32 : BitVec 32 := 1#32
  let v12 : BitVec 32 := Scalar.addi arg1 c1_i32
  let c0_i32_7 : BitVec 32 := 0#32
  let v13 : BitVec 32 := Scalar.addi v12 c0_i32_7
  let v14 : BitVec 32 := Scalar.select v11 v13 arg1
  let c1024_i32 : BitVec 32 := 1024#32
  let v15 : BitVec 32 := Scalar.muli v14 c1024_i32
  let v16 : BitVec 32 := v15
  let v17 : Index := Scalar.indexCast v16
  let c0_8 : Index := 0#32
  ![v17.toNat, 0]
@[reducible] def k0_t1_loop (i : grid0.Coords) : Scf.Loop 32 :=
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_24 : BitVec 32 := 1#32
  ⟨c0_i32_22, v52, c1_i32_24⟩
def k0_mult2 (i : grid0.Coords) (k0_t1 : Fin (k0_t1_loop i).trips) : BitVec 32 :=
  let c2_i32_41 : BitVec 32 := 2#32
  let c0_i32_22 : BitVec 32 := 0#32
  let c1_i32_24 : BitVec 32 := 1#32
  let arg17 : BitVec 32 := Scf.iv c0_i32_22 c1_i32_24 k0_t1
  let v78 : BitVec 32 := Scalar.muli c2_i32_41 arg17
  let c1_i32_42 : BitVec 32 := 1#32
  let v79 : BitVec 32 := Scalar.addi v78 c1_i32_42
  let c7_i32 : BitVec 32 := 7#32
  let arg1 : BitVec 32 := BitVec.ofNat 32 (i 1).val
  let v0 : BitVec 32 := Scalar.subi c7_i32 arg1
  let v80 : BitVec 1 := Scalar.cmpi .slt v79 v0
  let c1_i32_43 : BitVec 32 := 1#32
  let v81 : BitVec 32 := Scalar.addi arg1 c1_i32_43
  let v82 : BitVec 32 := Scalar.addi v81 v79
  let v83 : BitVec 32 := Scalar.select v80 v82 arg1
  let c1024_i32_44 : BitVec 32 := 1024#32
  let v84 : BitVec 32 := Scalar.muli v83 c1024_i32_44
  v84
def k0_off2 (i : grid0.Coords) (k0_t1 : Fin (k0_t1_loop i).trips) (c1_i32_42 : BitVec 32) : Fin 2 → Nat :=
  let c2_i32_41 : BitVec 32 := 2#32
  let c0_i32_22 : BitVec 32 := 0#32
  let c1_i32_24 : BitVec 32 := 1#32
  let arg17 : BitVec 32 := Scf.iv c0_i32_22 c1_i32_24 k0_t1
  let v78 : BitVec 32 := Scalar.muli c2_i32_41 arg17
  let v79 : BitVec 32 := Scalar.addi v78 c1_i32_42
  let c7_i32 : BitVec 32 := 7#32
  let arg1 : BitVec 32 := BitVec.ofNat 32 (i 1).val
  let v0 : BitVec 32 := Scalar.subi c7_i32 arg1
  let v80 : BitVec 1 := Scalar.cmpi .slt v79 v0
  let c1_i32_43 : BitVec 32 := 1#32
  let v81 : BitVec 32 := Scalar.addi arg1 c1_i32_43
  let v82 : BitVec 32 := Scalar.addi v81 v79
  let v83 : BitVec 32 := Scalar.select v80 v82 arg1
  let c1024_i32_44 : BitVec 32 := 1024#32
  let v84 : BitVec 32 := Scalar.muli v83 c1024_i32_44
  let v85 : BitVec 32 := v84
  let v86 : Index := Scalar.indexCast v85
  let c0_45 : Index := 0#32
  ![v86.toNat, 0]
def k0_mult3 (i : grid0.Coords) (k0_t1 : Fin (k0_t1_loop i).trips) : BitVec 32 :=
  let c2_i32_53 : BitVec 32 := 2#32
  let c0_i32_22 : BitVec 32 := 0#32
  let c1_i32_24 : BitVec 32 := 1#32
  let arg17 : BitVec 32 := Scf.iv c0_i32_22 c1_i32_24 k0_t1
  let v100 : BitVec 32 := Scalar.muli c2_i32_53 arg17
  let c7_i32 : BitVec 32 := 7#32
  let arg1 : BitVec 32 := BitVec.ofNat 32 (i 1).val
  let v0 : BitVec 32 := Scalar.subi c7_i32 arg1
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  v105
def k0_off3 (i : grid0.Coords) (k0_t1 : Fin (k0_t1_loop i).trips) : Fin 3 → Nat :=
  let c0_59 : Index := 0#32
  let c0_60 : Index := 0#32
  let c2_i32_53 : BitVec 32 := 2#32
  let c0_i32_22 : BitVec 32 := 0#32
  let c1_i32_24 : BitVec 32 := 1#32
  let arg17 : BitVec 32 := Scf.iv c0_i32_22 c1_i32_24 k0_t1
  let v100 : BitVec 32 := Scalar.muli c2_i32_53 arg17
  let c7_i32 : BitVec 32 := 7#32
  let arg1 : BitVec 32 := BitVec.ofNat 32 (i 1).val
  let v0 : BitVec 32 := Scalar.subi c7_i32 arg1
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  let v106 : BitVec 32 := v105
  let v110 : Index := Scalar.indexCast v106
  ![0, 0, v110.toNat]
def k0_off4 (i : grid0.Coords) (k0_t1 : Fin (k0_t1_loop i).trips) : Fin 2 → Nat :=
  let c2_i32_53 : BitVec 32 := 2#32
  let c0_i32_22 : BitVec 32 := 0#32
  let c1_i32_24 : BitVec 32 := 1#32
  let arg17 : BitVec 32 := Scf.iv c0_i32_22 c1_i32_24 k0_t1
  let v100 : BitVec 32 := Scalar.muli c2_i32_53 arg17
  let c7_i32 : BitVec 32 := 7#32
  let arg1 : BitVec 32 := BitVec.ofNat 32 (i 1).val
  let v0 : BitVec 32 := Scalar.subi c7_i32 arg1
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  let v106 : BitVec 32 := v105
  let v118 : Index := Scalar.indexCast v106
  let c0_62 : Index := 0#32
  ![v118.toNat, 0]
def k0_off5 (i : grid0.Coords) (k0_t1 : Fin (k0_t1_loop i).trips) : Fin 2 → Nat :=
  let c0_70 : Index := 0#32
  let c2_i32_53 : BitVec 32 := 2#32
  let c0_i32_22 : BitVec 32 := 0#32
  let c1_i32_24 : BitVec 32 := 1#32
  let arg17 : BitVec 32 := Scf.iv c0_i32_22 c1_i32_24 k0_t1
  let v100 : BitVec 32 := Scalar.muli c2_i32_53 arg17
  let c7_i32 : BitVec 32 := 7#32
  let arg1 : BitVec 32 := BitVec.ofNat 32 (i 1).val
  let v0 : BitVec 32 := Scalar.subi c7_i32 arg1
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  let v106 : BitVec 32 := v105
  let v137 : Index := Scalar.indexCast v106
  ![0, v137.toNat]
def k0_mult4 (i : grid0.Coords) (k0_t1 : Fin (k0_t1_loop i).trips) : BitVec 32 :=
  let c2_i32_73 : BitVec 32 := 2#32
  let c0_i32_22 : BitVec 32 := 0#32
  let c1_i32_24 : BitVec 32 := 1#32
  let arg17 : BitVec 32 := Scf.iv c0_i32_22 c1_i32_24 k0_t1
  let v145 : BitVec 32 := Scalar.muli c2_i32_73 arg17
  let c2_i32_74 : BitVec 32 := 2#32
  let v146 : BitVec 32 := Scalar.addi v145 c2_i32_74
  let c7_i32 : BitVec 32 := 7#32
  let arg1 : BitVec 32 := BitVec.ofNat 32 (i 1).val
  let v0 : BitVec 32 := Scalar.subi c7_i32 arg1
  let v147 : BitVec 1 := Scalar.cmpi .slt v146 v0
  let c1_i32_75 : BitVec 32 := 1#32
  let v148 : BitVec 32 := Scalar.addi arg1 c1_i32_75
  let v149 : BitVec 32 := Scalar.addi v148 v146
  let v150 : BitVec 32 := Scalar.select v147 v149 arg1
  let c1024_i32_76 : BitVec 32 := 1024#32
  let v151 : BitVec 32 := Scalar.muli v150 c1024_i32_76
  v151
def k0_mult5 (i : grid0.Coords) (k0_t1 : Fin (k0_t1_loop i).trips) : BitVec 32 :=
  let c2_i32_85 : BitVec 32 := 2#32
  let c0_i32_22 : BitVec 32 := 0#32
  let c1_i32_24 : BitVec 32 := 1#32
  let arg17 : BitVec 32 := Scf.iv c0_i32_22 c1_i32_24 k0_t1
  let v167 : BitVec 32 := Scalar.muli c2_i32_85 arg17
  let c1_i32_86 : BitVec 32 := 1#32
  let v168 : BitVec 32 := Scalar.addi v167 c1_i32_86
  let c7_i32 : BitVec 32 := 7#32
  let arg1 : BitVec 32 := BitVec.ofNat 32 (i 1).val
  let v0 : BitVec 32 := Scalar.subi c7_i32 arg1
  let v169 : BitVec 1 := Scalar.cmpi .slt v168 v0
  let c1_i32_87 : BitVec 32 := 1#32
  let v170 : BitVec 32 := Scalar.addi arg1 c1_i32_87
  let v171 : BitVec 32 := Scalar.addi v170 v168
  let v172 : BitVec 32 := Scalar.select v169 v171 arg1
  let c1024_i32_88 : BitVec 32 := 1024#32
  let v173 : BitVec 32 := Scalar.muli v172 c1024_i32_88
  v173
def k0_off6 (i : grid0.Coords) (k0_t1 : Fin (k0_t1_loop i).trips) : Fin 3 → Nat :=
  let c0_92 : Index := 0#32
  let c0_93 : Index := 0#32
  let c2_i32_85 : BitVec 32 := 2#32
  let c0_i32_22 : BitVec 32 := 0#32
  let c1_i32_24 : BitVec 32 := 1#32
  let arg17 : BitVec 32 := Scf.iv c0_i32_22 c1_i32_24 k0_t1
  let v167 : BitVec 32 := Scalar.muli c2_i32_85 arg17
  let c1_i32_86 : BitVec 32 := 1#32
  let v168 : BitVec 32 := Scalar.addi v167 c1_i32_86
  let c7_i32 : BitVec 32 := 7#32
  let arg1 : BitVec 32 := BitVec.ofNat 32 (i 1).val
  let v0 : BitVec 32 := Scalar.subi c7_i32 arg1
  let v169 : BitVec 1 := Scalar.cmpi .slt v168 v0
  let c1_i32_87 : BitVec 32 := 1#32
  let v170 : BitVec 32 := Scalar.addi arg1 c1_i32_87
  let v171 : BitVec 32 := Scalar.addi v170 v168
  let v172 : BitVec 32 := Scalar.select v169 v171 arg1
  let c1024_i32_88 : BitVec 32 := 1024#32
  let v173 : BitVec 32 := Scalar.muli v172 c1024_i32_88
  let v174 : BitVec 32 := v173
  let v178 : Index := Scalar.indexCast v174
  ![0, 0, v178.toNat]
def k0_off7 (i : grid0.Coords) (k0_t1 : Fin (k0_t1_loop i).trips) : Fin 2 → Nat :=
  let c0_103 : Index := 0#32
  let c2_i32_85 : BitVec 32 := 2#32
  let c0_i32_22 : BitVec 32 := 0#32
  let c1_i32_24 : BitVec 32 := 1#32
  let arg17 : BitVec 32 := Scf.iv c0_i32_22 c1_i32_24 k0_t1
  let v167 : BitVec 32 := Scalar.muli c2_i32_85 arg17
  let c1_i32_86 : BitVec 32 := 1#32
  let v168 : BitVec 32 := Scalar.addi v167 c1_i32_86
  let c7_i32 : BitVec 32 := 7#32
  let arg1 : BitVec 32 := BitVec.ofNat 32 (i 1).val
  let v0 : BitVec 32 := Scalar.subi c7_i32 arg1
  let v169 : BitVec 1 := Scalar.cmpi .slt v168 v0
  let c1_i32_87 : BitVec 32 := 1#32
  let v170 : BitVec 32 := Scalar.addi arg1 c1_i32_87
  let v171 : BitVec 32 := Scalar.addi v170 v168
  let v172 : BitVec 32 := Scalar.select v169 v171 arg1
  let c1024_i32_88 : BitVec 32 := 1024#32
  let v173 : BitVec 32 := Scalar.muli v172 c1024_i32_88
  let v174 : BitVec 32 := v173
  let v205 : Index := Scalar.indexCast v174
  ![0, v205.toNat]
@[reducible] def k0_t2_loop (i : grid0.Coords) : Scf.Loop 32 :=
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let v49 : BitVec 32 := Scalar.addi c0_i32_22 v48
  let c1_i32_25 : BitVec 32 := 1#32
  ⟨v52, v49, c1_i32_25⟩
def k0_mult6 (i : grid0.Coords) (k0_t2 : Fin (k0_t2_loop i).trips) : BitVec 32 :=
  let c2_i32_41 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v78 : BitVec 32 := Scalar.muli c2_i32_41 arg17
  let c1_i32_42 : BitVec 32 := 1#32
  let v79 : BitVec 32 := Scalar.addi v78 c1_i32_42
  let v80 : BitVec 1 := Scalar.cmpi .slt v79 v0
  let c1_i32_43 : BitVec 32 := 1#32
  let v81 : BitVec 32 := Scalar.addi arg1 c1_i32_43
  let v82 : BitVec 32 := Scalar.addi v81 v79
  let v83 : BitVec 32 := Scalar.select v80 v82 arg1
  let c1024_i32_44 : BitVec 32 := 1024#32
  let v84 : BitVec 32 := Scalar.muli v83 c1024_i32_44
  v84
def k0_off8 (i : grid0.Coords) (k0_t2 : Fin (k0_t2_loop i).trips) (c1_i32_42 : BitVec 32) : Fin 2 → Nat :=
  let c2_i32_41 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v78 : BitVec 32 := Scalar.muli c2_i32_41 arg17
  let v79 : BitVec 32 := Scalar.addi v78 c1_i32_42
  let v80 : BitVec 1 := Scalar.cmpi .slt v79 v0
  let c1_i32_43 : BitVec 32 := 1#32
  let v81 : BitVec 32 := Scalar.addi arg1 c1_i32_43
  let v82 : BitVec 32 := Scalar.addi v81 v79
  let v83 : BitVec 32 := Scalar.select v80 v82 arg1
  let c1024_i32_44 : BitVec 32 := 1024#32
  let v84 : BitVec 32 := Scalar.muli v83 c1024_i32_44
  let v85 : BitVec 32 := v84
  let v86 : Index := Scalar.indexCast v85
  let c0_45 : Index := 0#32
  ![v86.toNat, 0]
def k0_mult7 (i : grid0.Coords) (k0_t2 : Fin (k0_t2_loop i).trips) : BitVec 32 :=
  let c2_i32_53 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v100 : BitVec 32 := Scalar.muli c2_i32_53 arg17
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  v105
def k0_off9 (i : grid0.Coords) (k0_t2 : Fin (k0_t2_loop i).trips) : Fin 3 → Nat :=
  let c0_59 : Index := 0#32
  let c0_60 : Index := 0#32
  let c2_i32_53 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v100 : BitVec 32 := Scalar.muli c2_i32_53 arg17
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  let v106 : BitVec 32 := v105
  let v110 : Index := Scalar.indexCast v106
  ![0, 0, v110.toNat]
def k0_off10 (i : grid0.Coords) (k0_t2 : Fin (k0_t2_loop i).trips) : Fin 2 → Nat :=
  let c2_i32_53 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v100 : BitVec 32 := Scalar.muli c2_i32_53 arg17
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  let v106 : BitVec 32 := v105
  let v118 : Index := Scalar.indexCast v106
  let c0_62 : Index := 0#32
  ![v118.toNat, 0]
def k0_off11 (i : grid0.Coords) (k0_t2 : Fin (k0_t2_loop i).trips) : Fin 2 → Nat :=
  let c0_70 : Index := 0#32
  let c2_i32_53 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v100 : BitVec 32 := Scalar.muli c2_i32_53 arg17
  let v101 : BitVec 1 := Scalar.cmpi .slt v100 v0
  let c1_i32_54 : BitVec 32 := 1#32
  let v102 : BitVec 32 := Scalar.addi arg1 c1_i32_54
  let v103 : BitVec 32 := Scalar.addi v102 v100
  let v104 : BitVec 32 := Scalar.select v101 v103 arg1
  let c1024_i32_55 : BitVec 32 := 1024#32
  let v105 : BitVec 32 := Scalar.muli v104 c1024_i32_55
  let v106 : BitVec 32 := v105
  let v137 : Index := Scalar.indexCast v106
  ![0, v137.toNat]
def k0_mult8 (i : grid0.Coords) (k0_t2 : Fin (k0_t2_loop i).trips) : BitVec 32 :=
  let c2_i32_73 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v145 : BitVec 32 := Scalar.muli c2_i32_73 arg17
  let c2_i32_74 : BitVec 32 := 2#32
  let v146 : BitVec 32 := Scalar.addi v145 c2_i32_74
  let v147 : BitVec 1 := Scalar.cmpi .slt v146 v0
  let c1_i32_75 : BitVec 32 := 1#32
  let v148 : BitVec 32 := Scalar.addi arg1 c1_i32_75
  let v149 : BitVec 32 := Scalar.addi v148 v146
  let v150 : BitVec 32 := Scalar.select v147 v149 arg1
  let c1024_i32_76 : BitVec 32 := 1024#32
  let v151 : BitVec 32 := Scalar.muli v150 c1024_i32_76
  v151
def k0_mult9 (i : grid0.Coords) (k0_t2 : Fin (k0_t2_loop i).trips) : BitVec 32 :=
  let c2_i32_85 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v167 : BitVec 32 := Scalar.muli c2_i32_85 arg17
  let c1_i32_86 : BitVec 32 := 1#32
  let v168 : BitVec 32 := Scalar.addi v167 c1_i32_86
  let v169 : BitVec 1 := Scalar.cmpi .slt v168 v0
  let c1_i32_87 : BitVec 32 := 1#32
  let v170 : BitVec 32 := Scalar.addi arg1 c1_i32_87
  let v171 : BitVec 32 := Scalar.addi v170 v168
  let v172 : BitVec 32 := Scalar.select v169 v171 arg1
  let c1024_i32_88 : BitVec 32 := 1024#32
  let v173 : BitVec 32 := Scalar.muli v172 c1024_i32_88
  v173
def k0_off12 (i : grid0.Coords) (k0_t2 : Fin (k0_t2_loop i).trips) : Fin 3 → Nat :=
  let c0_92 : Index := 0#32
  let c0_93 : Index := 0#32
  let c2_i32_85 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v167 : BitVec 32 := Scalar.muli c2_i32_85 arg17
  let c1_i32_86 : BitVec 32 := 1#32
  let v168 : BitVec 32 := Scalar.addi v167 c1_i32_86
  let v169 : BitVec 1 := Scalar.cmpi .slt v168 v0
  let c1_i32_87 : BitVec 32 := 1#32
  let v170 : BitVec 32 := Scalar.addi arg1 c1_i32_87
  let v171 : BitVec 32 := Scalar.addi v170 v168
  let v172 : BitVec 32 := Scalar.select v169 v171 arg1
  let c1024_i32_88 : BitVec 32 := 1024#32
  let v173 : BitVec 32 := Scalar.muli v172 c1024_i32_88
  let v174 : BitVec 32 := v173
  let v178 : Index := Scalar.indexCast v174
  ![0, 0, v178.toNat]
def k0_off13 (i : grid0.Coords) (k0_t2 : Fin (k0_t2_loop i).trips) : Fin 2 → Nat :=
  let c0_103 : Index := 0#32
  let c2_i32_85 : BitVec 32 := 2#32
  let c0_i32_22 : BitVec 32 := 0#32
  let c7_i32 : BitVec 32 := 7#32
  let arg1 : BitVec 32 := BitVec.ofNat 32 (i 1).val
  let v0 : BitVec 32 := Scalar.subi c7_i32 arg1
  let c0_i32_16 : BitVec 32 := 0#32
  let v32 : BitVec 1 := Scalar.cmpi .sgt v0 c0_i32_16
  let v33 : BitVec 32 := Scalar.extui v32
  let c0_i32_17 : BitVec 32 := 0#32
  let v34 : BitVec 1 := Scalar.cmpi .slt v0 c0_i32_17
  let v35 : BitVec 32 := Scalar.extui v34
  let v36 : BitVec 32 := Scalar.subi v33 v35
  let c2_i32 : BitVec 32 := 2#32
  let c0_i32_18 : BitVec 32 := 0#32
  let v37 : BitVec 1 := Scalar.cmpi .sgt c2_i32 c0_i32_18
  let v38 : BitVec 32 := Scalar.extui v37
  let c0_i32_19 : BitVec 32 := 0#32
  let v39 : BitVec 1 := Scalar.cmpi .slt c2_i32 c0_i32_19
  let v40 : BitVec 32 := Scalar.extui v39
  let v41 : BitVec 32 := Scalar.subi v38 v40
  let v42 : BitVec 1 := Scalar.cmpi .ne v36 v41
  let v43 : BitVec 32 := Scalar.remsi v0 c2_i32
  let c0_i32_20 : BitVec 32 := 0#32
  let v44 : BitVec 1 := Scalar.cmpi .ne v43 c0_i32_20
  let v45 : BitVec 1 := Scalar.andi v42 v44
  let v31 : BitVec 32 := Scalar.divsi v0 c2_i32
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg17 : BitVec 32 := Scf.iv v52 c1_i32_25 k0_t2
  let v167 : BitVec 32 := Scalar.muli c2_i32_85 arg17
  let c1_i32_86 : BitVec 32 := 1#32
  let v168 : BitVec 32 := Scalar.addi v167 c1_i32_86
  let v169 : BitVec 1 := Scalar.cmpi .slt v168 v0
  let c1_i32_87 : BitVec 32 := 1#32
  let v170 : BitVec 32 := Scalar.addi arg1 c1_i32_87
  let v171 : BitVec 32 := Scalar.addi v170 v168
  let v172 : BitVec 32 := Scalar.select v169 v171 arg1
  let c1024_i32_88 : BitVec 32 := 1024#32
  let v173 : BitVec 32 := Scalar.muli v172 c1024_i32_88
  let v174 : BitVec 32 := v173
  let v205 : Index := Scalar.indexCast v174
  ![0, v205.toNat]
def k0_cond2 (i : grid0.Coords) : BitVec 1 :=
  let c7_i32 : BitVec 32 := 7#32
  let arg1 : BitVec 32 := BitVec.ofNat 32 (i 1).val
  let v0 : BitVec 32 := Scalar.subi c7_i32 arg1
  let c2_i32_26 : BitVec 32 := 2#32
  let c0_i32_27 : BitVec 32 := 0#32
  let v55 : BitVec 1 := Scalar.cmpi .eq c2_i32_26 c0_i32_27
  let c1_i32_28 : BitVec 32 := 1#32
  let v56 : BitVec 32 := Scalar.select v55 c1_i32_28 c2_i32_26
  let v57 : BitVec 32 := Scalar.remsi v0 v56
  let c0_i32_30 : BitVec 32 := 0#32
  let v59 : BitVec 1 := Scalar.cmpi .slt v57 c0_i32_30
  let c0_i32_31 : BitVec 32 := 0#32
  let v60 : BitVec 1 := Scalar.cmpi .slt v56 c0_i32_31
  let v61 : BitVec 1 := Scalar.xori v59 v60
  let c0_i32_29 : BitVec 32 := 0#32
  let v58 : BitVec 1 := Scalar.cmpi .ne v57 c0_i32_29
  let v62 : BitVec 1 := Scalar.andi v61 v58
  let v63 : BitVec 32 := Scalar.addi v57 v56
  let v64 : BitVec 32 := Scalar.select v62 v63 v57
  let c1_i32_32 : BitVec 32 := 1#32
  let v65 : BitVec 1 := Scalar.cmpi .eq v64 c1_i32_32
  let v66 : BitVec 32 := Scalar.extui v65
  let c0_i32_33 : BitVec 32 := 0#32
  let v67 : BitVec 1 := Scalar.cmpi .ne v66 c0_i32_33
  v67

def k0_mult10 (i : grid0.Coords) : BitVec 32 :=
  let c7_i32 : BitVec 32 := 7#32
  let arg1 : BitVec 32 := BitVec.ofNat 32 (i 1).val
  let v0 : BitVec 32 := Scalar.subi c7_i32 arg1
  let v78 : BitVec 1 := Scalar.cmpi .slt v0 v0
  let c1_i32_41 : BitVec 32 := 1#32
  let v79 : BitVec 32 := Scalar.addi arg1 c1_i32_41
  let v80 : BitVec 32 := Scalar.addi v79 v0
  let v81 : BitVec 32 := Scalar.select v78 v80 arg1
  let c1024_i32_42 : BitVec 32 := 1024#32
  let v82 : BitVec 32 := Scalar.muli v81 c1024_i32_42
  v82
def k0_off14 (i : grid0.Coords) : Fin 2 → Nat :=
  let c7_i32 : BitVec 32 := 7#32
  let arg1 : BitVec 32 := BitVec.ofNat 32 (i 1).val
  let v0 : BitVec 32 := Scalar.subi c7_i32 arg1
  let v78 : BitVec 1 := Scalar.cmpi .slt v0 v0
  let c1_i32_41 : BitVec 32 := 1#32
  let v79 : BitVec 32 := Scalar.addi arg1 c1_i32_41
  let v80 : BitVec 32 := Scalar.addi v79 v0
  let v81 : BitVec 32 := Scalar.select v78 v80 arg1
  let c1024_i32_42 : BitVec 32 := 1024#32
  let v82 : BitVec 32 := Scalar.muli v81 c1024_i32_42
  let v83 : BitVec 32 := v82
  let v84 : Index := Scalar.indexCast v83
  let c0_43 : Index := 0#32
  ![v84.toNat, 0]
def k0_mult11 (i : grid0.Coords) : BitVec 32 :=
  let c7_i32 : BitVec 32 := 7#32
  let arg1 : BitVec 32 := BitVec.ofNat 32 (i 1).val
  let v0 : BitVec 32 := Scalar.subi c7_i32 arg1
  let c1_i32_51 : BitVec 32 := 1#32
  let v98 : BitVec 32 := Scalar.subi v0 c1_i32_51
  let v99 : BitVec 1 := Scalar.cmpi .slt v98 v0
  let c1_i32_52 : BitVec 32 := 1#32
  let v100 : BitVec 32 := Scalar.addi arg1 c1_i32_52
  let v101 : BitVec 32 := Scalar.addi v100 v98
  let v102 : BitVec 32 := Scalar.select v99 v101 arg1
  let c1024_i32_53 : BitVec 32 := 1024#32
  let v103 : BitVec 32 := Scalar.muli v102 c1024_i32_53
  v103
def k0_off15 (i : grid0.Coords) : Fin 3 → Nat :=
  let c0_57 : Index := 0#32
  let c0_58 : Index := 0#32
  let c7_i32 : BitVec 32 := 7#32
  let arg1 : BitVec 32 := BitVec.ofNat 32 (i 1).val
  let v0 : BitVec 32 := Scalar.subi c7_i32 arg1
  let c1_i32_51 : BitVec 32 := 1#32
  let v98 : BitVec 32 := Scalar.subi v0 c1_i32_51
  let v99 : BitVec 1 := Scalar.cmpi .slt v98 v0
  let c1_i32_52 : BitVec 32 := 1#32
  let v100 : BitVec 32 := Scalar.addi arg1 c1_i32_52
  let v101 : BitVec 32 := Scalar.addi v100 v98
  let v102 : BitVec 32 := Scalar.select v99 v101 arg1
  let c1024_i32_53 : BitVec 32 := 1024#32
  let v103 : BitVec 32 := Scalar.muli v102 c1024_i32_53
  let v104 : BitVec 32 := v103
  let v108 : Index := Scalar.indexCast v104
  ![0, 0, v108.toNat]
def k0_off16 (i : grid0.Coords) : Fin 2 → Nat :=
  let c7_i32 : BitVec 32 := 7#32
  let arg1 : BitVec 32 := BitVec.ofNat 32 (i 1).val
  let v0 : BitVec 32 := Scalar.subi c7_i32 arg1
  let c1_i32_51 : BitVec 32 := 1#32
  let v98 : BitVec 32 := Scalar.subi v0 c1_i32_51
  let v99 : BitVec 1 := Scalar.cmpi .slt v98 v0
  let c1_i32_52 : BitVec 32 := 1#32
  let v100 : BitVec 32 := Scalar.addi arg1 c1_i32_52
  let v101 : BitVec 32 := Scalar.addi v100 v98
  let v102 : BitVec 32 := Scalar.select v99 v101 arg1
  let c1024_i32_53 : BitVec 32 := 1024#32
  let v103 : BitVec 32 := Scalar.muli v102 c1024_i32_53
  let v104 : BitVec 32 := v103
  let v116 : Index := Scalar.indexCast v104
  let c0_60 : Index := 0#32
  ![v116.toNat, 0]
def k0_off17 (i : grid0.Coords) : Fin 2 → Nat :=
  let c0_68 : Index := 0#32
  let c7_i32 : BitVec 32 := 7#32
  let arg1 : BitVec 32 := BitVec.ofNat 32 (i 1).val
  let v0 : BitVec 32 := Scalar.subi c7_i32 arg1
  let c1_i32_51 : BitVec 32 := 1#32
  let v98 : BitVec 32 := Scalar.subi v0 c1_i32_51
  let v99 : BitVec 1 := Scalar.cmpi .slt v98 v0
  let c1_i32_52 : BitVec 32 := 1#32
  let v100 : BitVec 32 := Scalar.addi arg1 c1_i32_52
  let v101 : BitVec 32 := Scalar.addi v100 v98
  let v102 : BitVec 32 := Scalar.select v99 v101 arg1
  let c1024_i32_53 : BitVec 32 := 1024#32
  let v103 : BitVec 32 := Scalar.muli v102 c1024_i32_53
  let v104 : BitVec 32 := v103
  let v135 : Index := Scalar.indexCast v104
  ![0, v135.toNat]
def k0_mult12 (i : grid0.Coords) : BitVec 32 :=
  let c7_i32 : BitVec 32 := 7#32
  let arg1 : BitVec 32 := BitVec.ofNat 32 (i 1).val
  let v0 : BitVec 32 := Scalar.subi c7_i32 arg1
  let v143 : BitVec 1 := Scalar.cmpi .slt v0 v0
  let c1_i32_71 : BitVec 32 := 1#32
  let v144 : BitVec 32 := Scalar.addi arg1 c1_i32_71
  let v145 : BitVec 32 := Scalar.addi v144 v0
  let v146 : BitVec 32 := Scalar.select v143 v145 arg1
  let c1024_i32_72 : BitVec 32 := 1024#32
  let v147 : BitVec 32 := Scalar.muli v146 c1024_i32_72
  v147
def k0_off18 (i : grid0.Coords) : Fin 3 → Nat :=
  let c0_76 : Index := 0#32
  let c0_77 : Index := 0#32
  let c7_i32 : BitVec 32 := 7#32
  let arg1 : BitVec 32 := BitVec.ofNat 32 (i 1).val
  let v0 : BitVec 32 := Scalar.subi c7_i32 arg1
  let v143 : BitVec 1 := Scalar.cmpi .slt v0 v0
  let c1_i32_71 : BitVec 32 := 1#32
  let v144 : BitVec 32 := Scalar.addi arg1 c1_i32_71
  let v145 : BitVec 32 := Scalar.addi v144 v0
  let v146 : BitVec 32 := Scalar.select v143 v145 arg1
  let c1024_i32_72 : BitVec 32 := 1024#32
  let v147 : BitVec 32 := Scalar.muli v146 c1024_i32_72
  let v148 : BitVec 32 := v147
  let v152 : Index := Scalar.indexCast v148
  ![0, 0, v152.toNat]
def k0_off19 (i : grid0.Coords) : Fin 2 → Nat :=
  let c0_88 : Index := 0#32
  let c7_i32 : BitVec 32 := 7#32
  let arg1 : BitVec 32 := BitVec.ofNat 32 (i 1).val
  let v0 : BitVec 32 := Scalar.subi c7_i32 arg1
  let v143 : BitVec 1 := Scalar.cmpi .slt v0 v0
  let c1_i32_71 : BitVec 32 := 1#32
  let v144 : BitVec 32 := Scalar.addi arg1 c1_i32_71
  let v145 : BitVec 32 := Scalar.addi v144 v0
  let v146 : BitVec 32 := Scalar.select v143 v145 arg1
  let c1024_i32_72 : BitVec 32 := 1024#32
  let v147 : BitVec 32 := Scalar.muli v146 c1024_i32_72
  let v148 : BitVec 32 := v147
  let v184 : Index := Scalar.indexCast v148
  ![0, v184.toNat]
def k0_mult13 (i : grid0.Coords) : BitVec 32 :=
  let c7_i32 : BitVec 32 := 7#32
  let arg1 : BitVec 32 := BitVec.ofNat 32 (i 1).val
  let v0 : BitVec 32 := Scalar.subi c7_i32 arg1
  let v78 : BitVec 1 := Scalar.cmpi .slt v0 v0
  let c1_i32_41 : BitVec 32 := 1#32
  let v79 : BitVec 32 := Scalar.addi arg1 c1_i32_41
  let v80 : BitVec 32 := Scalar.addi v79 v0
  let v81 : BitVec 32 := Scalar.select v78 v80 arg1
  let c1024_i32_42 : BitVec 32 := 1024#32
  let v82 : BitVec 32 := Scalar.muli v81 c1024_i32_42
  v82
def k0_off20 (i : grid0.Coords) : Fin 3 → Nat :=
  let c0_46 : Index := 0#32
  let c0_47 : Index := 0#32
  let c7_i32 : BitVec 32 := 7#32
  let arg1 : BitVec 32 := BitVec.ofNat 32 (i 1).val
  let v0 : BitVec 32 := Scalar.subi c7_i32 arg1
  let v78 : BitVec 1 := Scalar.cmpi .slt v0 v0
  let c1_i32_41 : BitVec 32 := 1#32
  let v79 : BitVec 32 := Scalar.addi arg1 c1_i32_41
  let v80 : BitVec 32 := Scalar.addi v79 v0
  let v81 : BitVec 32 := Scalar.select v78 v80 arg1
  let c1024_i32_42 : BitVec 32 := 1024#32
  let v82 : BitVec 32 := Scalar.muli v81 c1024_i32_42
  let v83 : BitVec 32 := v82
  let v87 : Index := Scalar.indexCast v83
  ![0, 0, v87.toNat]
def k0_off21 (i : grid0.Coords) : Fin 2 → Nat :=
  let c7_i32 : BitVec 32 := 7#32
  let arg1 : BitVec 32 := BitVec.ofNat 32 (i 1).val
  let v0 : BitVec 32 := Scalar.subi c7_i32 arg1
  let v78 : BitVec 1 := Scalar.cmpi .slt v0 v0
  let c1_i32_41 : BitVec 32 := 1#32
  let v79 : BitVec 32 := Scalar.addi arg1 c1_i32_41
  let v80 : BitVec 32 := Scalar.addi v79 v0
  let v81 : BitVec 32 := Scalar.select v78 v80 arg1
  let c1024_i32_42 : BitVec 32 := 1024#32
  let v82 : BitVec 32 := Scalar.muli v81 c1024_i32_42
  let v83 : BitVec 32 := v82
  let v100 : Index := Scalar.indexCast v83
  let c0_50 : Index := 0#32
  ![v100.toNat, 0]
def k0_off22 (i : grid0.Coords) : Fin 2 → Nat :=
  let c0_58 : Index := 0#32
  let c7_i32 : BitVec 32 := 7#32
  let arg1 : BitVec 32 := BitVec.ofNat 32 (i 1).val
  let v0 : BitVec 32 := Scalar.subi c7_i32 arg1
  let v78 : BitVec 1 := Scalar.cmpi .slt v0 v0
  let c1_i32_41 : BitVec 32 := 1#32
  let v79 : BitVec 32 := Scalar.addi arg1 c1_i32_41
  let v80 : BitVec 32 := Scalar.addi v79 v0
  let v81 : BitVec 32 := Scalar.select v78 v80 arg1
  let c1024_i32_42 : BitVec 32 := 1024#32
  let v82 : BitVec 32 := Scalar.muli v81 c1024_i32_42
  let v83 : BitVec 32 := v82
  let v119 : Index := Scalar.indexCast v83
  ![0, v119.toNat]
def k0_cond3 (i : grid0.Coords) : BitVec 1 :=
  let arg1 : BitVec 32 := BitVec.ofNat 32 (i 1).val
  let c7_i32_39 : BitVec 32 := 7#32
  let v75 : BitVec 1 := Scalar.cmpi .eq arg1 c7_i32_39
  let v76 : BitVec 32 := Scalar.extui v75
  let c0_i32_40 : BitVec 32 := 0#32
  let v77 : BitVec 1 := Scalar.cmpi .ne v76 c0_i32_40
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "scale2" => some (((3424635 / 33554432) * (Real.log 2)⁻¹ : ℝ) : EReal)
  | _ => none
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x32 : Shape := ⟨3, ![8192, 8, 32]⟩
abbrev S8192x8x128 : Shape := ⟨3, ![8192, 8, 128]⟩
abbrev S8192x1024 : Shape := ⟨2, ![8192, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x64x8192, .f32⟩
  | .hbm, ⟨61, _⟩ => ⟨S8192x8x64, .f32⟩
  | .hbm, ⟨62, _⟩ => ⟨S8x64x8192, .f32⟩
  | .hbm, ⟨63, _⟩ => ⟨S8x8192x8192, .f32⟩
  | .hbm, ⟨64, _⟩ => ⟨S8x64x8192, .f32⟩
  | .hbm, ⟨65, _⟩ => ⟨S8192x8x64, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S8x8192x96, .f32⟩
  | .hbm, ⟨87, _⟩ => ⟨S8192x8x96, .f32⟩
  | .hbm, ⟨88, _⟩ => ⟨S8x8192x96, .f32⟩
  | .hbm, ⟨89, _⟩ => ⟨S8192x8x96, .f32⟩
  | .hbm, ⟨90, _⟩ => ⟨S_, .f32⟩
  | .hbm, ⟨91, _⟩ => ⟨S8192x8x32, .f32⟩
  | .hbm, ⟨92, _⟩ => ⟨S_, .f32⟩
  | .hbm, ⟨93, _⟩ => ⟨S8192x8x64, .f32⟩
  | .hbm, ⟨94, _⟩ => ⟨S8192x8x128, .f32⟩
  | .hbm, ⟨95, _⟩ => ⟨S8192x1024, .f32⟩
  | .hbm, ⟨96, _⟩ => ⟨S8192x1024, .bf16⟩
  | .hbm, ⟨97, _⟩ => ⟨S8192x8x128, .f32⟩
  | .hbm, ⟨98, _⟩ => ⟨S8192x1024, .f32⟩
  | .hbm, ⟨99, _⟩ => ⟨S8192x1024, .bf16⟩
  | .hbm, ⟨100, _⟩ => ⟨S8192x8x128, .f32⟩
  | .hbm, ⟨101, _⟩ => ⟨S8192x1024, .f32⟩
  | .hbm, ⟨102, _⟩ => ⟨S8192x1024, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2048x2048 : Shape := ⟨2, ![2048, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S8192x3072 : Shape := ⟨2, ![8192, 3072]⟩
abbrev S_ : Shape := ⟨0, ![]⟩
abbrev S8x128 : Shape := ⟨2, ![8, 128]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S_, .f32⟩
  | .hbm, ⟨5, _⟩ => ⟨S8x128, .f32⟩
  | .hbm, ⟨6, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S8x128 : Shape := ⟨2, ![8, 128]⟩
abbrev S256x1024 : Shape := ⟨2, ![256, 1024]⟩
abbrev S256x4096 : Shape := ⟨2, ![256, 4096]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1x256x1024 : Shape := ⟨3, ![1, 256, 1024]⟩
abbrev S1x1x1 : Shape := ⟨3, ![1, 1, 1]⟩

abbrev nBuf : Space → Nat
  | .hbm => 22
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S8192x1024, .f32⟩
  | .hbm, ⟨15, _⟩ => ⟨S8192x1024, .bf16⟩
  | .hbm, ⟨16, _⟩ => ⟨S8192x4096, .bf16⟩
  | .hbm, ⟨17, _⟩ => ⟨S8192x4096, .bf16⟩
  | .hbm, ⟨18, _⟩ => ⟨S8192x1024, .bf16⟩
  | .hbm, ⟨19, _⟩ => ⟨S8x128, .f32⟩
  | .hbm, ⟨20, _⟩ => ⟨S1x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S8x128, .f32⟩
  | .local _ .vmem, ⟨19, _⟩ => ⟨S1x1024, .f32⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | .local _ .vmem, ⟨23, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S8192x1024, .bf16⟩
  | .hbm, ⟨84, _⟩ => ⟨S8192x4096, .bf16⟩
  | .hbm, ⟨85, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Proof.Bits.Trip.lean ====
/- One trip of the loop over pairs of query tiles, and the loop. Before trip `k` the first two score buffers hold the
   products of the tile the trip begins with; the trip prepares its second tile in the other two buffers while the first
   is taken in, then prepares the next trip's first tile while the second is taken in. -/
module

public import proofs.«01_k».proof.Proof.Bits.Offsets
public import proofs.«01_k».proof.Proof.Bits.Tile

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop reads, the accumulator it updates, and the products prepared for query tile `r`. -/
def held (c : Dev nD)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (e : Env F) (a : Acc F) (r : ℕ) : sProp 𝕄 :=
  iprop(owns (c : Thread nD τ) arg2 fullShare e.q ∗ owns (c : Thread nD τ) arg6 fullShare e.o ∗ owns (c : Thread nD τ) arg7 fullShare e.lse ∗ owns (c : Thread nD τ) arg8 fullShare e.dl ∗ owns (c : Thread nD τ) arg12 fullShare a.dqt
    ∗ owns (c : Thread nD τ) arg13 fullShare (e.s r) ∗ owns (c : Thread nD τ) arg14 fullShare (e.p r) ∗ (∃ f, arg15.view.loc (c : Thread nD τ) ↦[arg15.view.set]{fullShare} f)
    ∗ (∃ f, arg16.view.loc (c : Thread nD τ) ↦[arg16.view.set]{fullShare} f))

set_option maxHeartbeats 1000000 in
/-- ONE TRIP takes in two tiles. -/
theorem trip (𝒱 : Variants) (c : Dev nD) (bd : Option 𝒱.V) (E : Set ℕ) (i : grid0.Coords)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (arg1 v0 : BitVec 32) (v10 : FVec F S1024x128 .f32) (c2_i32 v31 : BitVec 32)
    (e : Env F) (a : Acc F) (k : Fin (k0_t1_loop i).trips) :
    held c arg2 harg2 arg3 harg3 arg4 harg4 arg5 harg5 arg6 harg6 arg7 harg7 arg8 harg8 arg9 harg9 arg10 harg10 arg11 harg11 arg12 harg12 arg13 harg13 arg14 harg14 arg15 harg15 arg16 harg16 e a (rowsOf (i 1).val (2 * k.val))
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt v10 c2_i32 v31 k (a.dk, a.dv))
        (fun yld => iprop(⌜yld = ((e.full ((i 1).val + 1 + (2 * k.val + 1)) (e.full ((i 1).val + 1 + 2 * k.val) a)).dk,
            (e.full ((i 1).val + 1 + (2 * k.val + 1)) (e.full ((i 1).val + 1 + 2 * k.val) a)).dv)⌝
          ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e
              (e.full ((i 1).val + 1 + (2 * k.val + 1)) (e.full ((i 1).val + 1 + 2 * k.val) a)) (rowsOf (i 1).val (2 * (k.val + 1))))) := by
  have hk : k.val < (7 - (i 1).val) / 2 := lt_of_lt_of_eq k.isLt (t1_trips i)
  have hj := j_lt i
  have hr1 : rowsOf (i 1).val (2 * k.val) = (i 1).val + 1 + 2 * k.val := if_pos (by omega)
  rw [hr1]
  unfold k0_t1_body held owns
  iintro ⟨⟨%f2, %h2, H2⟩, ⟨%f6, %h6, H6⟩, ⟨%f7, %h7, H7⟩, ⟨%f8, %h8, H8⟩, ⟨%f12, %h12, H12⟩, ⟨%f13, %h13, H13⟩, ⟨%f14, %h14, H14⟩, ⟨%f15, H15⟩, ⟨%f16, H16⟩⟩
  sl_exec
  sl_step
  have q1 := read_rows arg2.view f2 (k0_off4_inb i k) ((i 1).val + 1 + 2 * k.val) (by omega) (off4_eq i k)
  have o1 := read_rows arg6.view f6 (k0_off4_inb i k) ((i 1).val + 1 + 2 * k.val) (by omega) (off4_eq i k)
  have l1 := read_lanes arg7.view f7 (k0_off3_inb i k) ((i 1).val + 1 + 2 * k.val) (by omega) (off3_eq i k)
  have d1 := read_lanes arg8.view f8 (k0_off3_inb i k) ((i 1).val + 1 + 2 * k.val) (by omega) (off3_eq i k)
  have c1 := read_top arg12.view f12 (k0_off5_inb i k) ((i 1).val + 1 + 2 * k.val) (by omega) (off5_eq i k)
  have i1 : ∀ x, k0_off2 i k 1#32 x + S1024x128.size x ≤ S8192x128.size x := k0_off2_inb i k 0
  have i2 : ∀ x, k0_off2 i k 2#32 x + S1024x128.size x ≤ S8192x128.size x := k0_off2_inb i k 1
  have q2 := read_rows arg2.view f2 i1 ((i 1).val + 1 + (2 * k.val + 1)) (by omega) ((off2_eq i k).trans (by congr 2; omega))
  have o2 := read_rows arg6.view f6 i1 ((i 1).val + 1 + (2 * k.val + 1)) (by omega) ((off2_eq i k).trans (by congr 2; omega))
  have l2 := read_lanes arg7.view f7 (k0_off6_inb i k) ((i 1).val + 1 + (2 * k.val + 1)) (by omega) ((off6_eq i k).trans (by congr 4; omega))
  have d2 := read_lanes arg8.view f8 (k0_off6_inb i k) ((i 1).val + 1 + (2 * k.val + 1)) (by omega) ((off6_eq i k).trans (by congr 4; omega))
  have c2 := read_top arg12.view f12 (k0_off7_inb i k) ((i 1).val + 1 + (2 * k.val + 1)) (by omega) ((off7_eq i k).trans (by congr 3; omega))
  have e3 : (if 2 * k.val + 2 < 7 - (i 1).val then (i 1).val + 3 + 2 * k.val else (i 1).val) = rowsOf (i 1).val (2 * (k.val + 1)) := by
    unfold rowsOf; split_ifs <;> omega
  have h3 : rowsOf (i 1).val (2 * (k.val + 1)) < 8 := by unfold rowsOf; split_ifs <;> omega
  have q3 := read_rows arg2.view f2 i2 (rowsOf (i 1).val (2 * (k.val + 1))) h3 ((off2_eq' i k).trans (by rw [e3]))
  have o3 := read_rows arg6.view f6 i2 (rowsOf (i 1).val (2 * (k.val + 1))) h3 ((off2_eq' i k).trans (by rw [e3]))
  rw [h2] at q1 q2 q3
  rw [h6] at o1 o2 o3
  rw [h7] at l1 l2
  rw [h8] at d1 d2
  rw [h12] at c1 c2
  have s1 : arg13.view.readAt (Elt F) (Rect.unit (s := S1024x1024) ![0, 0] S1024x1024.size inb_S1024x1024_S1024x1024_0_0).toLoadRect f13 = e.s ((i 1).val + 1 + 2 * k.val) :=
    (View.readAt_full _ _ _).trans h13
  have p1 : arg14.view.readAt (Elt F) (Rect.unit (s := S1024x1024) ![0, 0] S1024x1024.size inb_S1024x1024_S1024x1024_0_0).toLoadRect f14 = e.p ((i 1).val + 1 + 2 * k.val) :=
    (View.readAt_full _ _ _).trans h14
  have s2 : trip.sl.v175 c i arg2 arg15 e k f2 = e.s ((i 1).val + 1 + (2 * k.val + 1)) := by
    delta trip.sl.v175 trip.sl.H15_1
    rw [View.readCov_full]
    exact congrArg (k0_pay5 e.kk) q2
  have p2 : trip.sl.v192 c i arg6 arg16 e k f6 = e.p ((i 1).val + 1 + (2 * k.val + 1)) := by
    delta trip.sl.v192 trip.sl.H16_1
    rw [View.readCov_full]
    exact congrArg (k0_pay6 e.vv) o2
  have w2 : trip.sl.r_5 c i arg2 arg7 arg15 e k f2 f7
      = prob (e.s ((i 1).val + 1 + (2 * k.val + 1))) (laneTile e.lse ((i 1).val + 1 + (2 * k.val + 1))) :=
    congrArg₂ k0_pay18 s2 l2
  have k1 : trip.sl.r_3 c i arg2 arg7 arg8 arg13 arg14 a k f2 f7 f8 f13 f14 = (e.full ((i 1).val + 1 + 2 * k.val) a).dk := by
    unfold Env.full Env.take
    rw [← s1, ← l1, ← p1, ← d1, ← q1]
    rfl
  have t1 : k0_pay14 e.kt (trip.sl.r c arg13 f13) (trip.sl.r_1 c i arg7 k f7) k0_pay9
        (View.readAt (Elt F) arg14.view (Rect.unit (s := S1024x1024) ![0, 0] S1024x1024.size inb_S1024x1024_S1024x1024_0_0).toLoadRect f14)
        (View.readAt (Elt F) arg8.view (Rect.unit (s := S1x1x8192) (k0_off3 i k) S1x1x1024.size (k0_off3_inb i k)).toLoadRect f8)
        (View.readAt (Elt F) arg12.view (Rect.unit (s := S128x8192) (k0_off5 i k) S96x1024.size (k0_off5_inb i k)).toLoadRect f12)
      = accQuery e.kt (dScore (prob (e.s ((i 1).val + 1 + 2 * k.val)) (laneTile e.lse ((i 1).val + 1 + 2 * k.val)))
          (e.p ((i 1).val + 1 + 2 * k.val)) (laneTile e.dl ((i 1).val + 1 + 2 * k.val))) (colTop a.dqt ((i 1).val + 1 + 2 * k.val)) := by
    rw [← s1, ← l1, ← p1, ← d1, ← c1]
    rfl
  have c2' : trip.sl.v206 c i arg12 k f12 = colTop (e.full ((i 1).val + 1 + 2 * k.val) a).dqt ((i 1).val + 1 + (2 * k.val + 1)) :=
    c2.trans (colTop_putTop _ _ _ _ (by omega) (by omega) (by omega)).symm
  have t2 : k0_pay62 e.kt (trip.sl.r_5 c i arg2 arg7 arg15 e k f2 f7) (trip.sl.v192 c i arg6 arg16 e k f6)
        (View.readAt (Elt F) arg8.view (Rect.unit (s := S1x1x8192) (k0_off6 i k) S1x1x1024.size (k0_off6_inb i k)).toLoadRect f8) (trip.sl.v206 c i arg12 k f12)
      = accQuery e.kt (dScore (prob (e.s ((i 1).val + 1 + (2 * k.val + 1))) (laneTile e.lse ((i 1).val + 1 + (2 * k.val + 1))))
          (e.p ((i 1).val + 1 + (2 * k.val + 1))) (laneTile e.dl ((i 1).val + 1 + (2 * k.val + 1))))
          (colTop (e.full ((i 1).val + 1 + 2 * k.val) a).dqt ((i 1).val + 1 + (2 * k.val + 1))) := by
    rw [w2, p2, c2', d2]
    rfl
  have v2 : trip.sl.r_6 c i arg2 arg6 arg7 arg13 arg15 e a k f2 f6 f7 f13
      = (e.full ((i 1).val + 1 + (2 * k.val + 1)) (e.full ((i 1).val + 1 + 2 * k.val) a)).dv := by
    unfold Env.full Env.take
    rw [← w2, ← s1, ← l1, ← o1, ← o2]
    rfl
  isplitr
  · ipureintro
    refine Prod.ext ?_ v2
    show k0_pay61 _ _ _ _ _ = _
    rw [k1, w2, p2]
    exact congrArg₂ (k0_pay61 _ _ _) d2 q2
  isplitl [H2]
  · iexists _; isplitr
    · ipureintro; exact h2
    iexact H2
  isplitl [H6]
  · iexists _; isplitr
    · ipureintro; exact h6
    iexact H6
  isplitl [H7]
  · iexists _; isplitr
    · ipureintro; exact h7
    iexact H7
  isplitl [H8]
  · iexists _; isplitr
    · ipureintro; exact h8
    iexact H8
  isplitl [H12]
  · iexists _; isplitr; rotate_left
    · iexact H12
    · ipureintro
      rw [read_put_top _ _ _ _ _ ((i 1).val + 1 + (2 * k.val + 1)) (by omega) ((off7_eq i k).trans (by congr 3; omega)),
        read_put_top _ _ _ _ _ ((i 1).val + 1 + 2 * k.val) (by omega) (off5_eq i k), View.writes_nil, h12, t1, t2]
      rfl
  isplitl [H13]
  · iexists _; isplitr; rotate_left
    · iexact H13
    · ipureintro
      rw [View.read_writes_full]
      exact congrArg (outer e.kk) q3
  isplitl [H14]
  · iexists _; isplitr; rotate_left
    · iexact H14
    · ipureintro
      rw [View.read_writes_full]
      exact congrArg (outer e.vv) o3
  isplitl [H15]
  · iexists _
    iexact H15
  iexists _
  iexact H16

end Cert.Proof.Kernel
-- ==== Proof.Ideal.Offsets.lean ====
/- Where each access of the kernel's body lands. `j` is the key tile of the grid point, `t` the trip of the loop over
   pairs of query tiles: every offset is 1024 times a tile number, and the tile numbers are read here off the printed
   chains by evaluating them at every grid point and every trip. -/
module

public import proofs.«01_k».proof.Proof.Gen.KernelIdeal.Loops
public import Idealize.ShloMosaic.Lib.Exec
public import Idealize.ShloMosaic.Lib.Tactic
public import Idealize.ShloMosaic.Lib.Pipeline.Kit

@[expose] public section

noncomputable section

namespace Cert.Proof.KernelIdeal

open Cert.KernelIdeal Cert.KernelIdeal.Gen
open Idealize.ShloMosaic Idealize.ShloMosaic.TcCoe Idealize.ShloMosaic.Tactic

/-- The row tile that one trip prepares for the next trip, or for the diagonal. -/
theorem off2_eq : ∀ (i : grid0.Coords) (t : Fin (k0_t1_loop i).trips),
    k0_off2 i t 1#32 = ![1024 * ((i 1).val + 2 + 2 * t.val), 0] := by decide +kernel
instance (i : grid0.Coords) (t : Fin (k0_t1_loop i).trips) : ClosedOff (k0_off2 i t 1#32) := ⟨_, off2_eq i t⟩

theorem off2_eq' : ∀ (i : grid0.Coords) (t : Fin (k0_t1_loop i).trips),
    k0_off2 i t 2#32 = ![1024 * (if 2 * t.val + 2 < 7 - (i 1).val then (i 1).val + 3 + 2 * t.val else (i 1).val), 0] := by decide +kernel
instance (i : grid0.Coords) (t : Fin (k0_t1_loop i).trips) : ClosedOff (k0_off2 i t 2#32) := ⟨_, off2_eq' i t⟩

theorem off3_eq : ∀ (i : grid0.Coords) (t : Fin (k0_t1_loop i).trips),
    k0_off3 i t = ![0, 0, 1024 * ((i 1).val + 1 + 2 * t.val)] := by decide +kernel
instance (i : grid0.Coords) (t : Fin (k0_t1_loop i).trips) : ClosedOff (k0_off3 i t) := ⟨_, off3_eq i t⟩

theorem off4_eq : ∀ (i : grid0.Coords) (t : Fin (k0_t1_loop i).trips),
    k0_off4 i t = ![1024 * ((i 1).val + 1 + 2 * t.val), 0] := by decide +kernel
instance (i : grid0.Coords) (t : Fin (k0_t1_loop i).trips) : ClosedOff (k0_off4 i t) := ⟨_, off4_eq i t⟩

theorem off5_eq : ∀ (i : grid0.Coords) (t : Fin (k0_t1_loop i).trips),
    k0_off5 i t = ![0, 1024 * ((i 1).val + 1 + 2 * t.val)] := by decide +kernel
instance (i : grid0.Coords) (t : Fin (k0_t1_loop i).trips) : ClosedOff (k0_off5 i t) := ⟨_, off5_eq i t⟩

theorem off6_eq : ∀ (i : grid0.Coords) (t : Fin (k0_t1_loop i).trips),
    k0_off6 i t = ![0, 0, 1024 * ((i 1).val + 2 + 2 * t.val)] := by decide +kernel
instance (i : grid0.Coords) (t : Fin (k0_t1_loop i).trips) : ClosedOff (k0_off6 i t) := ⟨_, off6_eq i t⟩

theorem off7_eq : ∀ (i : grid0.Coords) (t : Fin (k0_t1_loop i).trips),
    k0_off7 i t = ![0, 1024 * ((i 1).val + 2 + 2 * t.val)] := by decide +kernel
instance (i : grid0.Coords) (t : Fin (k0_t1_loop i).trips) : ClosedOff (k0_off7 i t) := ⟨_, off7_eq i t⟩

theorem off15_eq : ∀ i : grid0.Coords, k0_cond2 i = 1#1 → k0_off15 i = ![0, 0, 7168] := by decide +kernel
instance (i : grid0.Coords) [h : Fact (k0_cond2 i = 1#1)] : ClosedOff (k0_off15 i) := ⟨_, off15_eq i h.out⟩

theorem off16_eq : ∀ i : grid0.Coords, k0_cond2 i = 1#1 → k0_off16 i = ![7168, 0] := by decide +kernel
instance (i : grid0.Coords) [h : Fact (k0_cond2 i = 1#1)] : ClosedOff (k0_off16 i) := ⟨_, off16_eq i h.out⟩

theorem off17_eq : ∀ i : grid0.Coords, k0_cond2 i = 1#1 → k0_off17 i = ![0, 7168] := by decide +kernel
instance (i : grid0.Coords) [h : Fact (k0_cond2 i = 1#1)] : ClosedOff (k0_off17 i) := ⟨_, off17_eq i h.out⟩

theorem off1_tile : ∀ i : grid0.Coords,
    k0_off1 i = ![1024 * (if 0 < 7 - (i 1).val then (i 1).val + 1 else (i 1).val), 0] := by decide +kernel
theorem off14_tile : ∀ i : grid0.Coords, k0_off14 i = ![1024 * (i 1).val, 0] := by decide +kernel
theorem off18_tile : ∀ i : grid0.Coords, k0_off18 i = ![0, 0, 1024 * (i 1).val] := by decide +kernel
theorem off19_tile : ∀ i : grid0.Coords, k0_off19 i = ![0, 1024 * (i 1).val] := by decide +kernel
theorem off20_tile : ∀ i : grid0.Coords, k0_off20 i = ![0, 0, 1024 * (i 1).val] := by decide +kernel
theorem off21_tile : ∀ i : grid0.Coords, k0_off21 i = ![1024 * (i 1).val, 0] := by decide +kernel
theorem off22_tile : ∀ i : grid0.Coords, k0_off22 i = ![0, 1024 * (i 1).val] := by decide +kernel

/-- The loop makes one trip per pair of full tiles above the diagonal; the second loop makes none. -/
theorem t1_trips : ∀ i : grid0.Coords, (k0_t1_loop i).trips = (7 - (i 1).val) / 2 := by decide +kernel
theorem t2_trips : ∀ i : grid0.Coords, (k0_t2_loop i).trips = 0 := by decide +kernel
theorem j_lt (i : grid0.Coords) : (i 1).val < 8 := (i 1).isLt
theorem cond2_iff : ∀ i : grid0.Coords, k0_cond2 i = 1#1 ↔ (7 - (i 1).val) % 2 = 1 := by decide +kernel
theorem cond3_iff : ∀ i : grid0.Coords, k0_cond3 i = 1#1 ↔ (i 1).val = 7 := by decide +kernel

end Cert.Proof.KernelIdeal
-- ==== Proof.Ideal.Tile.lean ====
/- The words the body is told in: what is done with one tile of scores. A tile pairs the 1024 keys of the grid point with
   1024 queries; keys run down, queries across. -/
module

public import proofs.«01_k».proof.Proof.Gen.KernelIdeal.Loops
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

/-- The products of every key row `a` of the grid point with every row of `b`. -/
def outer (a b : FVec F S1024x128 .bf16) : FVec F S1024x1024 .f32 :=
  shapeCast S1024x1024 (matmul dot_S1024x128_S1024x128_S1024x1024_1_1_0_0_n_n none a
    (shapeCast S1024x128 b shapeCasts_S1024x128_S1024x128) (constant S1024x1024 .f32 0x00000000#32)) shapeCasts_S1024x1024_S1024x1024

/-- The row of saved statistics of 1024 queries, repeated for every key. -/
def perQuery (l : FVec F S1x1x1024 .f32) : FVec F S1024x1024 .f32 :=
  broadcastTo S1024x1024 (shapeCast S1x1024 l shapeCasts_S1x1x1024_S1x1024) broadcasts_S1x1024_S1024x1024

/-- The probabilities of a tile from its products `s` and the saved log-sum-exp `l`. -/
def prob (s : FVec F S1024x1024 .f32) (l : FVec F S1x1x1024 .f32) : FVec F S1024x1024 .f32 :=
  exp2 (subf (mulf s (broadcast S1024x1024 (Named.named κ "scale2" 0x3E16C740#32)))
    (broadcastTo S1024x1024 (mulf (shapeCast S1x1024 l shapeCasts_S1x1x1024_S1x1024)
      (broadcast S1x1024 (Named.named κ "log2e" 0x3FB8AA3B#32))) broadcasts_S1x1024_S1024x1024))

/-- The probabilities of the tile on the diagonal: keys after the query have none. -/
def probDiag (s : FVec F S1024x1024 .f32) (l : FVec F S1x1x1024 .f32) : FVec F S1024x1024 .f32 :=
  select (cmpi .sle (iota .tc S1024x1024 32 [0] iota_S1024x1024_d0_w32) (iota .tc S1024x1024 32 [1] iota_S1024x1024_d1_w32))
    (prob s l) (broadcast S1024x1024 (Scalar.ofBits .f32 0x00000000#32))

/-- The gradient of the scores of a tile: probabilities, the products of v with the output's gradient, and delta. -/
def dScore (p dp : FVec F S1024x1024 .f32) (dl : FVec F S1x1x1024 .f32) : FVec F S1024x1024 .bf16 :=
  truncf .bf16 (mulf p (subf dp (perQuery dl))) bitsLt_bf16_f32

/-- A tile's part of the gradient of v or k, added to `acc`. -/
def accKey (acc : FVec F S1024x128 .f32) (w : FVec F S1024x1024 .bf16) (x : FVec F S1024x128 .bf16) : FVec F S1024x128 .f32 :=
  addf acc (matmul dot_S1024x1024_S1024x128_S1024x128_1_0_0_1_n_n none w (shapeCast S1024x128 x shapeCasts_S1024x128_S1024x128)
    (constant S1024x128 .f32 0x00000000#32))

/-- A tile's part of the gradient of q, transposed, added to `acc`. -/
def accQuery (kt : FVec F S96x1024 .bf16) (w : FVec F S1024x1024 .bf16) (acc : FVec F S96x1024 .f32) : FVec F S96x1024 .f32 :=
  shapeCast S96x1024 (addf acc (matmul dot_S96x1024_S1024x1024_S96x1024_1_0_0_1_n_n none kt w (constant S96x1024 .f32 0x00000000#32)))
    shapeCasts_S96x1024_S96x1024

/-! ## The tiles of the arrays a grid point holds whole -/

/-- Row tile `r` of an array of 8192 rows. -/
def rowTile {α : Type} (x : S8192x128.Idx → α) (r : ℕ) : S1024x128.Idx → α :=
  VecWindow.window (s := S8192x128) x ![1024 * (r % 8), 0] S1024x128.size (by
    have := Nat.mod_lt r (show 0 < 8 by decide)
    exact Fin.forall_fin_two.mpr ⟨show 1024 * (r % 8) + 1024 ≤ 8192 by omega, show 0 + 128 ≤ 128 by omega⟩)

/-- Lane tile `r` of a row of 8192 statistics. -/
def laneTile {α : Type} (x : S1x1x8192.Idx → α) (r : ℕ) : S1x1x1024.Idx → α :=
  VecWindow.window (s := S1x1x8192) x ![0, 0, 1024 * (r % 8)] S1x1x1024.size (by
    have := Nat.mod_lt r (show 0 < 8 by decide)
    exact Fin.forall_fin_succ.mpr ⟨show 0 + 1 ≤ 1 by omega, Fin.forall_fin_two.mpr
      ⟨show 0 + 1 ≤ 1 by omega, show 1024 * (r % 8) + 1024 ≤ 8192 by omega⟩⟩)

/-- The 96 upper rows of column tile `r` of the transposed gradient of q. -/
def colTop {α : Type} (x : S128x8192.Idx → α) (r : ℕ) : S96x1024.Idx → α :=
  VecWindow.window (s := S128x8192) x ![0, 1024 * (r % 8)] S96x1024.size (by
    have := Nat.mod_lt r (show 0 < 8 by decide)
    exact Fin.forall_fin_two.mpr ⟨show 0 + 96 ≤ 128 by omega, show 1024 * (r % 8) + 1024 ≤ 8192 by omega⟩)

/-- `x` with `w` over the 96 upper rows of its column tile `r`. -/
def putTop {α : Type} (x : S128x8192.Idx → α) (r : ℕ) (w : S96x1024.Idx → α) : S128x8192.Idx → α :=
  VecWindow.put (s := S128x8192) x ![0, 1024 * (r % 8)] S96x1024.size w

/-! ## The walk of a grid point over the query tiles -/

/-- What a grid point reads: its key tile, its value tile, its transposed keys, and the head's q, output gradient,
    log-sum-exp and delta. -/
structure Env (F : FTy → Type) where
  kk : FVec F S1024x128 .bf16
  vv : FVec F S1024x128 .bf16
  kt : FVec F S96x1024 .bf16
  q : FVec F S8192x128 .bf16
  o : FVec F S8192x128 .bf16
  lse : FVec F S1x1x8192 .f32
  dl : FVec F S1x1x8192 .f32

/-- What the walk carries: the transposed gradient of q, and the sums for k and v. -/
structure Acc (F : FTy → Type) where
  dqt : FVec F S128x8192 .f32
  dk : FVec F S1024x128 .f32
  dv : FVec F S1024x128 .f32

/-- The products of the keys with query tile `r`, and of the values with its output gradients. -/
def Env.s (e : Env F) (r : ℕ) : FVec F S1024x1024 .f32 := outer e.kk (rowTile e.q r)
def Env.p (e : Env F) (r : ℕ) : FVec F S1024x1024 .f32 := outer e.vv (rowTile e.o r)

/-- One tile, of probabilities `w`, taken into the sums. -/
def Env.take (e : Env F) (w : FVec F S1024x1024 .f32) (r : ℕ) (a : Acc F) : Acc F where
  dqt := putTop a.dqt r (accQuery e.kt (dScore w (e.p r) (laneTile e.dl r)) (colTop a.dqt r))
  dk := accKey a.dk (dScore w (e.p r) (laneTile e.dl r)) (rowTile e.q r)
  dv := accKey a.dv (truncf .bf16 w bitsLt_bf16_f32) (rowTile e.o r)

/-- A tile above the diagonal, and the tile on it. -/
def Env.full (e : Env F) (r : ℕ) (a : Acc F) : Acc F := e.take (prob (e.s r) (laneTile e.lse r)) r a
def Env.diag (e : Env F) (r : ℕ) (a : Acc F) : Acc F := e.take (probDiag (e.s r) (laneTile e.lse r)) r a

/-- The first `m` tiles above the diagonal of key tile `j`. -/
def Env.walk (e : Env F) (j : ℕ) (a : Acc F) : ℕ → Acc F
  | 0 => a
  | m + 1 => e.full (j + 1 + m) (e.walk j a m)

/-- The query tile of step `m` of the walk of key tile `j`. -/
def rowsOf (j m : ℕ) : ℕ := if m < 7 - j then j + 1 + m else j

/-! ## Loads and stores at a tile, of any contents -/

section Reads

variable {κ : Kind} {sp : Space} {t : EltTy} {Val : EltTy → Type}

theorem read_rows (v : View sig κ sp S8192x128 t) (f : v.ty.Contents Val) {off : Fin 2 → ℕ}
    (inb : ∀ a, off a + S1024x128.size a ≤ S8192x128.size a) (r : ℕ) (hr : r < 8) (h : off = ![1024 * r, 0]) :
    v.readAt Val (Rect.unit (s := S8192x128) off S1024x128.size inb).toLoadRect f = rowTile (v.read Val f) r :=
  View.readAt_unit v f inb (h.trans (by rw [Nat.mod_eq_of_lt hr])) _

theorem read_lanes (v : View sig κ sp S1x1x8192 t) (f : v.ty.Contents Val) {off : Fin 3 → ℕ}
    (inb : ∀ a, off a + S1x1x1024.size a ≤ S1x1x8192.size a) (r : ℕ) (hr : r < 8) (h : off = ![0, 0, 1024 * r]) :
    v.readAt Val (Rect.unit (s := S1x1x8192) off S1x1x1024.size inb).toLoadRect f = laneTile (v.read Val f) r :=
  View.readAt_unit v f inb (h.trans (by rw [Nat.mod_eq_of_lt hr])) _

theorem read_top (v : View sig κ sp S128x8192 t) (f : v.ty.Contents Val) {off : Fin 2 → ℕ}
    (inb : ∀ a, off a + S96x1024.size a ≤ S128x8192.size a) (r : ℕ) (hr : r < 8) (h : off = ![0, 1024 * r]) :
    v.readAt Val (Rect.unit (s := S128x8192) off S96x1024.size inb).toLoadRect f = colTop (v.read Val f) r :=
  View.readAt_unit v f inb (h.trans (by rw [Nat.mod_eq_of_lt hr])) _

theorem read_put_top (v : View sig κ sp S128x8192 t) (f : v.ty.Contents Val) {off : Fin 2 → ℕ}
    (inb : ∀ a, off a + S96x1024.size a ≤ S128x8192.size a) (w : (Rect.unit (s := S128x8192) off S96x1024.size inb).shape.Idx → Val t)
    (L : List (View.Piece Val S128x8192 t)) (r : ℕ) (hr : r < 8) (h : off = ![0, 1024 * r]) :
    v.read Val (v.writes Val f (⟨Rect.unit (s := S128x8192) off S96x1024.size inb, w⟩ :: L)) = putTop (v.read Val (v.writes Val f L)) r w :=
  View.read_writes_cons_put v f inb w L (h.trans (by rw [Nat.mod_eq_of_lt hr]))

/-- A column tile apart from the one just stored is what it was. -/
theorem colTop_putTop {α : Type} (x : S128x8192.Idx → α) (r r' : ℕ) (w : S96x1024.Idx → α) (hr : r < 8) (hr' : r' < 8) (h : r' ≠ r) :
    colTop (putTop x r w) r' = colTop x r' :=
  VecWindow.window_put_of_disjoint (s := S128x8192) x _ _ _ _ _ w (1 : Fin 2) (by
    show 1024 * (r' % 8) + 1024 ≤ 1024 * (r % 8) ∨ 1024 * (r % 8) + 1024 ≤ 1024 * (r' % 8)
    omega)

/-- The column tile just stored is the payload. -/
theorem colTop_putTop_same {α : Type} (x : S128x8192.Idx → α) (r : ℕ) (w : S96x1024.Idx → α) :
    colTop (putTop x r w) r = w :=
  VecWindow.window_put_same (s := S128x8192) x _ _ _ w

end Reads

end Cert.Proof.KernelIdeal
-- ==== Proof.Ideal.Trip.lean ====
/- One trip of the loop over pairs of query tiles, and the loop. Before trip `k` the first two score buffers hold the
   products of the tile the trip begins with; the trip prepares its second tile in the other two buffers while the first
   is taken in, then prepares the next trip's first tile while the second is taken in. -/
module

public import proofs.«01_k».proof.Proof.Ideal.Offsets
public import proofs.«01_k».proof.Proof.Ideal.Tile

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the loop reads, the accumulator it updates, and the products prepared for query tile `r`. -/
def held (c : Dev nD)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (e : Env F) (a : Acc F) (r : ℕ) : sProp 𝕄 :=
  iprop(owns (c : Thread nD τ) arg2 fullShare e.q ∗ owns (c : Thread nD τ) arg6 fullShare e.o ∗ owns (c : Thread nD τ) arg7 fullShare e.lse ∗ owns (c : Thread nD τ) arg8 fullShare e.dl ∗ owns (c : Thread nD τ) arg12 fullShare a.dqt
    ∗ owns (c : Thread nD τ) arg13 fullShare (e.s r) ∗ owns (c : Thread nD τ) arg14 fullShare (e.p r) ∗ (∃ f, arg15.view.loc (c : Thread nD τ) ↦[arg15.view.set]{fullShare} f)
    ∗ (∃ f, arg16.view.loc (c : Thread nD τ) ↦[arg16.view.set]{fullShare} f))

set_option maxHeartbeats 1000000 in
/-- ONE TRIP takes in two tiles. -/
theorem trip (𝒱 : Variants) (c : Dev nD) (bd : Option 𝒱.V) (E : Set ℕ) (i : grid0.Coords)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (arg1 v0 : BitVec 32) (v10 : FVec F S1024x128 .f32) (c2_i32 v31 : BitVec 32)
    (e : Env F) (a : Acc F) (k : Fin (k0_t1_loop i).trips) :
    held c arg2 harg2 arg3 harg3 arg4 harg4 arg5 harg5 arg6 harg6 arg7 harg7 arg8 harg8 arg9 harg9 arg10 harg10 arg11 harg11 arg12 harg12 arg13 harg13 arg14 harg14 arg15 harg15 arg16 harg16 e a (rowsOf (i 1).val (2 * k.val))
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt v10 c2_i32 v31 k (a.dk, a.dv))
        (fun yld => iprop(⌜yld = ((e.full ((i 1).val + 1 + (2 * k.val + 1)) (e.full ((i 1).val + 1 + 2 * k.val) a)).dk,
            (e.full ((i 1).val + 1 + (2 * k.val + 1)) (e.full ((i 1).val + 1 + 2 * k.val) a)).dv)⌝
          ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e
              (e.full ((i 1).val + 1 + (2 * k.val + 1)) (e.full ((i 1).val + 1 + 2 * k.val) a)) (rowsOf (i 1).val (2 * (k.val + 1))))) := by
  have hk : k.val < (7 - (i 1).val) / 2 := lt_of_lt_of_eq k.isLt (t1_trips i)
  have hj := j_lt i
  have hr1 : rowsOf (i 1).val (2 * k.val) = (i 1).val + 1 + 2 * k.val := if_pos (by omega)
  rw [hr1]
  unfold k0_t1_body held owns
  iintro ⟨⟨%f2, %h2, H2⟩, ⟨%f6, %h6, H6⟩, ⟨%f7, %h7, H7⟩, ⟨%f8, %h8, H8⟩, ⟨%f12, %h12, H12⟩, ⟨%f13, %h13, H13⟩, ⟨%f14, %h14, H14⟩, ⟨%f15, H15⟩, ⟨%f16, H16⟩⟩
  sl_exec
  sl_step
  have q1 := read_rows arg2.view f2 (k0_off4_inb i k) ((i 1).val + 1 + 2 * k.val) (by omega) (off4_eq i k)
  have o1 := read_rows arg6.view f6 (k0_off4_inb i k) ((i 1).val + 1 + 2 * k.val) (by omega) (off4_eq i k)
  have l1 := read_lanes arg7.view f7 (k0_off3_inb i k) ((i 1).val + 1 + 2 * k.val) (by omega) (off3_eq i k)
  have d1 := read_lanes arg8.view f8 (k0_off3_inb i k) ((i 1).val + 1 + 2 * k.val) (by omega) (off3_eq i k)
  have c1 := read_top arg12.view f12 (k0_off5_inb i k) ((i 1).val + 1 + 2 * k.val) (by omega) (off5_eq i k)
  have i1 : ∀ x, k0_off2 i k 1#32 x + S1024x128.size x ≤ S8192x128.size x := k0_off2_inb i k 0
  have i2 : ∀ x, k0_off2 i k 2#32 x + S1024x128.size x ≤ S8192x128.size x := k0_off2_inb i k 1
  have q2 := read_rows arg2.view f2 i1 ((i 1).val + 1 + (2 * k.val + 1)) (by omega) ((off2_eq i k).trans (by congr 2; omega))
  have o2 := read_rows arg6.view f6 i1 ((i 1).val + 1 + (2 * k.val + 1)) (by omega) ((off2_eq i k).trans (by congr 2; omega))
  have l2 := read_lanes arg7.view f7 (k0_off6_inb i k) ((i 1).val + 1 + (2 * k.val + 1)) (by omega) ((off6_eq i k).trans (by congr 4; omega))
  have d2 := read_lanes arg8.view f8 (k0_off6_inb i k) ((i 1).val + 1 + (2 * k.val + 1)) (by omega) ((off6_eq i k).trans (by congr 4; omega))
  have c2 := read_top arg12.view f12 (k0_off7_inb i k) ((i 1).val + 1 + (2 * k.val + 1)) (by omega) ((off7_eq i k).trans (by congr 3; omega))
  have e3 : (if 2 * k.val + 2 < 7 - (i 1).val then (i 1).val + 3 + 2 * k.val else (i 1).val) = rowsOf (i 1).val (2 * (k.val + 1)) := by
    unfold rowsOf; split_ifs <;> omega
  have h3 : rowsOf (i 1).val (2 * (k.val + 1)) < 8 := by unfold rowsOf; split_ifs <;> omega
  have q3 := read_rows arg2.view f2 i2 (rowsOf (i 1).val (2 * (k.val + 1))) h3 ((off2_eq' i k).trans (by rw [e3]))
  have o3 := read_rows arg6.view f6 i2 (rowsOf (i 1).val (2 * (k.val + 1))) h3 ((off2_eq' i k).trans (by rw [e3]))
  rw [h2] at q1 q2 q3
  rw [h6] at o1 o2 o3
  rw [h7] at l1 l2
  rw [h8] at d1 d2
  rw [h12] at c1 c2
  have s1 : arg13.view.readAt (Elt F) (Rect.unit (s := S1024x1024) ![0, 0] S1024x1024.size inb_S1024x1024_S1024x1024_0_0).toLoadRect f13 = e.s ((i 1).val + 1 + 2 * k.val) :=
    (View.readAt_full _ _ _).trans h13
  have p1 : arg14.view.readAt (Elt F) (Rect.unit (s := S1024x1024) ![0, 0] S1024x1024.size inb_S1024x1024_S1024x1024_0_0).toLoadRect f14 = e.p ((i 1).val + 1 + 2 * k.val) :=
    (View.readAt_full _ _ _).trans h14
  have s2 : trip.sl.v175 c i arg2 arg15 e k f2 = e.s ((i 1).val + 1 + (2 * k.val + 1)) := by
    delta trip.sl.v175 trip.sl.H15_1
    rw [View.readCov_full]
    exact congrArg (k0_pay5 e.kk) q2
  have p2 : trip.sl.v192 c i arg6 arg16 e k f6 = e.p ((i 1).val + 1 + (2 * k.val + 1)) := by
    delta trip.sl.v192 trip.sl.H16_1
    rw [View.readCov_full]
    exact congrArg (k0_pay6 e.vv) o2
  have w2 : trip.sl.r_2 c i arg2 arg7 arg15 e k f2 f7
      = prob (e.s ((i 1).val + 1 + (2 * k.val + 1))) (laneTile e.lse ((i 1).val + 1 + (2 * k.val + 1))) :=
    congrArg₂ k0_pay18 s2 l2
  have k1 : trip.sl.v136 c i arg2 arg7 arg8 arg13 arg14 a k f2 f7 f8 f13 f14 = (e.full ((i 1).val + 1 + 2 * k.val) a).dk := by
    unfold Env.full Env.take
    rw [← s1, ← l1, ← p1, ← d1, ← q1]
    rfl
  have v1 : trip.sl.v123 c i arg6 arg7 arg13 a k f6 f7 f13 = (e.full ((i 1).val + 1 + 2 * k.val) a).dv := by
    unfold Env.full Env.take
    rw [← s1, ← l1, ← o1]
    rfl
  have t1 : trip.sl.v144 c i arg7 arg8 arg12 arg13 arg14 e k f7 f8 f12 f13 f14
      = accQuery e.kt (dScore (prob (e.s ((i 1).val + 1 + 2 * k.val)) (laneTile e.lse ((i 1).val + 1 + 2 * k.val)))
          (e.p ((i 1).val + 1 + 2 * k.val)) (laneTile e.dl ((i 1).val + 1 + 2 * k.val))) (colTop a.dqt ((i 1).val + 1 + 2 * k.val)) := by
    rw [← s1, ← l1, ← p1, ← d1, ← c1]
    rfl
  have c2' : trip.sl.v206 c i arg12 k f12 = colTop (e.full ((i 1).val + 1 + 2 * k.val) a).dqt ((i 1).val + 1 + (2 * k.val + 1)) :=
    c2.trans (colTop_putTop _ _ _ _ (by omega) (by omega) (by omega)).symm
  have t2 : k0_pay62 e.kt (trip.sl.r_2 c i arg2 arg7 arg15 e k f2 f7) (trip.sl.v192 c i arg6 arg16 e k f6)
        (View.readAt (Elt F) arg8.view (Rect.unit (s := S1x1x8192) (k0_off6 i k) S1x1x1024.size (k0_off6_inb i k)).toLoadRect f8) (trip.sl.v206 c i arg12 k f12)
      = accQuery e.kt (dScore (prob (e.s ((i 1).val + 1 + (2 * k.val + 1))) (laneTile e.lse ((i 1).val + 1 + (2 * k.val + 1))))
          (e.p ((i 1).val + 1 + (2 * k.val + 1))) (laneTile e.dl ((i 1).val + 1 + (2 * k.val + 1))))
          (colTop (e.full ((i 1).val + 1 + 2 * k.val) a).dqt ((i 1).val + 1 + (2 * k.val + 1))) := by
    rw [w2, p2, c2', d2]
    rfl
  isplitr
  · ipureintro
    refine Prod.ext ?_ ?_
    · show k0_pay61 _ _ _ _ _ = _
      rw [k1, w2, p2]
      exact congrArg₂ (k0_pay61 _ _ _) d2 q2
    · show accKey (trip.sl.v123 c i arg6 arg7 arg13 a k f6 f7 f13) (truncf .bf16 (trip.sl.r_2 c i arg2 arg7 arg15 e k f2 f7) bitsLt_bf16_f32) _ = _
      rw [v1, w2]
      exact congrArg (accKey _ _) o2
  isplitl [H2]
  · iexists _; isplitr
    · ipureintro; exact h2
    iexact H2
  isplitl [H6]
  · iexists _; isplitr
    · ipureintro; exact h6
    iexact H6
  isplitl [H7]
  · iexists _; isplitr
    · ipureintro; exact h7
    iexact H7
  isplitl [H8]
  · iexists _; isplitr
    · ipureintro; exact h8
    iexact H8
  isplitl [H12]
  · iexists _; isplitr; rotate_left
    · iexact H12
    · ipureintro
      rw [read_put_top _ _ _ _ _ ((i 1).val + 1 + (2 * k.val + 1)) (by omega) ((off7_eq i k).trans (by congr 3; omega)),
        read_put_top _ _ _ _ _ ((i 1).val + 1 + 2 * k.val) (by omega) (off5_eq i k), View.writes_nil, h12, t1, t2]
      rfl
  isplitl [H13]
  · iexists _; isplitr; rotate_left
    · iexact H13
    · ipureintro
      rw [View.read_writes_full]
      exact congrArg (outer e.kk) q3
  isplitl [H14]
  · iexists _; isplitr; rotate_left
    · iexact H14
    · ipureintro
      rw [View.read_writes_full]
      exact congrArg (outer e.vv) o3
  isplitl [H15]
  · iexists _
    iexact H15
  iexists _
  iexact H16

end Cert.Proof.KernelIdeal
-- ==== Proof.Ideal.Loop.lean ====
/- The loop over pairs of query tiles, by what it holds before each trip; and the second printed loop, which makes no trip. -/
module

public import proofs.«01_k».proof.Proof.Ideal.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (E : Set ℕ) (i : grid0.Coords)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (arg1 v0 : BitVec 32) (v10 : FVec F S1024x128 .f32) (c2_i32 v31 v52 : BitVec 32)
    (e : Env F) (a : Acc F)

theorem loop1 :
    held c arg2 harg2 arg3 harg3 arg4 harg4 arg5 harg5 arg6 harg6 arg7 harg7 arg8 harg8 arg9 harg9 arg10 harg10 arg11 harg11 arg12 harg12 arg13 harg13 arg14 harg14 arg15 harg15 arg16 harg16 e a (rowsOf (i 1).val 0)
    ⊢ wp frame (wpE (defs₀ (F := F)) 𝒱 (c : Thread nD τ) bd) E
        (Scf.Loop.for (k0_t1_loop i) (k0_t1_ok i) (a.dk, a.dv) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt v10 c2_i32 v31))
        (fun r => iprop(⌜r = ((e.walk (i 1).val a (2 * ((7 - (i 1).val) / 2))).dk, (e.walk (i 1).val a (2 * ((7 - (i 1).val) / 2))).dv)⌝
          ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e (e.walk (i 1).val a (2 * ((7 - (i 1).val) / 2))) (rowsOf (i 1).val (2 * ((7 - (i 1).val) / 2))))) := by
  have hI : ∀ (k : Fin (k0_t1_loop i).trips) (acc : FVec F S1024x128 .f32 × FVec F S1024x128 .f32),
      iprop(⌜acc = ((e.walk (i 1).val a (2 * k.val)).dk, (e.walk (i 1).val a (2 * k.val)).dv)⌝
          ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e (e.walk (i 1).val a (2 * k.val)) (rowsOf (i 1).val (2 * k.val)))
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt v10 c2_i32 v31 k acc)
        (fun r => iprop(⌜r = ((e.walk (i 1).val a (2 * (k.val + 1))).dk, (e.walk (i 1).val a (2 * (k.val + 1))).dv)⌝
          ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e (e.walk (i 1).val a (2 * (k.val + 1))) (rowsOf (i 1).val (2 * (k.val + 1))))) := by
    intro k acc
    iintro ⟨%h, H⟩
    subst h
    iapply (trip 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 v10 c2_i32 v31 e (e.walk (i 1).val a (2 * k.val)) k)
    iexact H
  refine BIBase.Entails.trans ?_ (Scf.wp_for frame (wpE (defs₀ (F := F)) 𝒱 (c : Thread nD τ) bd) E (k0_t1_loop i).lb (k0_t1_loop i).ub (k0_t1_loop i).st (k0_t1_ok i)
    (a.dk, a.dv) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt v10 c2_i32 v31)
    (fun k acc => iprop(⌜acc = ((e.walk (i 1).val a (2 * k)).dk, (e.walk (i 1).val a (2 * k)).dv)⌝
          ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e (e.walk (i 1).val a (2 * k)) (rowsOf (i 1).val (2 * k)))) hI)
  iintro H
  isplitl [H]
  · isplitr
    · ipureintro; rfl
    iexact H
  · iintro %acc H
    rw [show Scf.trips (k0_t1_loop i).lb (k0_t1_loop i).ub (k0_t1_loop i).st = (7 - (i 1).val) / 2 from t1_trips i]
    iexact H

theorem loop2 (r : ℕ) :
    held c arg2 harg2 arg3 harg3 arg4 harg4 arg5 harg5 arg6 harg6 arg7 harg7 arg8 harg8 arg9 harg9 arg10 harg10 arg11 harg11 arg12 harg12 arg13 harg13 arg14 harg14 arg15 harg15 arg16 harg16 e a r
    ⊢ wp frame (wpE (defs₀ (F := F)) 𝒱 (c : Thread nD τ) bd) E
        (Scf.Loop.for (k0_t2_loop i) (k0_t2_ok i) (a.dk, a.dv) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt v10 c2_i32 v31 v52))
        (fun x => iprop(⌜x = (a.dk, a.dv)⌝ ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e a r)) := by
  refine BIBase.Entails.trans ?_ (Scf.wp_for frame (wpE (defs₀ (F := F)) 𝒱 (c : Thread nD τ) bd) E (k0_t2_loop i).lb (k0_t2_loop i).ub (k0_t2_loop i).st (k0_t2_ok i)
    (a.dk, a.dv) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt v10 c2_i32 v31 v52)
    (fun _ acc => iprop(⌜acc = (a.dk, a.dv)⌝ ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 e a r))
    (fun k => absurd (lt_of_lt_of_eq k.isLt (t2_trips i)) (Nat.not_lt_zero _)))
  iintro H
  isplitl [H]
  · isplitr
    · ipureintro; rfl
    iexact H
  · iintro %acc H
    iexact H

end Cert.Proof.KernelIdeal
-- ==== Proof.Ideal.Finish.lean ====
/- The walk of a grid point: the loop, then the tiles the loop leaves — the diagonal one, and before it tile 7 when the
   number of tiles above the diagonal is odd. -/
module

public import proofs.«01_k».proof.Proof.Ideal.Loop

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a grid point reads and the accumulator, whatever the score buffers hold. -/
def kept (c : Dev nD)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (e : Env F) (a : Acc F) : sProp 𝕄 :=
  iprop(owns (c : Thread nD τ) arg2 fullShare e.q ∗ owns (c : Thread nD τ) arg6 fullShare e.o ∗ owns (c : Thread nD τ) arg7 fullShare e.lse ∗ owns (c : Thread nD τ) arg8 fullShare e.dl ∗ owns (c : Thread nD τ) arg12 fullShare a.dqt
    ∗ (∃ f, arg13.view.loc (c : Thread nD τ) ↦[arg13.view.set]{fullShare} f) ∗ (∃ f, arg14.view.loc (c : Thread nD τ) ↦[arg14.view.set]{fullShare} f)
    ∗ (∃ f, arg15.view.loc (c : Thread nD τ) ↦[arg15.view.set]{fullShare} f) ∗ (∃ f, arg16.view.loc (c : Thread nD τ) ↦[arg16.view.set]{fullShare} f))

theorem of_pure {φ : Prop} {P Q : sProp 𝕄} (h : φ → (P ⊢ Q)) : iprop(⌜φ⌝ ∗ P) ⊢ Q := by
  iintro ⟨%hφ, H⟩
  iapply (h hφ)
  iexact H

variable (𝒱 : Variants) (c : Dev nD) (bd : Option 𝒱.V) (E : Set ℕ) (i : grid0.Coords)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (arg1 v0 : BitVec 32) (c2_i32 v31 : BitVec 32)
    (e : Env F) (d : FVec F S128x8192 .f32) (z : FVec F S1024x128 .f32)

set_option maxHeartbeats 1000000 in
theorem part12_even (hc : ¬ k0_cond2 i = 1#1) :
    held c arg2 harg2 arg3 harg3 arg4 harg4 arg5 harg5 arg6 harg6 arg7 harg7 arg8 harg8 arg9 harg9 arg10 harg10 arg11 harg11 arg12 harg12 arg13 harg13 arg14 harg14 arg15 harg15 arg16 harg16 e ⟨d, z, z⟩ (rowsOf (i 1).val 0)
    ⊢ wp frame (wpE (defs₀ (F := F)) 𝒱 (c : Thread nD τ) bd) E (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt z c2_i32 v31)
        (fun r => iprop(⌜r = ⟨(e.diag (i 1).val (e.walk (i 1).val ⟨d, z, z⟩ (7 - (i 1).val))).dv, k0_pay72 (e.diag (i 1).val (e.walk (i 1).val ⟨d, z, z⟩ (7 - (i 1).val))).dk⟩⌝
          ∗ kept c arg2 harg2 arg3 harg3 arg4 harg4 arg5 harg5 arg6 harg6 arg7 harg7 arg8 harg8 arg9 harg9 arg10 harg10 arg11 harg11 arg12 harg12 arg13 harg13 arg14 harg14 arg15 harg15 arg16 harg16 e (e.diag (i 1).val (e.walk (i 1).val ⟨d, z, z⟩ (7 - (i 1).val))))) := by
  have hj := j_lt i
  have hn : 2 * ((7 - (i 1).val) / 2) = 7 - (i 1).val := by
    have := mt (cond2_iff i).mpr hc
    omega
  rw [k0_part12_eq_skeleton]
  unfold k0_part12_skel
  rw [wp_bind]
  refine BIBase.Entails.trans (loop1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 z c2_i32 v31 e ⟨d, z, z⟩) (wp_mono _ _ _ fun r => of_pure fun hr => ?_)
  subst hr
  rw [wp_bind]
  refine BIBase.Entails.trans (loop2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 z c2_i32 v31 _ e _ _) (wp_mono _ _ _ fun r => of_pure fun hr => ?_)
  subst hr
  rw [hn, show rowsOf (i 1).val (7 - (i 1).val) = (i 1).val from if_neg (lt_irrefl _)]
  generalize e.walk (i 1).val ⟨d, z, z⟩ (7 - (i 1).val) = w
  unfold held kept owns
  iintro ⟨⟨%f2, %h2, H2⟩, ⟨%f6, %h6, H6⟩, ⟨%f7, %h7, H7⟩, ⟨%f8, %h8, H8⟩, ⟨%f12, %h12, H12⟩, ⟨%f13, %h13, H13⟩, ⟨%f14, %h14, H14⟩, ⟨%f15, H15⟩, ⟨%f16, H16⟩⟩
  sl_exec (disch := sl_exact hc)
  sl_step
  have l1 := read_lanes arg7.view f7 (k0_off20_inb i hc) (i 1).val hj (off20_tile i)
  have d1 := read_lanes arg8.view f8 (k0_off20_inb i hc) (i 1).val hj (off20_tile i)
  have q1 := read_rows arg2.view f2 (k0_off21_inb i hc) (i 1).val hj (off21_tile i)
  have o1 := read_rows arg6.view f6 (k0_off21_inb i hc) (i 1).val hj (off21_tile i)
  have c1 := read_top arg12.view f12 (k0_off22_inb i hc) (i 1).val hj (off22_tile i)
  rw [h2] at q1
  rw [h6] at o1
  rw [h7] at l1
  rw [h8] at d1
  rw [h12] at c1
  have s1 : arg13.view.readAt (Elt F) (Rect.unit (s := S1024x1024) ![0, 0] S1024x1024.size inb_S1024x1024_S1024x1024_0_0).toLoadRect f13 = e.s (i 1).val :=
    (View.readAt_full _ _ _).trans h13
  have p1 : arg14.view.readAt (Elt F) (Rect.unit (s := S1024x1024) ![0, 0] S1024x1024.size inb_S1024x1024_S1024x1024_0_0).toLoadRect f14 = e.p (i 1).val :=
    (View.readAt_full _ _ _).trans h14
  have k1 : part12_even.sl.r_2 c i arg2 arg7 arg8 arg13 arg14 hc w f2 f7 f8 f13 f14 = (e.diag (i 1).val w).dk := by
    unfold Env.diag Env.take
    rw [← s1, ← l1, ← p1, ← d1, ← q1]
    rfl
  have v1 : part12_even.sl.r c i arg6 arg7 arg13 hc w f6 f7 f13 = (e.diag (i 1).val w).dv := by
    unfold Env.diag Env.take
    rw [← s1, ← l1, ← o1]
    rfl
  have t1 : k0_pay71 e.kt (part12_even.sl.r_1 c i arg7 arg8 arg13 arg14 hc f7 f8 f13 f14)
        (View.readAt (Elt F) arg12.view (Rect.unit (s := S128x8192) (k0_off22 i) S96x1024.size (k0_off22_inb i hc)).toLoadRect f12)
      = accQuery e.kt (dScore (probDiag (e.s (i 1).val) (laneTile e.lse (i 1).val)) (e.p (i 1).val) (laneTile e.dl (i 1).val)) (colTop w.dqt (i 1).val) := by
    rw [← s1, ← l1, ← p1, ← d1, ← c1]
    rfl
  isplitr
  · ipureintro
    rw [k1, v1]
  isplitl [H2]
  · iexists _; isplitr
    · ipureintro; exact h2
    iexact H2
  isplitl [H6]
  · iexists _; isplitr
    · ipureintro; exact h6
    iexact H6
  isplitl [H7]
  · iexists _; isplitr
    · ipureintro; exact h7
    iexact H7
  isplitl [H8]
  · iexists _; isplitr
    · ipureintro; exact h8
    iexact H8
  isplitl [H12]
  · iexists _; isplitr; rotate_left
    · iexact H12
    · ipureintro
      rw [read_put_top _ _ _ _ _ (i 1).val hj (off22_tile i), View.writes_nil, h12, t1]
      rfl
  isplitl [H13]
  · iexists _
    iexact H13
  isplitl [H14]
  · iexists _
    iexact H14
  isplitl [H15]
  · iexists _
    iexact H15
  iexists _
  iexact H16

set_option maxHeartbeats 1000000 in
theorem part12_odd (hc : k0_cond2 i = 1#1) :
    held c arg2 harg2 arg3 harg3 arg4 harg4 arg5 harg5 arg6 harg6 arg7 harg7 arg8 harg8 arg9 harg9 arg10 harg10 arg11 harg11 arg12 harg12 arg13 harg13 arg14 harg14 arg15 harg15 arg16 harg16 e ⟨d, z, z⟩ (rowsOf (i 1).val 0)
    ⊢ wp frame (wpE (defs₀ (F := F)) 𝒱 (c : Thread nD τ) bd) E (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 e.kk e.vv e.kt z c2_i32 v31)
        (fun r => iprop(⌜r = ⟨(e.diag (i 1).val (e.walk (i 1).val ⟨d, z, z⟩ (7 - (i 1).val))).dv, k0_pay72 (e.diag (i 1).val (e.walk (i 1).val ⟨d, z, z⟩ (7 - (i 1).val))).dk⟩⌝
          ∗ kept c arg2 harg2 arg3 harg3 arg4 harg4 arg5 harg5 arg6 harg6 arg7 harg7 arg8 harg8 arg9 harg9 arg10 harg10 arg11 harg11 arg12 harg12 arg13 harg13 arg14 harg14 arg15 harg15 arg16 harg16 e (e.diag (i 1).val (e.walk (i 1).val ⟨d, z, z⟩ (7 - (i 1).val))))) := by
  have hj := j_lt i
  have ho := (cond2_iff i).mp hc
  have hn : 2 * ((7 - (i 1).val) / 2) = 6 - (i 1).val := by omega
  haveI : Fact (k0_cond2 i = 1#1) := ⟨hc⟩
  rw [k0_part12_eq_skeleton]
  unfold k0_part12_skel
  rw [wp_bind]
  refine BIBase.Entails.trans (loop1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 z c2_i32 v31 e ⟨d, z, z⟩) (wp_mono _ _ _ fun r => of_pure fun hr => ?_)
  subst hr
  rw [wp_bind]
  refine BIBase.Entails.trans (loop2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v0 z c2_i32 v31 _ e _ _) (wp_mono _ _ _ fun r => of_pure fun hr => ?_)
  subst hr
  rw [hn, show rowsOf (i 1).val (6 - (i 1).val) = 7 from (if_pos (by omega)).trans (by omega),
    show 7 - (i 1).val = (6 - (i 1).val) + 1 from by omega]
  rw [show e.walk (i 1).val ⟨d, z, z⟩ (6 - (i 1).val + 1) = e.full ((i 1).val + 1 + (6 - (i 1).val)) (e.walk (i 1).val ⟨d, z, z⟩ (6 - (i 1).val)) from rfl,
    show (i 1).val + 1 + (6 - (i 1).val) = 7 from by omega]
  generalize e.walk (i 1).val ⟨d, z, z⟩ (6 - (i 1).val) = w
  unfold held kept owns
  iintro ⟨⟨%f2, %h2, H2⟩, ⟨%f6, %h6, H6⟩, ⟨%f7, %h7, H7⟩, ⟨%f8, %h8, H8⟩, ⟨%f12, %h12, H12⟩, ⟨%f13, %h13, H13⟩, ⟨%f14, %h14, H14⟩, ⟨%f15, H15⟩, ⟨%f16, H16⟩⟩
  sl_exec (disch := sl_exact hc)
  sl_step
  have l1 := read_lanes arg7.view f7 (k0_off15_inb i hc) 7 (by omega) (off15_eq i hc)
  have d1 := read_lanes arg8.view f8 (k0_off15_inb i hc) 7 (by omega) (off15_eq i hc)
  have q1 := read_rows arg2.view f2 (k0_off16_inb i hc) 7 (by omega) (off16_eq i hc)
  have o1 := read_rows arg6.view f6 (k0_off16_inb i hc) 7 (by omega) (off16_eq i hc)
  have c1 := read_top arg12.view f12 (k0_off17_inb i hc) 7 (by omega) (off17_eq i hc)
  have l2 := read_lanes arg7.view f7 (k0_off18_inb i hc) (i 1).val hj (off18_tile i)
  have d2 := read_lanes arg8.view f8 (k0_off18_inb i hc) (i 1).val hj (off18_tile i)
  have q2 := read_rows arg2.view f2 (k0_off14_inb i hc) (i 1).val hj (off14_tile i)
  have o2 := read_rows arg6.view f6 (k0_off14_inb i hc) (i 1).val hj (off14_tile i)
  rw [h2] at q1 q2
  rw [h6] at o1 o2
  rw [h7] at l1 l2
  rw [h8] at d1 d2
  rw [h12] at c1
  have s1 : arg13.view.readAt (Elt F) (Rect.unit (s := S1024x1024) ![0, 0] S1024x1024.size inb_S1024x1024_S1024x1024_0_0).toLoadRect f13 = e.s 7 :=
    (View.readAt_full _ _ _).trans h13
  have p1 : arg14.view.readAt (Elt F) (Rect.unit (s := S1024x1024) ![0, 0] S1024x1024.size inb_S1024x1024_S1024x1024_0_0).toLoadRect f14 = e.p 7 :=
    (View.readAt_full _ _ _).trans h14
  have s2 : part12_odd.sl.r_3 c i arg2 arg15 e hc f2 = k0_pay42 (e.s (i 1).val) := by
    delta part12_odd.sl.r_3 part12_odd.sl.v149 part12_odd.sl.H15_1
    rw [View.readCov_full]
    exact congrArg (fun x => k0_pay42 (outer e.kk x)) q2
  have p2 : part12_odd.sl.v171 c i arg6 arg16 e hc f6 = e.p (i 1).val := by
    delta part12_odd.sl.v171 part12_odd.sl.H16_1
    rw [View.readCov_full]
    exact congrArg (fun x => outer e.vv x) o2
  have m2 : part12_odd.sl.r_4 c i arg7 hc f7 = k0_pay43 (laneTile e.lse (i 1).val) := congrArg k0_pay43 l2
  have k1 : part12_odd.sl.r_2 c i arg2 arg7 arg8 arg13 arg14 hc w f2 f7 f8 f13 f14 = (e.full 7 w).dk := by
    unfold Env.full Env.take
    rw [← s1, ← l1, ← p1, ← d1, ← q1]
    rfl
  have v1 : part12_odd.sl.r_1 c i arg6 arg7 arg13 hc w f6 f7 f13 = (e.full 7 w).dv := by
    unfold Env.full Env.take
    rw [← s1, ← l1, ← o1]
    rfl
  have w1 : arg12.view.read (Elt F) (arg12.view.writes (Elt F) f12 (part12_odd.sl.H12_1 c i arg7 arg8 arg12 arg13 arg14 e hc f7 f8 f12 f13 f14))
      = (e.full 7 w).dqt := by
    delta part12_odd.sl.H12_1
    rw [read_put_top _ _ _ _ _ 7 (by omega) (off17_eq i hc), View.writes_nil, h12]
    unfold Env.full Env.take
    rw [← s1, ← l1, ← p1, ← d1, ← c1]
    rfl
  have c2 := read_top arg12.view (arg12.view.writes (Elt F) f12 (part12_odd.sl.H12_1 c i arg7 arg8 arg12 arg13 arg14 e hc f7 f8 f12 f13 f14))
    (k0_off19_inb i hc) (i 1).val hj (off19_tile i)
  rw [w1] at c2
  isplitr
  · ipureintro
    rw [s2, p2, m2, k1, v1]
    unfold Env.diag Env.take
    rw [← d2, ← q2, ← o2]
    rfl
  isplitl [H2]
  · iexists _; isplitr
    · ipureintro; exact h2
    iexact H2
  isplitl [H6]
  · iexists _; isplitr
    · ipureintro; exact h6
    iexact H6
  isplitl [H7]
  · iexists _; isplitr
    · ipureintro; exact h7
    iexact H7
  isplitl [H8]
  · iexists _; isplitr
    · ipureintro; exact h8
    iexact H8
  isplitl [H12]
  · iexists _; isplitr; rotate_left
    · iexact H12
    · ipureintro
      rw [read_put_top _ _ _ _ _ (i 1).val hj (off19_tile i), w1, s2, p2, m2, c2, d2]
      rfl
  isplitl [H13]
  · iexists _
    iexact H13
  isplitl [H14]
  · iexists _
    iexact H14
  isplitl [H15]
  · iexists _
    iexact H15
  iexists _
  iexact H16

end Cert.Proof.KernelIdeal
-- ==== Proof.Ideal.Start.lean ====
/- The start of a grid point: the first of a head clears the gradient of q; then the tiles are loaded and the first
   query tile's products prepared. -/
module

public import proofs.«01_k».proof.Proof.Ideal.Finish

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The 96 upper rows of a tile of transposed keys. -/
def topRows {α : Type} (x : S128x1024.Idx → α) : S96x1024.Idx → α :=
  VecWindow.window (s := S128x1024) x ![0, 0] S96x1024.size
    (Fin.forall_fin_two.mpr ⟨show 0 + 96 ≤ 128 by omega, show 0 + 1024 ≤ 1024 by omega⟩)

/-- What a grid point reads, from its windows' blocks. -/
def envOf (x2 : FVec F S8192x128 .bf16) (x3 x4 : FVec F S1024x128 .bf16) (x5 : FVec F S128x1024 .bf16) (x6 : FVec F S8192x128 .bf16)
    (x7 x8 : FVec F S1x1x8192 .f32) : Env F :=
  ⟨k0_pay54 x3, k0_pay55 x4, k0_pay56 (topRows x5), x2, x6, x7, x8⟩

/-- The gradient of q at the start of key tile `j`: cleared at the first. -/
def startQuery (j : ℕ) (d : FVec F S128x8192 .f32) : FVec F S128x8192 .f32 := if j = 0 then k0_pay53 else d

theorem first_iff : ∀ i : grid0.Coords, (Scalar.cmpi .ne (Scalar.extui (Scalar.cmpi .eq (BitVec.ofNat 32 (i 1).val) 0#32) : BitVec 32) 0#32 = 1#1) ↔ (i 1).val = 0 := by
  decide +kernel

variable (𝒱 : Variants) (c : Dev nD) (bd : Option 𝒱.V) (E : Set ℕ) (i : grid0.Coords)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (x2 : FVec F S8192x128 .bf16) (x3 x4 : FVec F S1024x128 .bf16) (x5 : FVec F S128x1024 .bf16) (x6 : FVec F S8192x128 .bf16)
    (x7 x8 : FVec F S1x1x8192 .f32) (d : FVec F S128x8192 .f32)

/-- What the start leaves. -/
def started : sProp 𝕄 :=
  iprop(owns (c : Thread nD τ) arg3 fullShare x3 ∗ owns (c : Thread nD τ) arg4 fullShare x4 ∗ owns (c : Thread nD τ) arg5 fullShare x5
    ∗ held c arg2 harg2 arg3 harg3 arg4 harg4 arg5 harg5 arg6 harg6 arg7 harg7 arg8 harg8 arg9 harg9 arg10 harg10 arg11 harg11 arg12 harg12 arg13 harg13 arg14 harg14 arg15 harg15 arg16 harg16 (envOf x2 x3 x4 x5 x6 x7 x8) ⟨startQuery (i 1).val d, k0_pay57, k0_pay57⟩ (rowsOf (i 1).val 0))

set_option maxHeartbeats 1000000 in
theorem part11 :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg12 fullShare d
      ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))
    ⊢ wp frame (wpE (defs₀ (F := F)) 𝒱 (c : Thread nD τ) bd) E (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun r => iprop(⌜r = ⟨BitVec.ofNat 32 (i 1).val, Scalar.subi 7#32 (BitVec.ofNat 32 (i 1).val), k0_pay54 x3, k0_pay55 x4, k0_pay56 (topRows x5), k0_pay57, 2#32,
            Scalar.divsi (Scalar.subi 7#32 (BitVec.ofNat 32 (i 1).val)) 2#32⟩⌝
          ∗ started c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d)) := by
  have hj := j_lt i
  rw [k0_part11_eq_skeleton]
  unfold k0_part11_skel started held owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f12, %h12, H12⟩, ⟨%f13, H13⟩, ⟨%f14, H14⟩, ⟨%f15, H15⟩, ⟨%f16, H16⟩⟩
  have q1 := read_rows arg2.view f2 (k0_off1_inb i) (rowsOf (i 1).val 0) (by unfold rowsOf; split_ifs <;> omega) (off1_tile i)
  have o1 := read_rows arg6.view f6 (k0_off1_inb i) (rowsOf (i 1).val 0) (by unfold rowsOf; split_ifs <;> omega) (off1_tile i)
  have a1 : arg3.view.readAt (Elt F) (Rect.unit (s := S1024x128) ![0, 0] S1024x128.size inb_S1024x128_S1024x128_0_0).toLoadRect f3 = x3 :=
    (View.readAt_full _ _ _).trans h3
  have a2 : arg4.view.readAt (Elt F) (Rect.unit (s := S1024x128) ![0, 0] S1024x128.size inb_S1024x128_S1024x128_0_0).toLoadRect f4 = x4 :=
    (View.readAt_full _ _ _).trans h4
  have a3 : arg5.view.readAt (Elt F) (Rect.unit (s := S128x1024) ![0, 0] S96x1024.size inb_S128x1024_S96x1024_0_0).toLoadRect f5 = topRows x5 :=
    (View.readAt_unit _ _ _ rfl _).trans (congrArg topRows h5)
  rw [h2] at q1
  rw [h6] at o1
  by_cases h0 : (i 1).val = 0
  · have hc := (first_iff i).mpr h0
    sl_exec (disch := sl_exact hc)
    sl_step
    isplitr
    · ipureintro; rfl
    isplitl [H3]
    · iexists _; isplitr
      · ipureintro; exact h3
      iexact H3
    isplitl [H4]
    · iexists _; isplitr
      · ipureintro; exact h4
      iexact H4
    isplitl [H5]
    · iexists _; isplitr
      · ipureintro; exact h5
      iexact H5
    isplitl [H2]
    · iexists _; isplitr
      · ipureintro; exact h2
      iexact H2
    isplitl [H6]
    · iexists _; isplitr
      · ipureintro; exact h6
      iexact H6
    isplitl [H7]
    · iexists _; isplitr
      · ipureintro; exact h7
      iexact H7
    isplitl [H8]
    · iexists _; isplitr
      · ipureintro; exact h8
      iexact H8
    isplitl [H12]
    · iexists _; isplitr; rotate_left
      · iexact H12
      · ipureintro
        rw [View.read_writes_full]
        exact (if_pos h0).symm
    isplitl [H13]
    · iexists _; isplitr; rotate_left
      · iexact H13
      · ipureintro
        rw [View.read_writes_full]
        rfl
    isplitl [H14]
    · iexists _; isplitr; rotate_left
      · iexact H14
      · ipureintro
        rw [View.read_writes_full]
        rfl
    isplitl [H15]
    · iexists _
      iexact H15
    iexists _
    iexact H16
  · have hc := mt (first_iff i).mp h0
    sl_exec (disch := sl_exact hc)
    sl_step
    isplitr
    · ipureintro; rfl
    isplitl [H3]
    · iexists _; isplitr
      · ipureintro; exact h3
      iexact H3
    isplitl [H4]
    · iexists _; isplitr
      · ipureintro; exact h4
      iexact H4
    isplitl [H5]
    · iexists _; isplitr
      · ipureintro; exact h5
      iexact H5
    isplitl [H2]
    · iexists _; isplitr
      · ipureintro; exact h2
      iexact H2
    isplitl [H6]
    · iexists _; isplitr
      · ipureintro; exact h6
      iexact H6
    isplitl [H7]
    · iexists _; isplitr
      · ipureintro; exact h7
      iexact H7
    isplitl [H8]
    · iexists _; isplitr
      · ipureintro; exact h8
      iexact H8
    isplitl [H12]
    · iexists _; isplitr; rotate_left
      · iexact H12
      · ipureintro
        exact h12.trans (if_neg h0).symm
    isplitl [H13]
    · iexists _; isplitr; rotate_left
      · iexact H13
      · ipureintro
        rw [View.read_writes_full]
        rfl
    isplitl [H14]
    · iexists _; isplitr; rotate_left
      · iexact H14
      · ipureintro
        rw [View.read_writes_full]
        rfl
    isplitl [H15]
    · iexists _
      iexact H15
    iexists _
    iexact H16

end Cert.Proof.KernelIdeal
-- ==== Proof.Ideal.Body.lean ====
/- A grid point, whole: what it leaves in its windows and in the gradient of q that a head's points share. -/
module

public import proofs.«01_k».proof.Proof.Ideal.Start

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Both gradients and the sum after the walk of key tile `j`, from `d` in the transposed gradient of q. -/
def Env.point (e : Env F) (j : ℕ) (d : FVec F S128x8192 .f32) : Acc F :=
  e.diag j (e.walk j ⟨startQuery j d, k0_pay57, k0_pay57⟩ (7 - j))

variable (𝒱 : Variants) (c : Dev nD) (bd : Option 𝒱.V) (E : Set ℕ) (i : grid0.Coords)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (x2 : FVec F S8192x128 .bf16) (x3 x4 : FVec F S1024x128 .bf16) (x5 : FVec F S128x1024 .bf16) (x6 : FVec F S8192x128 .bf16)
    (x7 x8 : FVec F S1x1x8192 .f32) (d : FVec F S128x8192 .f32)

/-- What the blocks and scratch hold when a grid point begins, -/
def entry : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg12 fullShare d
      ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f))

/-- and when its walk is done. -/
def walked : sProp 𝕄 :=
  iprop(owns (c : Thread nD τ) arg3 fullShare x3 ∗ owns (c : Thread nD τ) arg4 fullShare x4 ∗ owns (c : Thread nD τ) arg5 fullShare x5
    ∗ kept c arg2 harg2 arg3 harg3 arg4 harg4 arg5 harg5 arg6 harg6 arg7 harg7 arg8 harg8 arg9 harg9 arg10 harg10 arg11 harg11 arg12 harg12 arg13 harg13 arg14 harg14 arg15 harg15 arg16 harg16 (envOf x2 x3 x4 x5 x6 x7 x8) ((envOf x2 x3 x4 x5 x6 x7 x8).point (i 1).val d))

theorem part12 :
    held c arg2 harg2 arg3 harg3 arg4 harg4 arg5 harg5 arg6 harg6 arg7 harg7 arg8 harg8 arg9 harg9 arg10 harg10 arg11 harg11 arg12 harg12 arg13 harg13 arg14 harg14 arg15 harg15 arg16 harg16 (envOf x2 x3 x4 x5 x6 x7 x8) ⟨startQuery (i 1).val d, k0_pay57, k0_pay57⟩ (rowsOf (i 1).val 0)
    ⊢ wp frame (wpE (defs₀ (F := F)) 𝒱 (c : Thread nD τ) bd) E (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val)
          (Scalar.subi 7#32 (BitVec.ofNat 32 (i 1).val)) (k0_pay54 x3) (k0_pay55 x4) (k0_pay56 (topRows x5)) k0_pay57 2#32
          (Scalar.divsi (Scalar.subi 7#32 (BitVec.ofNat 32 (i 1).val)) 2#32))
        (fun r => iprop(⌜r = ⟨((envOf x2 x3 x4 x5 x6 x7 x8).point (i 1).val d).dv, k0_pay72 ((envOf x2 x3 x4 x5 x6 x7 x8).point (i 1).val d).dk⟩⌝
          ∗ kept c arg2 harg2 arg3 harg3 arg4 harg4 arg5 harg5 arg6 harg6 arg7 harg7 arg8 harg8 arg9 harg9 arg10 harg10 arg11 harg11 arg12 harg12 arg13 harg13 arg14 harg14 arg15 harg15 arg16 harg16 (envOf x2 x3 x4 x5 x6 x7 x8) ((envOf x2 x3 x4 x5 x6 x7 x8).point (i 1).val d))) := by
  by_cases hc : k0_cond2 i = 1#1
  · exact part12_odd 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (envOf x2 x3 x4 x5 x6 x7 x8) _ _ hc
  · exact part12_even 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (envOf x2 x3 x4 x5 x6 x7 x8) _ _ hc

/-- A part that returns `a` for certain, then what follows it, with `R` kept through the part. -/
theorem seq_pure {α β : Type} {p : Prog (TpuEff nD τ sig (Elt F) Λ₀ .tc) α} {k : α → Prog (TpuEff nD τ sig (Elt F) Λ₀ .tc) β}
    {𝒱 : Variants} {c : Dev nD} {bd : Option 𝒱.V} {E : Set ℕ} {P R P' : sProp 𝕄} {Q : β → sProp 𝕄} {a : α}
    (hp : P ⊢ wp frame (wpE (defs₀ (F := F)) 𝒱 (c : Thread nD τ) bd) E p (fun r => iprop(⌜r = a⌝ ∗ P')))
    (hk : iprop(P' ∗ R) ⊢ wp frame (wpE (defs₀ (F := F)) 𝒱 (c : Thread nD τ) bd) E (k a) Q) :
    iprop(P ∗ R) ⊢ wp frame (wpE (defs₀ (F := F)) 𝒱 (c : Thread nD τ) bd) E (p >>= k) Q := by
  rw [wp_bind]
  iintro ⟨HP, HR⟩
  iapply (wp_wand_r frame (wpE (defs₀ (F := F)) 𝒱 (c : Thread nD τ) bd) (E := E) (p := p) (Q := fun r => iprop(⌜r = a⌝ ∗ P')))
  isplitl [HP]
  · iapply hp
    iexact HP
  · iintro %r ⟨%hr, HP'⟩
    subst hr
    iapply hk
    isplitl [HP']
    · iexact HP'
    iexact HR

/-- The body is the walk, then what follows it. -/
theorem walk_then (R : sProp 𝕄) (Q : PUnit → sProp 𝕄)
    {kk : (Σ' (v68_1 : FVec F S1024x128 .f32), FVec F S1024x128 .bf16) → Prog (TpuEff nD τ sig (Elt F) Λ₀ .tc) PUnit}
    (h : iprop(walked c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d ∗ R)
      ⊢ wp frame (wpE (defs₀ (F := F)) 𝒱 (c : Thread nD τ) bd) E
          (kk ⟨((envOf x2 x3 x4 x5 x6 x7 x8).point (i 1).val d).dv, k0_pay72 ((envOf x2 x3 x4 x5 x6 x7 x8).point (i 1).val d).dk⟩) Q) :
    iprop(entry c arg2 arg3 arg4 arg5 arg6 arg7 arg8 arg12 arg13 arg14 arg15 arg16 x2 x3 x4 x5 x6 x7 x8 d ∗ R)
    ⊢ wp frame (wpE (defs₀ (F := F)) 𝒱 (c : Thread nD τ) bd) E
        (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun r => k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 r.1 r.2.1 r.2.2.1 r.2.2.2.1 r.2.2.2.2.1 r.2.2.2.2.2.1 r.2.2.2.2.2.2.1 r.2.2.2.2.2.2.2 >>= kk) Q := by
  refine seq_pure (part11 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d) ?_
  refine BIBase.Entails.trans (Q := iprop(held c arg2 harg2 arg3 harg3 arg4 harg4 arg5 harg5 arg6 harg6 arg7 harg7 arg8 harg8 arg9 harg9 arg10 harg10 arg11 harg11 arg12 harg12 arg13 harg13 arg14 harg14 arg15 harg15 arg16 harg16 (envOf x2 x3 x4 x5 x6 x7 x8) ⟨startQuery (i 1).val d, k0_pay57, k0_pay57⟩ (rowsOf (i 1).val 0)
      ∗ (owns (c : Thread nD τ) arg3 fullShare x3 ∗ owns (c : Thread nD τ) arg4 fullShare x4 ∗ owns (c : Thread nD τ) arg5 fullShare x5 ∗ R))) ?_ ?_
  · unfold started
    iintro ⟨⟨H3, H4, H5, HH⟩, HR⟩
    isplitl [HH]; · iexact HH
    isplitl [H3]; · iexact H3
    isplitl [H4]; · iexact H4
    isplitl [H5]; · iexact H5
    iexact HR
  refine seq_pure (part12 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d) ?_
  refine BIBase.Entails.trans ?_ h
  unfold walked
  iintro ⟨HH, H3, H4, H5, HR⟩
  isplitl [HH H3 H4 H5]
  · isplitl [H3]; · iexact H3
    isplitl [H4]; · iexact H4
    isplitl [H5]; · iexact H5
    iexact HH
  iexact HR

set_option maxHeartbeats 1000000 in
/-- A grid point that is not a head's last leaves the gradients of its keys and values. -/
theorem point_mid (hc : ¬ k0_cond3 i = 1#1) :
    iprop(entry c arg2 arg3 arg4 arg5 arg6 arg7 arg8 arg12 arg13 arg14 arg15 arg16 x2 x3 x4 x5 x6 x7 x8 d ∗ (∃ y, owns (c : Thread nD τ) arg10 fullShare y) ∗ (∃ y, owns (c : Thread nD τ) arg11 fullShare y))
    ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(walked c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d
          ∗ owns (c : Thread nD τ) arg10 fullShare (k0_pay72 ((envOf x2 x3 x4 x5 x6 x7 x8).point (i 1).val d).dk)
          ∗ owns (c : Thread nD τ) arg11 fullShare (k0_pay1 ((envOf x2 x3 x4 x5 x6 x7 x8).point (i 1).val d).dv))) := by
  rw [cc0_attn_bwd_eq_skeleton]
  unfold cc0_attn_bwd_skel
  refine walk_then 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d _ _ ?_
  unfold owns
  iintro ⟨HW, ⟨%y10, %f10, %h10, H10⟩, ⟨%y11, %f11, %h11, H11⟩⟩
  sl_exec (disch := sl_exact hc)
  sl_step
  isplitl [HW]
  · iexact HW
  isplitl [H10]
  · iexists _; isplitr; rotate_left
    · iexact H10
    · ipureintro
      rw [View.read_writes_full]
  · iexists _; isplitr; rotate_left
    · iexact H11
    · ipureintro
      rw [View.read_writes_full]

end Cert.Proof.KernelIdeal
-- ==== Proof.Ideal.Last.lean ====
/- The last grid point of a head: the gradient of q is scaled, turned and stored, eight row tiles. -/
module

public import proofs.«01_k».proof.Proof.Ideal.Body

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Column tile `r` of the transposed gradient of q, all 128 rows of it. -/
def colTile {α : Type} (x : S128x8192.Idx → α) (r : ℕ) : S128x1024.Idx → α :=
  VecWindow.window (s := S128x8192) x ![0, 1024 * (r % 8)] S128x1024.size (by
    have := Nat.mod_lt r (show 0 < 8 by decide)
    exact Fin.forall_fin_two.mpr ⟨show 0 + 128 ≤ 128 by omega, show 1024 * (r % 8) + 1024 ≤ 8192 by omega⟩)

/-- Entry `y` of the gradient of q from the transposed one: of row tile `y 0 / 1024`, at its own row there. -/
def queryOut (D : FVec F S128x8192 .f32) : FVec F S8192x128 .bf16 := fun y =>
  k0_pay48 (colTile D ((y 0).val / 1024)) (show S1024x128.Idx from
    Fin.cons ⟨(y 0).val % 1024, Nat.mod_lt _ (by decide)⟩ (Fin.cons ⟨(y 1).val, (y 1).isLt⟩ finZeroElim))

/-- The first `m` row tiles stored over `x`. -/
def rowPuts (D : FVec F S128x8192 .f32) (x : FVec F S8192x128 .bf16) : ℕ → FVec F S8192x128 .bf16
  | 0 => x
  | m + 1 => VecWindow.put (s := S8192x128) (rowPuts D x m) ![1024 * m, 0] S1024x128.size (k0_pay48 (colTile D m))

theorem rowPuts_apply (D : FVec F S128x8192 .f32) (x : FVec F S8192x128 .bf16) (y : S8192x128.Idx) :
    ∀ m, (y 0).val < 1024 * m → rowPuts D x m y = queryOut D y
  | 0, h => absurd h (by omega)
  | m + 1, h => by
    have h1 : (y 1).val < 128 := (y 1).isLt
    by_cases hm : 1024 * m ≤ (y 0).val
    · have hin : ∀ a, (![1024 * m, 0] : Fin 2 → ℕ) a ≤ (y a).val ∧ (y a).val < (![1024 * m, 0] : Fin 2 → ℕ) a + S1024x128.size a :=
        Fin.forall_fin_two.mpr ⟨⟨hm, show (y 0).val < 1024 * m + 1024 by omega⟩, ⟨Nat.zero_le _, show (y 1).val < 0 + 128 by omega⟩⟩
      have e : (y 0).val / 1024 = m := by omega
      refine (dif_pos hin).trans ?_
      unfold queryOut
      rw [e]
      refine congrArg (k0_pay48 (colTile D m)) (funext (Fin.forall_fin_two.mpr ⟨Fin.ext ?_, Fin.ext ?_⟩))
      · show (y 0).val - 1024 * m = (y 0).val % 1024
        omega
      · show (y 1).val - 0 = (y 1).val
        omega
    · have hin : ¬ ∀ a, (![1024 * m, 0] : Fin 2 → ℕ) a ≤ (y a).val ∧ (y a).val < (![1024 * m, 0] : Fin 2 → ℕ) a + S1024x128.size a :=
        fun h => hm (h 0).1
      exact (dif_neg hin).trans (rowPuts_apply D x y m (by omega))

/-- Eight row tiles are the whole array. -/
theorem rowPuts_eight (D : FVec F S128x8192 .f32) (x : FVec F S8192x128 .bf16) : rowPuts D x 8 = queryOut D :=
  funext fun y => rowPuts_apply D x y 8 (y 0).isLt

section Reads

variable {κ : Kind} {sp : Space} {t : EltTy} {Val : EltTy → Type}

theorem read_cols (v : View sig κ sp S128x8192 t) (f : v.ty.Contents Val) {off : Fin 2 → ℕ}
    (inb : ∀ a, off a + S128x1024.size a ≤ S128x8192.size a) (r : ℕ) (hr : r < 8) (h : off = ![0, 1024 * r]) :
    v.readAt Val (Rect.unit (s := S128x8192) off S128x1024.size inb).toLoadRect f = colTile (v.read Val f) r :=
  View.readAt_unit v f inb (h.trans (by rw [Nat.mod_eq_of_lt hr])) _

end Reads

variable (𝒱 : Variants) (c : Dev nD) (bd : Option 𝒱.V) (E : Set ℕ) (i : grid0.Coords)
    (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole)
    (arg5 : Memref sig .tc .vmem S128x1024 .bf16) (harg5 : arg5.IsWhole) (arg6 : Memref sig .tc .vmem S8192x128 .bf16) (harg6 : arg6.IsWhole) (arg7 : Memref sig .tc .vmem S1x1x8192 .f32) (harg7 : arg7.IsWhole)
    (arg8 : Memref sig .tc .vmem S1x1x8192 .f32) (harg8 : arg8.IsWhole) (arg9 : Memref sig .tc .vmem S8192x128 .bf16) (harg9 : arg9.IsWhole) (arg10 : Memref sig .tc .vmem S1024x128 .bf16) (harg10 : arg10.IsWhole)
    (arg11 : Memref sig .tc .vmem S1024x128 .bf16) (harg11 : arg11.IsWhole) (arg12 : Memref sig .tc .vmem S128x8192 .f32) (harg12 : arg12.IsWhole) (arg13 : Memref sig .tc .vmem S1024x1024 .f32) (harg13 : arg13.IsWhole)
    (arg14 : Memref sig .tc .vmem S1024x1024 .f32) (harg14 : arg14.IsWhole) (arg15 : Memref sig .tc .vmem S1024x1024 .f32) (harg15 : arg15.IsWhole) (arg16 : Memref sig .tc .vmem S1024x1024 .f32) (harg16 : arg16.IsWhole)
    (x2 : FVec F S8192x128 .bf16) (x3 x4 : FVec F S1024x128 .bf16) (x5 : FVec F S128x1024 .bf16) (x6 : FVec F S8192x128 .bf16)
    (x7 x8 : FVec F S1x1x8192 .f32) (d : FVec F S128x8192 .f32)

set_option maxHeartbeats 1000000 in
/-- A head's last grid point leaves the gradients of its keys and values and the head's gradient of q. -/
theorem point_last (hc : k0_cond3 i = 1#1) :
    iprop(entry c arg2 arg3 arg4 arg5 arg6 arg7 arg8 arg12 arg13 arg14 arg15 arg16 x2 x3 x4 x5 x6 x7 x8 d ∗ (∃ y, owns (c : Thread nD τ) arg9 fullShare y) ∗ (∃ y, owns (c : Thread nD τ) arg10 fullShare y) ∗ (∃ y, owns (c : Thread nD τ) arg11 fullShare y))
    ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(walked c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d
          ∗ owns (c : Thread nD τ) arg9 fullShare (queryOut ((envOf x2 x3 x4 x5 x6 x7 x8).point (i 1).val d).dqt)
          ∗ owns (c : Thread nD τ) arg10 fullShare (k0_pay72 ((envOf x2 x3 x4 x5 x6 x7 x8).point (i 1).val d).dk)
          ∗ owns (c : Thread nD τ) arg11 fullShare (k0_pay1 ((envOf x2 x3 x4 x5 x6 x7 x8).point (i 1).val d).dv))) := by
  rw [cc0_attn_bwd_eq_skeleton]
  unfold cc0_attn_bwd_skel
  refine walk_then 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 d _ _ ?_
  unfold walked kept owns
  iintro ⟨⟨H3, H4, H5, H2, H6, H7, H8, ⟨%f12, %h12, H12⟩, HS⟩, ⟨%y9, %f9, %h9, H9⟩, ⟨%y10, %f10, %h10, H10⟩, ⟨%y11, %f11, %h11, H11⟩⟩
  sl_exec (disch := sl_exact hc)
  sl_step
  isplitl [H3 H4 H5 H2 H6 H7 H8 H12 HS]
  · isplitl [H3]; · iexact H3
    isplitl [H4]; · iexact H4
    isplitl [H5]; · iexact H5
    isplitl [H2]; · iexact H2
    isplitl [H6]; · iexact H6
    isplitl [H7]; · iexact H7
    isplitl [H8]; · iexact H8
    isplitl [H12]
    · iexists _; isplitr
      · ipureintro; exact h12
      iexact H12
    iexact HS
  isplitl [H9]
  · iexists _; isplitr; rotate_left
    · iexact H9
    · ipureintro
      have rd : ∀ (f : arg9.view.ty.Contents (Elt F)) {off : Fin 2 → ℕ} (inb : ∀ a, off a + S1024x128.size a ≤ S8192x128.size a)
          (w : (Rect.unit (s := S8192x128) off S1024x128.size inb).shape.Idx → Elt F .bf16) (L : List (View.Piece (Elt F) S8192x128 .bf16)) (r : ℕ)
          (_ : off = ![1024 * r, 0]) (_ : arg9.view.read (Elt F) (arg9.view.writes (Elt F) f L) = rowPuts (arg12.view.read (Elt F) f12) (arg9.view.read (Elt F) f9) r)
          (_ : w = k0_pay48 (colTile (arg12.view.read (Elt F) f12) r)),
          arg9.view.read (Elt F) (arg9.view.writes (Elt F) f (⟨Rect.unit (s := S8192x128) off S1024x128.size inb, w⟩ :: L))
            = rowPuts (arg12.view.read (Elt F) f12) (arg9.view.read (Elt F) f9) (r + 1) := by
        intro f off inb w L r ho hL hw
        rw [View.read_writes_cons_put arg9.view f inb w L ho, hL, hw]
        rfl
      rw [← h12, ← rowPuts_eight _ (arg9.view.read (Elt F) f9)]
      refine rd _ _ _ _ 7 rfl ?_ (congrArg k0_pay48 (read_cols arg12.view f12 _ 7 (by omega) rfl))
      refine rd _ _ _ _ 6 rfl ?_ (congrArg k0_pay48 (read_cols arg12.view f12 _ 6 (by omega) rfl))
      refine rd _ _ _ _ 5 rfl ?_ (congrArg k0_pay48 (read_cols arg12.view f12 _ 5 (by omega) rfl))
      refine rd _ _ _ _ 4 rfl ?_ (congrArg k0_pay48 (read_cols arg12.view f12 inb_S128x8192_S128x1024_0_4096 4 (by omega) rfl))
      refine rd _ _ _ _ 3 rfl ?_ (congrArg k0_pay48 (read_cols arg12.view f12 inb_S128x8192_S128x1024_0_3072 3 (by omega) rfl))
      refine rd _ _ _ _ 2 rfl ?_ (congrArg k0_pay48 (read_cols arg12.view f12 inb_S128x8192_S128x1024_0_2048 2 (by omega) rfl))
      refine rd _ _ _ _ 1 rfl ?_ (congrArg k0_pay48 (read_cols arg12.view f12 inb_S128x8192_S128x1024_0_1024 1 (by omega) rfl))
      exact rd _ _ _ _ 0 rfl (congrArg _ (View.writes_nil ..)) (congrArg k0_pay48 (read_cols arg12.view f12 inb_S128x8192_S128x1024_0_0 0 (by omega) rfl))
  isplitl [H10]
  · iexists _; isplitr; rotate_left
    · iexact H10
    · ipureintro
      rw [View.read_writes_full]
  · iexists _; isplitr; rotate_left
    · iexact H11
    · ipureintro
      rw [View.read_writes_full]

end Cert.Proof.KernelIdeal
-- ==== Proof.Ideal.Run.lean ====
/- The run of the kernel's one call, from the launch: what every window's block is after every grid point, and from it
   that the program ends with its arguments as they were, and with its results at the blocks written back. -/
module

public import proofs.«01_k».proof.Proof.Ideal.Last
public import proofs.«01_k».proof.Proof.Gen.KernelIdeal.Frame
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memrefs of a grid point -/

abbrev ms0 (t : Fin cfg0.N) : Memref sig .tc .vmem S8192x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8192x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x8192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x8192 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8192x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x128 .bf16 := win0_9.stage (cfg0.slots t 9)
abbrev hs9 (t : Fin cfg0.N) : (ms9 t).IsWhole := hstage0_9 ((cfg0.slots t 9).cast nbuf0_9)
abbrev sm0 : Memref sig .tc .vmem S128x8192 .f32 := Memref.whole cc0_scratch0
abbrev sm1 : Memref sig .tc .vmem S1024x1024 .f32 := Memref.whole cc0_scratch1
abbrev sm2 : Memref sig .tc .vmem S1024x1024 .f32 := Memref.whole cc0_scratch2
abbrev sm3 : Memref sig .tc .vmem S1024x1024 .f32 := Memref.whole cc0_scratch3
abbrev sm4 : Memref sig .tc .vmem S1024x1024 .f32 := Memref.whole cc0_scratch4

/-! ## What the blocks and the scratch hold -/

/-- What grid point `t` reads. -/
def envAt (c : Dev nD) (t : Fin cfg0.N) : Env F :=
  envOf (iblk m c 0 t) (iblk m c 1 t) (iblk m c 2 t) (iblk m c 3 t) (iblk m c 4 t) (iblk m c 5 t) (iblk m c 6 t)

/-- The transposed gradient of q before point `n`. -/
def queryAt (c : Dev nD) : ℕ → FVec F S128x8192 .f32
  | 0 => k0_pay53
  | n + 1 => if h : n < cfg0.N then ((envAt m c ⟨n, h⟩).point (grid0.coords ⟨n, h⟩ 1).val (queryAt c n)).dqt else queryAt c n

/-- What point `t` leaves. -/
def accAt (c : Dev nD) (t : Fin cfg0.N) : Acc F := (envAt m c t).point (grid0.coords t 1).val (queryAt m c t.val)

theorem queryAt_succ (c : Dev nD) (t : Fin cfg0.N) : queryAt m c (t.val + 1) = (accAt m c t).dqt := dif_pos t.isLt

/-- The invariant between points: the transposed gradient of q at `queryAt`, the score buffers at anything. -/
def PhiS (c : Dev nD) : (n : ℕ) → n ≤ cfg0.N → sProp 𝕄
  | 0, _ => Pipeline.ΦA spec0 c
  | n + 1, _ => iprop(iprop(owns (c : Thread nD τ) sm0 fullShare (queryAt m c (n + 1)) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d)) ∗ (∃ r, prngReg c r))

theorem PhiA0_eq (c : Dev nD) :
    (Pipeline.ΦA spec0 c : sProp 𝕄)
      = iprop(iprop((∃ d, owns (c : Thread nD τ) sm0 fullShare d) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d)) ∗ (∃ r, prngReg c r)) := by
  unfold Pipeline.ΦA; rw [scopedRest0_eq]; simp only [sm0, sm1, sm2, sm3, sm4, owns_whole]; try rfl

/-- A buffer held at some values is held at some contents, and the other way round. -/
theorem spare_of_owns (c : Dev nD) {s : Shape} {e : EltTy} (r : Memref sig .tc .vmem s e) :
    iprop(∃ d, owns (c : Thread nD τ) r fullShare d) ⊢ (iprop(∃ f, r.view.loc (c : Thread nD τ) ↦[r.view.set]{fullShare} f) : sProp 𝕄) := by
  unfold owns
  iintro ⟨%d, %f, %h, H⟩
  iexists f
  iexact H

theorem owns_of_spare (c : Dev nD) {s : Shape} {e : EltTy} (r : Memref sig .tc .vmem s e) :
    iprop(∃ f, r.view.loc (c : Thread nD τ) ↦[r.view.set]{fullShare} f) ⊢ (iprop(∃ d, owns (c : Thread nD τ) r fullShare d) : sProp 𝕄) := by
  unfold owns
  iintro ⟨%f, H⟩
  iexists (r.view.read (Elt F) f)
  iexists f
  isplitr
  · ipureintro; rfl
  iexact H

theorem coord_one : ∀ t : Fin cfg0.N, (grid0.coords t 1).val = t.val % 8 := by decide +kernel

/-- Before any point the scratch is at contents from which the point computes what it computes from `queryAt`. -/
theorem PhiS_open (c : Dev nD) (t : Fin cfg0.N) :
    PhiS m c t.val (Nat.le_of_lt t.isLt) ⊢ iprop(∃ d, ⌜(envAt m c t).point (grid0.coords t 1).val d = accAt m c t⌝ ∗ owns (c : Thread nD τ) sm0 fullShare d
      ∗ (∃ f, sm1.view.loc (c : Thread nD τ) ↦[sm1.view.set]{fullShare} f) ∗ (∃ f, sm2.view.loc (c : Thread nD τ) ↦[sm2.view.set]{fullShare} f) ∗ (∃ f, sm3.view.loc (c : Thread nD τ) ↦[sm3.view.set]{fullShare} f) ∗ (∃ f, sm4.view.loc (c : Thread nD τ) ↦[sm4.view.set]{fullShare} f) ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA0_eq]
    iintro ⟨⟨⟨%d, H0⟩, H1, H2, H3, H4⟩, Hg⟩
    iexists d
    isplitr
    · ipureintro
      have h0 : (grid0.coords (⟨0, hn⟩ : Fin cfg0.N) 1).val = 0 := coord_one _
      unfold accAt Env.point
      rw [h0]
      rfl
    isplitl [H0]; · iexact H0
    isplitl [H1]; · iapply (spare_of_owns c sm1); iexact H1
    isplitl [H2]; · iapply (spare_of_owns c sm2); iexact H2
    isplitl [H3]; · iapply (spare_of_owns c sm3); iexact H3
    isplitl [H4]; · iapply (spare_of_owns c sm4); iexact H4
    iexact Hg
  | succ n =>
    rw [show PhiS m c (⟨n + 1, hn⟩ : Fin cfg0.N).val (Nat.le_of_lt hn) = iprop(iprop(owns (c : Thread nD τ) sm0 fullShare (queryAt m c (n + 1)) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d)) ∗ (∃ r, prngReg c r)) from rfl]
    iintro ⟨⟨H0, H1, H2, H3, H4⟩, Hg⟩
    iexists (queryAt m c (n + 1))
    isplitr
    · ipureintro; rfl
    isplitl [H0]; · iexact H0
    isplitl [H1]; · iapply (spare_of_owns c sm1); iexact H1
    isplitl [H2]; · iapply (spare_of_owns c sm2); iexact H2
    isplitl [H3]; · iapply (spare_of_owns c sm3); iexact H3
    isplitl [H4]; · iapply (spare_of_owns c sm4); iexact H4
    iexact Hg

/-! ## The proof data of the pipeline -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => queryOut (accAt m c t).dqt
    | ⟨8, _⟩ => k0_pay72 (accAt m c t).dk
    | ⟨9, _⟩ => k0_pay1 (accAt m c t).dv
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = queryOut (accAt m c t).dqt := by dsimp only [dats]
theorem after0_8 (c : Dev nD) (t : Fin cfg0.N) : (dats m 0 c).after 8 t = k0_pay72 (accAt m c t).dk := by dsimp only [dats]
theorem after0_9 (c : Dev nD) (t : Fin cfg0.N) : (dats m 0 c).after 9 t = k0_pay1 (accAt m c t).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem idle_seven : ∀ t : Fin cfg0.N, ¬ k0_cond3 (grid0.coords t) = 1#1 → cfg0.idle 7 (grid0.coords t) = true := by decide +kernel
theorem noFlush_seven : ∀ t : Fin cfg0.N, ¬ k0_cond3 (grid0.coords t) = 1#1 → (cfg0.win 7).flush t = false := by decide +kernel
theorem live_seven : ∀ t : Fin cfg0.N, k0_cond3 (grid0.coords t) = 1#1 → cfg0.idle 7 (grid0.coords t) = false := by decide +kernel

set_option maxHeartbeats 2000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = iprop(iprop(owns (c : Thread nD τ) sm0 fullShare (queryAt m c (t.val + 1)) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d)) ∗ (∃ r, prngReg c r)) from rfl, PhiS_castSucc m c t]
  rw [queryAt_succ]
  rw [show (dats m 0 c).leavesExact 0 t = owns (c : Thread nD τ) (ms0 t) fullShare ((dats m 0 c).after 0 t) from by
    unfold Dat.leavesExact; rw [show cfg0.idle 0 (grid0.coords t) = false from rfl], after0_0]
  rw [show (dats m 0 c).leavesExact 1 t = owns (c : Thread nD τ) (ms1 t) fullShare ((dats m 0 c).after 1 t) from by
    unfold Dat.leavesExact; rw [show cfg0.idle 1 (grid0.coords t) = false from rfl], after0_1]
  rw [show (dats m 0 c).leavesExact 2 t = owns (c : Thread nD τ) (ms2 t) fullShare ((dats m 0 c).after 2 t) from by
    unfold Dat.leavesExact; rw [show cfg0.idle 2 (grid0.coords t) = false from rfl], after0_2]
  rw [show (dats m 0 c).leavesExact 3 t = owns (c : Thread nD τ) (ms3 t) fullShare ((dats m 0 c).after 3 t) from by
    unfold Dat.leavesExact; rw [show cfg0.idle 3 (grid0.coords t) = false from rfl], after0_3]
  rw [show (dats m 0 c).leavesExact 4 t = owns (c : Thread nD τ) (ms4 t) fullShare ((dats m 0 c).after 4 t) from by
    unfold Dat.leavesExact; rw [show cfg0.idle 4 (grid0.coords t) = false from rfl], after0_4]
  rw [show (dats m 0 c).leavesExact 5 t = owns (c : Thread nD τ) (ms5 t) fullShare ((dats m 0 c).after 5 t) from by
    unfold Dat.leavesExact; rw [show cfg0.idle 5 (grid0.coords t) = false from rfl], after0_5]
  rw [show (dats m 0 c).leavesExact 6 t = owns (c : Thread nD τ) (ms6 t) fullShare ((dats m 0 c).after 6 t) from by
    unfold Dat.leavesExact; rw [show cfg0.idle 6 (grid0.coords t) = false from rfl], after0_6]
  rw [show (dats m 0 c).leavesExact 8 t = owns (c : Thread nD τ) (ms8 t) fullShare ((dats m 0 c).after 8 t) from by
    unfold Dat.leavesExact; rw [show cfg0.idle 8 (grid0.coords t) = false from rfl], after0_8]
  rw [show (dats m 0 c).leavesExact 9 t = owns (c : Thread nD τ) (ms9 t) fullShare ((dats m 0 c).after 9 t) from by
    unfold Dat.leavesExact; rw [show cfg0.idle 9 (grid0.coords t) = false from rfl], after0_9]
  by_cases hc : k0_cond3 (grid0.coords t) = 1#1
  · rw [show (dats m 0 c).leavesExact 7 t = owns (c : Thread nD τ) (ms7 t) fullShare ((dats m 0 c).after 7 t) from by
      unfold Dat.leavesExact; rw [live_seven t hc], after0_7]
    iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    ihave HP := (PhiS_open m c t) $$ HP
    icases HP with ⟨%d, %hd, HS0, HS1, HS2, HS3, HS4, Hg⟩
    iapply (wp_wand_r frame (wpE (defs₀ (F := F)) Variants.none (c : Thread nD τ) none) (E := Set.univ))
    isplitl [H0 H1 H2 H3 H4 H5 H6 H7 H8 H9 HS0 HS1 HS2 HS3 HS4]
    · iapply (point_last Variants.none c none Set.univ (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) sm2 (Memref.isWhole_whole _) sm3 (Memref.isWhole_whole _) sm4 (Memref.isWhole_whole _)
        (iblk m c 0 t) (iblk m c 1 t) (iblk m c 2 t) (iblk m c 3 t) (iblk m c 4 t) (iblk m c 5 t) (iblk m c 6 t) d hc)
      isplitl [H0 H1 H2 H3 H4 H5 H6 HS0 HS1 HS2 HS3 HS4]
      · unfold entry
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iexact HS4
      isplitl [H7]; · iexists _; iexact H7
      isplitl [H8]; · iexists _; iexact H8
      iexists _; iexact H9
    iintro %_u ⟨HW, H7, H8, H9⟩
    unfold walked kept
    icases HW with ⟨H1, H2, H3, H0, H4, H5, H6, HS0, HS1, HS2, HS3, HS4⟩
    rw [show (envOf (iblk m c 0 t) (iblk m c 1 t) (iblk m c 2 t) (iblk m c 3 t) (iblk m c 4 t) (iblk m c 5 t) (iblk m c 6 t)).point (grid0.coords t 1).val d = accAt m c t from hd]
    isplitl [HS0 HS1 HS2 HS3 HS4 Hg]
    · isplitl [HS0 HS1 HS2 HS3 HS4]
      · isplitl [HS0]; · iexact HS0
        isplitl [HS1]; · iapply (owns_of_spare c sm1); iexact HS1
        isplitl [HS2]; · iapply (owns_of_spare c sm2); iexact HS2
        isplitl [HS3]; · iapply (owns_of_spare c sm3); iexact HS3
        iapply (owns_of_spare c sm4); iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dats m 0 c) 7 t (idle_seven t hc) (noFlush_seven t hc)]
    iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
    ihave HP := (PhiS_open m c t) $$ HP
    icases HP with ⟨%d, %hd, HS0, HS1, HS2, HS3, HS4, Hg⟩
    iapply (wp_wand_r frame (wpE (defs₀ (F := F)) Variants.none (c : Thread nD τ) none) (E := Set.univ))
    isplitl [H0 H1 H2 H3 H4 H5 H6 H8 H9 HS0 HS1 HS2 HS3 HS4]
    · iapply (point_mid Variants.none c none Set.univ (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) sm2 (Memref.isWhole_whole _) sm3 (Memref.isWhole_whole _) sm4 (Memref.isWhole_whole _)
        (iblk m c 0 t) (iblk m c 1 t) (iblk m c 2 t) (iblk m c 3 t) (iblk m c 4 t) (iblk m c 5 t) (iblk m c 6 t) d hc)
      isplitl [H0 H1 H2 H3 H4 H5 H6 HS0 HS1 HS2 HS3 HS4]
      · unfold entry
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iexact HS4
      isplitl [H8]; · iexists _; iexact H8
      iexists _; iexact H9
    iintro %_u ⟨HW, H8, H9⟩
    unfold walked kept
    icases HW with ⟨H1, H2, H3, H0, H4, H5, H6, HS0, HS1, HS2, HS3, HS4⟩
    rw [show (envOf (iblk m c 0 t) (iblk m c 1 t) (iblk m c 2 t) (iblk m c 3 t) (iblk m c 4 t) (iblk m c 5 t) (iblk m c 6 t)).point (grid0.coords t 1).val d = accAt m c t from hd]
    isplitl [HS0 HS1 HS2 HS3 HS4 Hg]
    · isplitl [HS0 HS1 HS2 HS3 HS4]
      · isplitl [HS0]; · iexact HS0
        isplitl [HS1]; · iapply (owns_of_spare c sm1); iexact HS1
        isplitl [HS2]; · iapply (owns_of_spare c sm2); iexact HS2
        isplitl [HS3]; · iapply (owns_of_spare c sm3); iexact HS3
        iapply (owns_of_spare c sm4); iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iexact H9

/-- The body table's row at point `t` is the body on that point's memrefs. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = iprop(iprop(owns (c : Thread nD τ) sm0 fullShare (queryAt m c cfg0.N) ∗ (∃ d, owns (c : Thread nD τ) sm1 fullShare d) ∗ (∃ d, owns (c : Thread nD τ) sm2 fullShare d) ∗ (∃ d, owns (c : Thread nD τ) sm3 fullShare d) ∗ (∃ d, owns (c : Thread nD τ) sm4 fullShare d)) ∗ (∃ r, prngReg c r)) from rfl, PhiA0_eq]
  iintro ⟨⟨H0, HS⟩, Hg⟩
  isplitl [H0 HS]
  · isplitl [H0]
    · iexists _; iexact H0
    iexact HS
  iexact Hg

/-! ## The run -/

set_option backward.isDefEq.respectTransparency.types false in
/-- Every execution of the program ends, with every array of the call at what the blocks written back make of it, every
    other array as the call found it, and every semaphore counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program ends with its arguments unchanged and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.KernelIdeal
-- ==== Proof.Value.Model.lean ====
/- The gradients of causal attention over the reals: what both programs are shown to compute. Heads, rows and lanes are natural
   numbers; lanes past a head's own width hold zero. -/
module

public import Idealize.ShloMosaic.PureOps.Ideal.Laws
public import Mathlib.Tactic.FieldSimp
public import Mathlib.Tactic.Ring

@[expose] public section

noncomputable section

namespace Cert.Proof.Value

open Finset

/-- The scale of the scores: the real the f32 word of 96^(-1/2) stands for. -/
def scale : ℝ := 3424635 / 33554432

/-- A head's queries, keys, values and output gradients by head, row and lane, and a number per head and query that the
    exponentials are taken against (the row's greatest score, though nothing depends on which it is). -/
structure Model where
  q : ℕ → ℕ → ℕ → ℝ
  k : ℕ → ℕ → ℕ → ℝ
  v : ℕ → ℕ → ℕ → ℝ
  o : ℕ → ℕ → ℕ → ℝ
  top : ℕ → ℕ → ℝ
  q_pad : ∀ h i d, 96 ≤ d → q h i d = 0
  k_pad : ∀ h i d, 96 ≤ d → k h i d = 0
  v_pad : ∀ h i d, 64 ≤ d → v h i d = 0
  o_pad : ∀ h i d, 64 ≤ d → o h i d = 0

namespace Model

variable (M : Model) (h : ℕ)

/-- The product of query `i` and key `j`, and the score. -/
def dot (i j : ℕ) : ℝ := ∑ d ∈ range 128, M.k h j d * M.q h i d
def score (i j : ℕ) : ℝ := M.dot h i j * scale
/-- The exponentials, no key after the query taking part, their sum, and the probabilities. -/
def ex (i j : ℕ) : ℝ := if j ≤ i then Real.exp (M.score h i j - M.top h i) else 0
def total (i : ℕ) : ℝ := ∑ j ∈ range 8192, M.ex h i j
def prob (i j : ℕ) : ℝ := M.ex h i j / M.total h i
/-- The log-sum-exp of a row. -/
def lse (i : ℕ) : ℝ := M.top h i + Real.log (M.total h i)
/-- The product of value `j` and output gradient `i`, the output, and the product of the output and its gradient. -/
def dp (i j : ℕ) : ℝ := ∑ d ∈ range 128, M.v h j d * M.o h i d
def out (i d : ℕ) : ℝ := ∑ j ∈ range 8192, M.v h j d * M.prob h i j
def delta (i : ℕ) : ℝ := ∑ d ∈ range 128, M.o h i d * M.out h i d
/-- The gradient of the scores, and of q, k and v. -/
def ds (i j : ℕ) : ℝ := M.prob h i j * (M.dp h i j - M.delta h i)
def dq (i d : ℕ) : ℝ := (∑ j ∈ range 8192, M.ds h i j * M.k h j d) * scale
def dk (j d : ℕ) : ℝ := (∑ i ∈ range 8192, M.ds h i j * M.q h i d) * scale
def dv (j d : ℕ) : ℝ := ∑ i ∈ range 8192, M.prob h i j * M.o h i d

theorem ex_nonneg (i j : ℕ) : 0 ≤ M.ex h i j := by
  unfold ex; split_ifs
  · exact (Real.exp_pos _).le
  · exact le_refl _

theorem ex_after {i j : ℕ} (hij : i < j) : M.ex h i j = 0 := if_neg (by omega)
theorem prob_after {i j : ℕ} (hij : i < j) : M.prob h i j = 0 := by unfold prob; rw [M.ex_after h hij, zero_div]
theorem ds_after {i j : ℕ} (hij : i < j) : M.ds h i j = 0 := by unfold ds; rw [M.prob_after h hij, zero_mul]

theorem total_pos {i : ℕ} (hi : i < 8192) : 0 < M.total h i := by
  unfold total
  refine Finset.sum_pos' (fun j _ => M.ex_nonneg h i j) ⟨i, Finset.mem_range.mpr hi, ?_⟩
  unfold ex; rw [if_pos (le_refl i)]; exact Real.exp_pos _

/-- A power of two with the score and the log-sum-exp rescaled is the probability. -/
theorem two_pow {i j : ℕ} (hi : i < 8192) (hij : j ≤ i) :
    (2 : ℝ) ^ (M.dot h i j * (scale * (Real.log 2)⁻¹) - M.lse h i * (Real.log 2)⁻¹) = M.prob h i j := by
  have hz := M.total_pos h hi
  have hl : Real.log 2 ≠ 0 := (Real.log_pos (by norm_num)).ne'
  rw [Real.rpow_def_of_pos (by norm_num)]
  have e : Real.log 2 * (M.dot h i j * (scale * (Real.log 2)⁻¹) - M.lse h i * (Real.log 2)⁻¹)
      = (M.score h i j - M.top h i) - Real.log (M.total h i) := by
    unfold lse score; field_simp; ring
  rw [e, Real.exp_sub, Real.exp_log hz]
  unfold prob ex; rw [if_pos hij]

/-- The product of output and output gradient, as the probabilities' mean of the products with the values. -/
theorem delta_eq (i : ℕ) : M.delta h i = ∑ j ∈ range 8192, M.prob h i j * M.dp h i j := by
  unfold delta out dp
  simp only [Finset.mul_sum]
  rw [Finset.sum_comm]
  exact Finset.sum_congr rfl fun j _ => Finset.sum_congr rfl fun d _ => by ring

/-- The gradient of the scores as the plain softmax's derivative is written. -/
theorem ds_eq {i : ℕ} (hi : i < 8192) (j : ℕ) :
    (M.dp h i j * (1 / M.total h i) + -(∑ j ∈ range 8192, M.dp h i j * (1 / (M.total h i * M.total h i)) * M.ex h i j)) * M.ex h i j
      = M.ds h i j := by
  have hz := (M.total_pos h hi).ne'
  have e : ∑ j ∈ range 8192, M.dp h i j * (1 / (M.total h i * M.total h i)) * M.ex h i j = M.delta h i * (1 / M.total h i) := by
    rw [M.delta_eq, Finset.sum_mul]
    exact Finset.sum_congr rfl fun j _ => by unfold prob; field_simp
  rw [e]; unfold ds prob; field_simp; ring

end Model

/-! ## Sums over rows, tile by tile -/

theorem sum_tiles (f : ℕ → ℝ) (n : ℕ) : ∑ i ∈ range (1024 * n), f i = ∑ r ∈ range n, ∑ b ∈ range 1024, f (1024 * r + b) := by
  induction n with
  | zero => rfl
  | succ n ih => rw [Nat.mul_succ, Finset.sum_range_add, ih, Finset.sum_range_succ _ n]

/-- A sum over all rows of what is zero before tile `j`: tile `j` and the tiles after it. -/
theorem sum_from (f : ℕ → ℝ) {j : ℕ} (hj : j < 8) (h0 : ∀ i, i < 1024 * j → f i = 0) :
    ∑ i ∈ range 8192, f i = ∑ m ∈ range (7 - j), ∑ b ∈ range 1024, f (1024 * (j + 1 + m) + b) + ∑ b ∈ range 1024, f (1024 * j + b) := by
  rw [show 8192 = 1024 * (j + 1 + (7 - j)) by omega, sum_tiles, Finset.sum_range_add, Finset.sum_range_succ,
    Finset.sum_eq_zero (s := range j) fun r hr => Finset.sum_eq_zero fun b hb => h0 _ (by
      have := Finset.mem_range.mp hr; have := Finset.mem_range.mp hb; omega), zero_add, add_comm]

/-! ## Extended reals that are reals -/

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum of extended reals that are a real function's values at the index's number. -/
theorem sum_coe {n : ℕ} (g : Fin n → EReal) (f : ℕ → ℝ) (h : ∀ k : Fin n, g k = ((f k.val : ℝ) : EReal)) :
    ∑ k, g k = ((∑ k ∈ range n, f k : ℝ) : EReal) := by
  rw [Finset.sum_range, coe_sum]; exact Finset.sum_congr rfl fun k _ => h k

/-- The same, of a function zero from the last index on. -/
theorem sum_coe_pad {n N : ℕ} (hn : n ≤ N) (g : Fin n → EReal) (f : ℕ → ℝ) (h : ∀ k : Fin n, g k = ((f k.val : ℝ) : EReal))
    (h0 : ∀ k, n ≤ k → f k = 0) : ∑ k, g k = ((∑ k ∈ range N, f k : ℝ) : EReal) := by
  rw [sum_coe g f h, ← Finset.sum_subset (Finset.range_subset_range.mpr hn) fun k _ hk => h0 k (by simpa using hk)]

end Cert.Proof.Value
-- ==== Proof.Value.Scores.lean ====
/- The masked scores of the reference over the reals, each row's greatest one, and the model of a set of arguments. -/
module

public import proofs.«01_k».proof.Proof.Gen.ReferenceIdeal.Read
public import proofs.«01_k».proof.Proof.Value.Model
public import Idealize.ShloMosaic.Lib.WordCmp

@[expose] public section

noncomputable section

namespace Cert.Proof.Value

open Cert.ReferenceIdeal Cert.ReferenceIdeal.Gen Cert.ReferenceIdeal.Read
open Idealize.ShloMosaic Idealize.ShloMosaic.ValueIdx

/-- The four arguments are a model's queries, keys, values and output gradients. -/
structure Args (x0 x1 : S8192x8x96.Idx → EReal) (x2 x3 : S8192x8x64.Idx → EReal) (M : Model) : Prop where
  q : ∀ y, x0 y = ((M.q (y 1).val (y 0).val (y 2).val : ℝ) : EReal)
  k : ∀ y, x1 y = ((M.k (y 1).val (y 0).val (y 2).val : ℝ) : EReal)
  v : ∀ y, x2 y = ((M.v (y 1).val (y 0).val (y 2).val : ℝ) : EReal)
  o : ∀ y, x3 y = ((M.o (y 1).val (y 0).val (y 2).val : ℝ) : EReal)

theorem scale_word : Ideal.ofBits .f32 0x3DD105EC#32 = ((scale : ℝ) : EReal) := by
  unfold scale
  simp [Ideal.ofBits, Ideal.ieee, -EReal.coe_mul]
  norm_num
theorem bot_word : Ideal.ofBits .f32 0xFF800000#32 = ⊥ := by simp [Ideal.ofBits, Ideal.ieee]
theorem one_word : Ideal.ofBits .f32 0x3F800000#32 = ((1 : ℝ) : EReal) := by
  simp [Ideal.ofBits, Ideal.ieee, -EReal.coe_mul]; norm_num

/-- The mask: a key takes part unless it comes after the query. -/
theorem mask_iff (y : S8x8192x8192.Idx) : val_main_v10_1 (F := Ideal) y = 1#1 ↔ (y 2).val ≤ (y 1).val := by
  rw [val_main_v10_1_apply, val_main_v9_apply, val_main_v8_apply, val_main_v6_apply, val_main_v4_apply, val_main_v3_apply,
    val_main_v7_apply, val_main_v5_apply, val_main_v3_apply]
  have h1 : (y 1).val < 8192 := (y 1).isLt
  have h2 : (y 2).val < 8192 := (y 2).isLt
  exact WordCmp.cmpi_sle_ofNat_eq_one_iff (w := 32) (a := (y 2).val) (b := (y 1).val) (by norm_num; omega) (by norm_num; omega)

theorem select_mask (y : S8x8192x8192.Idx) (a b : EReal) :
    Scalar.select (val_main_v10_1 (F := Ideal) y) a b = if (y 2).val ≤ (y 1).val then a else b := by
  by_cases h : (y 2).val ≤ (y 1).val
  · rw [if_pos h, (mask_iff y).mpr h, select_one]
  · rw [if_neg h, eq_zero_of_ne_one (fun e => h ((mask_iff y).mp e)), select_zero]

variable {x0 x1 : S8192x8x96.Idx → EReal} {x2 x3 : S8192x8x64.Idx → EReal} {M : Model} (A : Args x0 x1 x2 x3 M)

section
include A

theorem is_v2 (y : S8x8192x8192.Idx) :
    val_main_v2 (F := Ideal) x0 x1 y = ((M.score (y 0).val (y 1).val (y 2).val : ℝ) : EReal) := by
  rw [val_main_v2_apply, val_main_v0_apply, val_main_v1_apply, val_main_cst_apply, Ideal.mulf_def]
  rw [sum_coe_pad (N := 128) (by norm_num) _ (fun d => M.k (y 0).val (y 2).val d * M.q (y 0).val (y 1).val d)
    (fun k => by rw [A.q, A.k, ← EReal.coe_mul, mul_comm]) (fun d hd => by rw [M.k_pad _ _ _ hd, zero_mul])]
  exact (congrArg _ scale_word).trans (EReal.coe_mul _ _).symm

/-- The masked score. -/
theorem is_v10 (y : S8x8192x8192.Idx) : val_main_v10_0 (F := Ideal) x0 x1 y
    = if (y 2).val ≤ (y 1).val then ((M.score (y 0).val (y 1).val (y 2).val : ℝ) : EReal) else ⊥ := by
  rw [val_main_v10_0_apply, select_mask, is_v2 A, val_main_call0_v2_apply, val_main_call0_v0_apply, val_main_cst_0_apply]
  rw [show FloatOps.ofBits (F := Ideal) .f32 0xFF800000#32 = (⊥ : EReal) from bot_word]

/-- A row's greatest masked score is a real: no score is `⊤`, and the score of the query's own key is not `⊥`. -/
theorem top_real (y : S8x8192.Idx) :
    val_main_v11 (F := Ideal) x0 x1 y = (((val_main_v11 (F := Ideal) x0 x1 y).toReal : ℝ) : EReal) := by
  have e : val_main_v11 (F := Ideal) x0 x1 y = (Finset.univ : Finset (Fin 8192)).fold max ⊥
      (fun k => if k.val ≤ (y 1).val then ((M.score (y 0).val (y 1).val k.val : ℝ) : EReal) else ⊥) := by
    unfold val_main_v11
    haveI : Std.Commutative (FloatOps.maximumf (F := Ideal) (φ := .f32)) := ⟨fun a b => max_comm (α := EReal) a b⟩
    haveI : Std.Associative (FloatOps.maximumf (F := Ideal) (φ := .f32)) := ⟨fun a b c => max_assoc (α := EReal) a b c⟩
    rw [Host.reduce_eq_fold_single (a := (2 : Fin S8x8192x8192.rank)) _ _ _ _ (by decide)]
    have e0 : val_main_cst_1 (F := Ideal) (Shape.Idx.first h_S_) = (⊥ : EReal) := (val_main_cst_1_apply _).trans bot_word
    rw [e0]
    refine Finset.fold_congr fun k _ => ?_
    exact is_v10 A _
  rw [e]
  symm
  refine EReal.coe_toReal (ne_of_lt ((Finset.fold_max_lt _).mpr ⟨bot_lt_top, fun k _ => ?_⟩))
    (ne_of_gt ((Finset.lt_fold_max _).mpr (Or.inr ⟨⟨(y 1).val, (y 1).isLt⟩, Finset.mem_univ _, ?_⟩)))
  · split_ifs
    · exact EReal.coe_lt_top _
    · exact bot_lt_top
  · rw [if_pos (le_refl _)]; exact EReal.bot_lt_coe _

end

/-! ## The model of a set of arguments -/

/-- An entry of an argument as a real by head, row and lane; zero outside it. -/
def entry {D : ℕ} (x : (⟨3, ![8192, 8, D]⟩ : Shape).Idx → EReal) (h i d : ℕ) : ℝ :=
  if hb : i < 8192 ∧ h < 8 ∧ d < D then (x (ix3 ⟨i, hb.1⟩ ⟨h, hb.2.1⟩ ⟨d, hb.2.2⟩)).toReal else 0

theorem entry_pad {D : ℕ} (x : (⟨3, ![8192, 8, D]⟩ : Shape).Idx → EReal) (h i d : ℕ) (hd : D ≤ d) : entry x h i d = 0 :=
  dif_neg fun hb => absurd hb.2.2 (by omega)

theorem entry_eq {D : ℕ} (x : (⟨3, ![8192, 8, D]⟩ : Shape).Idx → EReal) (hx : ∀ y, ∃ r : ℝ, x y = (r : EReal))
    (y : (⟨3, ![8192, 8, D]⟩ : Shape).Idx) : x y = ((entry x (y 1).val (y 0).val (y 2).val : ℝ) : EReal) := by
  unfold entry
  rw [dif_pos ⟨(y 0).isLt, (y 1).isLt, (y 2).isLt⟩]
  have e : (ix3 ⟨(y 0).val, (y 0).isLt⟩ ⟨(y 1).val, (y 1).isLt⟩ ⟨(y 2).val, (y 2).isLt⟩ : (⟨3, ![8192, 8, D]⟩ : Shape).Idx) = y :=
    funext fun a => by match a with | ⟨0, _⟩ => rfl | ⟨1, _⟩ => rfl | ⟨2, _⟩ => rfl
  rw [e]
  obtain ⟨r, hr⟩ := hx y
  rw [hr]; rfl

/-- A row's greatest score as a real; zero outside the array. -/
def rowTop (x : S8x8192.Idx → EReal) (h i : ℕ) : ℝ := if hb : h < 8 ∧ i < 8192 then (x (ix2 ⟨h, hb.1⟩ ⟨i, hb.2⟩)).toReal else 0

theorem rowTop_eq (x : S8x8192.Idx → EReal) (hx : ∀ y, x y = (((x y).toReal : ℝ) : EReal)) (y : S8x8192.Idx) :
    x y = ((rowTop x (y 0).val (y 1).val : ℝ) : EReal) := by
  unfold rowTop
  rw [dif_pos ⟨(y 0).isLt, (y 1).isLt⟩]
  have e : (ix2 ⟨(y 0).val, (y 0).isLt⟩ ⟨(y 1).val, (y 1).isLt⟩ : S8x8192.Idx) = y :=
    funext fun a => by match a with | ⟨0, _⟩ => rfl | ⟨1, _⟩ => rfl
  rw [e]; exact hx y

def modelOf (x0 x1 : S8192x8x96.Idx → EReal) (x2 x3 : S8192x8x64.Idx → EReal) : Model where
  q := entry x0
  k := entry x1
  v := entry x2
  o := entry x3
  top := rowTop (val_main_v11 (F := Ideal) x0 x1)
  q_pad := entry_pad x0
  k_pad := entry_pad x1
  v_pad := entry_pad x2
  o_pad := entry_pad x3

theorem args_modelOf (x0 x1 : S8192x8x96.Idx → EReal) (x2 x3 : S8192x8x64.Idx → EReal)
    (h0 : ∀ y, ∃ r : ℝ, x0 y = (r : EReal)) (h1 : ∀ y, ∃ r : ℝ, x1 y = (r : EReal))
    (h2 : ∀ y, ∃ r : ℝ, x2 y = (r : EReal)) (h3 : ∀ y, ∃ r : ℝ, x3 y = (r : EReal)) :
    Args x0 x1 x2 x3 (modelOf x0 x1 x2 x3) :=
  ⟨entry_eq x0 h0, entry_eq x1 h1, entry_eq x2 h2, entry_eq x3 h3⟩

/-- The arguments with their rows' greatest scores. -/
structure Top (x0 x1 : S8192x8x96.Idx → EReal) (x2 x3 : S8192x8x64.Idx → EReal) (M : Model) : Prop extends Args x0 x1 x2 x3 M where
  top : ∀ y, val_main_v11 (F := Ideal) x0 x1 y = ((M.top (y 0).val (y 1).val : ℝ) : EReal)

theorem top_modelOf (x0 x1 : S8192x8x96.Idx → EReal) (x2 x3 : S8192x8x64.Idx → EReal)
    (h0 : ∀ y, ∃ r : ℝ, x0 y = (r : EReal)) (h1 : ∀ y, ∃ r : ℝ, x1 y = (r : EReal))
    (h2 : ∀ y, ∃ r : ℝ, x2 y = (r : EReal)) (h3 : ∀ y, ∃ r : ℝ, x3 y = (r : EReal)) :
    Top x0 x1 x2 x3 (modelOf x0 x1 x2 x3) :=
  ⟨args_modelOf x0 x1 x2 x3 h0 h1 h2 h3, rowTop_eq _ (top_real (args_modelOf x0 x1 x2 x3 h0 h1 h2 h3))⟩

end Cert.Proof.Value
-- ==== Proof.Value.Softmax.lean ====
/- The reference's exponentials, their sums, the probabilities and the output, read over the reals. -/
module

public import proofs.«01_k».proof.Proof.Value.Scores
public import Idealize.ShloMosaic.Lib.IdealHost

@[expose] public section

noncomputable section

namespace Cert.Proof.Value

open Cert.ReferenceIdeal Cert.ReferenceIdeal.Gen Cert.ReferenceIdeal.Read
open Idealize.ShloMosaic Idealize.ShloMosaic.ValueIdx

theorem zero_word : Ideal.ofBits .f32 0x00000000#32 = ((0 : ℝ) : EReal) := Ideal.ofBits_zero_f32

/-- A quotient of reals. -/
theorem div_real {a b : ℝ} (hb : b ≠ 0) : Ideal.div (a : EReal) (b : EReal) = ((a / b : ℝ) : EReal) := by
  rw [Ideal.div_coe hb, ← EReal.coe_mul, mul_one_div]

/-- The greatest score joined with `⊥` is the greatest score. -/
theorem v18_eq (x0 x1 : S8192x8x96.Idx → EReal) : val_main_v18 (F := Ideal) x0 x1 = val_main_v11 (F := Ideal) x0 x1 := by
  funext y
  rw [val_main_v18_apply, val_main_v17_apply, val_main_cst_3_apply, Ideal.maximumf_def]
  rw [show FloatOps.ofBits (F := Ideal) .f32 0xFF800000#32 = (⊥ : EReal) from bot_word]
  exact max_bot_left _

variable {x0 x1 : S8192x8x96.Idx → EReal} {x2 x3 : S8192x8x64.Idx → EReal} {M : Model} (T : Top x0 x1 x2 x3 M)
include T

theorem is_v28 (y : S8x8192x1.Idx) : val_main_v28 (F := Ideal) x0 x1 y = ((M.top (y 0).val (y 1).val : ℝ) : EReal) := by
  rw [val_main_v28_apply, v18_eq]; exact T.top _

theorem is_v31 (y : S8x8192x8192.Idx) :
    val_main_v31 (F := Ideal) x0 x1 y = ((M.ex (y 0).val (y 1).val (y 2).val : ℝ) : EReal) := by
  rw [val_main_v31_apply, val_main_v30_apply, is_v10 T.toArgs, val_main_v29_apply, is_v28 T, Ideal.hostUnary_exp_def, Ideal.subf_def]
  unfold Model.ex
  by_cases h : (y 2).val ≤ (y 1).val
  · rw [if_pos h, if_pos h, ← EReal.coe_sub]; exact Ideal.exp_coe _
  · rw [if_neg h, if_neg h, EReal.bot_sub]; exact Ideal.exp_bot

theorem is_v32 (y : S8x8192.Idx) : val_main_v32 (F := Ideal) x0 x1 y = ((M.total (y 0).val (y 1).val : ℝ) : EReal) := by
  rw [val_main_v32_apply, val_main_cst_9_apply]
  rw [sum_coe _ (fun k => M.ex (y 0).val (y 1).val k) (fun k => is_v31 T _)]
  rw [show FloatOps.ofBits (F := Ideal) .f32 0x00000000#32 = (0 : EReal) from Ideal.ofBits_zero_f32]
  exact zero_add _

theorem is_v33 (y : S8x8192x1.Idx) : val_main_v33 (F := Ideal) x0 x1 y = ((M.total (y 0).val (y 1).val : ℝ) : EReal) := by
  rw [val_main_v33_apply]; exact is_v32 T _

theorem is_v35 (y : S8x8192x8192.Idx) :
    val_main_v35 (F := Ideal) x0 x1 y = ((M.prob (y 0).val (y 1).val (y 2).val : ℝ) : EReal) := by
  rw [val_main_v35_apply, val_main_v34_apply, is_v33 T, is_v31 T, Ideal.hostDivf_def]
  exact div_real (M.total_pos _ (y 1).isLt).ne'

/-- The output, by row, head and lane. -/
theorem is_v40 (y : S8192x8x64.Idx) :
    val_main_v40 (F := Ideal) x0 x1 x2 y = ((M.out (y 1).val (y 0).val (y 2).val : ℝ) : EReal) := by
  rw [val_main_v40_apply, val_main_v39_apply]
  exact sum_coe _ (fun j => M.v (y 1).val j (y 2).val * M.prob (y 1).val (y 0).val j)
    (fun k => by rw [T.v, is_v35 T, ← EReal.coe_mul])

end Cert.Proof.Value
-- ==== Proof.Value.Host.lean ====
/- What the host hands the kernel: the padded heads of q, k, v and the output gradient, k's transpose, the log-sum-exps and the
   products of output and output gradient, each as a function of the arguments. -/
module

public import proofs.«01_k».proof.Proof.Gen.KernelIdeal.Frame
public import proofs.«01_k».proof.Proof.Value.Softmax

@[expose] public section

noncomputable section

namespace Cert.Proof.Value

open Cert.KernelIdeal Cert.KernelIdeal.Gen
open Cert.ReferenceIdeal.Read (val_main_v10_0 val_main_v11)
open Idealize.ShloMosaic Idealize.ShloMosaic.TcCoe Idealize.ShloMosaic.StableHlo Idealize.SL.Sem

/-- The padding value. -/
def padZero : S_.Idx → EReal := sitofp (F := Ideal) .f32 (constantI S_ 32 0#32)

/-- Heads of width 96 padded to 128 and joined. -/
def wide96 (x : FVec Ideal S8192x8x96 .f32) : FVec Ideal S8192x1024 .bf16 :=
  truncf .bf16 (shapeCast S8192x1024 (pad S8192x8x128 ![0, 0, 0] ![0, 0, 32] ![0, 0, 0] x padZero pads_S8192x8x96_S8192x8x128_000_000_0320 h_S_)
    shapeCasts_S8192x8x128_S8192x1024) bitsLt_bf16_f32
/-- Heads of width 64 padded to 128 and joined. -/
def wide64 (x : FVec Ideal S8192x8x64 .f32) : FVec Ideal S8192x1024 .bf16 :=
  truncf .bf16 (shapeCast S8192x1024 (pad S8192x8x128 ![0, 0, 0] ![0, 0, 64] ![0, 0, 0] x padZero pads_S8192x8x64_S8192x8x128_000_000_0640 h_S_)
    shapeCasts_S8192x8x128_S8192x1024) bitsLt_bf16_f32

/-- The greatest scores and the exponentials against them, as the host computes them. -/
def hostTop (x0 x1 : FVec Ideal S8192x8x96 .f32) : FVec Ideal S8x8192x1 .f32 :=
  broadcastInDim S8x8192x1 ![0, 1] bcast_S8x8192_S8x8192x1_0_1 (val_main_v11 (F := Ideal) x0 x1)
def hostExp (x0 x1 : FVec Ideal S8192x8x96 .f32) : FVec Ideal S8x8192x8192 .f32 :=
  Host.exp (subf (val_main_v10_0 (F := Ideal) x0 x1) (broadcastInDim S8x8192x8192 ![0, 1, 2] bcast_S8x8192x1_S8x8192x8192_0_1_2 (hostTop x0 x1)))
def hostTotal (x0 x1 : FVec Ideal S8192x8x96 .f32) : FVec Ideal S8x8192x1 .f32 :=
  broadcastInDim S8x8192x1 ![0, 1] bcast_S8x8192_S8x8192x1_0_1
    (Host.reduceAdd (hostExp x0 x1) (constant S_ .f32 0x00000000#32) reducesTo_S8x8192x8192_S8x8192_d2 h_S_)
/-- The log-sum-exps. -/
def hostLse (x0 x1 : FVec Ideal S8192x8x96 .f32) : FVec Ideal S8x1x8192 .f32 :=
  shapeCast S8x1x8192 (shapeCast S8x8192 (addf (hostTop x0 x1) (Host.log (hostTotal x0 x1))) shapeCasts_S8x8192x1_S8x8192)
    shapeCasts_S8x8192_S8x1x8192
/-- The output. -/
def hostOut (x0 x1 : FVec Ideal S8192x8x96 .f32) (x2 : FVec Ideal S8192x8x64 .f32) : FVec Ideal S8192x8x64 .f32 :=
  transpose S8192x8x64 [2, 0, 1] (Host.dotGeneral dot_S8192x8x64_S8x8192x8192_S8x64x8192_0_2_2_1_1_0 none x2
    (Host.divf (hostExp x0 x1) (broadcastInDim S8x8192x8192 ![0, 1, 2] bcast_S8x8192x1_S8x8192x8192_0_1_2 (hostTotal x0 x1))))
    transposes_S8x64x8192_S8192x8x64_2_0_1
/-- The products of output and output gradient. -/
def hostDelta (x0 x1 : FVec Ideal S8192x8x96 .f32) (x2 x3 : FVec Ideal S8192x8x64 .f32) : FVec Ideal S8x1x8192 .f32 :=
  shapeCast S8x1x8192 (transpose S8x8192 [1, 0] (Host.reduceAdd (mulf x3 (hostOut x0 x1 x2)) (constant S_ .f32 0x00000000#32)
    reducesTo_S8192x8x64_S8192x8_d2 h_S_) transposes_S8192x8_S8x8192_1_0) shapeCasts_S8x8192_S8x1x8192

variable (m : (ℓ : Loc nD τ sig) → Buf (Elt Ideal) ℓ) (c : Dev nD)

/-- An argument's contents on a device. -/
def arg0 : FVec Ideal S8192x8x96 .f32 := m ((c.tc : Thread nD τ).loc main_arg0)
def arg1 : FVec Ideal S8192x8x96 .f32 := m ((c.tc : Thread nD τ).loc main_arg1)
def arg2 : FVec Ideal S8192x8x64 .f32 := m ((c.tc : Thread nD τ).loc main_arg2)
def arg3 : FVec Ideal S8192x8x64 .f32 := m ((c.tc : Thread nD τ).loc main_arg3)

theorem V_q : V m c main_v32 = wide96 (arg0 m c) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append, TRef.nullary, TRef.ternary,
    TRef.unary, TRef.binary, TRef.toBuf, TRef.ofBuf, cast_eq]
  after_results_simp <;> rfl
theorem V_lse : V m c main_v25 = hostLse (arg0 m c) (arg1 m c) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append, TRef.nullary, TRef.ternary,
    TRef.unary, TRef.binary, TRef.toBuf, TRef.ofBuf, cast_eq]
  after_results_simp <;> rfl
theorem V_k : V m c main_v35 = wide96 (arg1 m c) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append, TRef.nullary, TRef.ternary,
    TRef.unary, TRef.binary, TRef.toBuf, TRef.ofBuf, cast_eq]
  after_results_simp <;> rfl
theorem V_v : V m c main_v38 = wide64 (arg2 m c) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append, TRef.nullary, TRef.ternary,
    TRef.unary, TRef.binary, TRef.toBuf, TRef.ofBuf, cast_eq]
  after_results_simp <;> rfl
theorem V_o : V m c main_v41 = wide64 (arg3 m c) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append, TRef.nullary, TRef.ternary,
    TRef.unary, TRef.binary, TRef.toBuf, TRef.ofBuf, cast_eq]
  after_results_simp <;> rfl
theorem V_kt : V m c main_v42 = transpose S1024x8192 [1, 0] (wide96 (arg1 m c)) transposes_S8192x1024_S1024x8192_1_0 := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append, TRef.nullary, TRef.ternary,
    TRef.unary, TRef.binary, TRef.toBuf, TRef.ofBuf, cast_eq]
  after_results_simp <;> rfl
theorem V_delta : V m c main_v29 = hostDelta (arg0 m c) (arg1 m c) (arg2 m c) (arg3 m c) := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append, TRef.nullary, TRef.ternary,
    TRef.unary, TRef.binary, TRef.toBuf, TRef.ofBuf, cast_eq]
  after_results_simp <;> rfl

end Cert.Proof.Value
-- ==== Proof.Value.Pre.lean ====
/- What the precondition says of the arguments: every entry is a real. -/
module

public import proofs.«01_k».proof.Defs
public import proofs.«01_k».proof.Proof.Gen.Pre_finite_inputs
public import proofs.«01_k».proof.Proof.Value.Host

@[expose] public section

noncomputable section

namespace Cert.Proof.Value

open Idealize.ShloMosaic Idealize.ShloMosaic.ValueIdx

theorem infinity_word : Ideal.ofBits .f32 0x7F800000#32 = ⊤ := by simp [Ideal.ofBits, Ideal.ieee]

/-- A number whose absolute value is below the greatest is a real. -/
theorem real_of_below (x : EReal) (h : Ideal.cmp .olt (max x (-x)) ⊤ = 1#1) : ∃ r : ℝ, x = (r : EReal) := by
  induction x with
  | bot => simp [Ideal.cmp] at h
  | coe r => exact ⟨r, rfl⟩
  | top => simp [Ideal.cmp] at h

theorem real_of_fn {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (y : s.Idx) :
    ∃ r : ℝ, x y = (r : EReal) := by
  refine real_of_below (x y) ?_
  have e := congrFun h y
  rw [← infinity_word]
  exact e

/-- The precondition, read entry by entry. -/
theorem real_of_pre {m : (ℓ : Loc Cert.KernelIdeal.nD Cert.KernelIdeal.τ Cert.KernelIdeal.sig) → Buf (Elt Ideal) ℓ}
    (h : Cert.Pre_KernelIdeal_finite_inputs m) (c : Dev Cert.KernelIdeal.nD) :
    (∀ y, ∃ r : ℝ, arg0 m c y = (r : EReal)) ∧ (∀ y, ∃ r : ℝ, arg1 m c y = (r : EReal))
    ∧ (∀ y, ∃ r : ℝ, arg2 m c y = (r : EReal)) ∧ (∀ y, ∃ r : ℝ, arg3 m c y = (r : EReal)) := by
  obtain ⟨h0, h1, h2, h3⟩ := h c
  exact ⟨real_of_fn (arg0 m c) _ h0, real_of_fn (arg1 m c) _ h1, real_of_fn (arg2 m c) _ h2, real_of_fn (arg3 m c) _ h3⟩

end Cert.Proof.Value
-- ==== Proof.Value.Tile.lean ====
/- One tile of the kernel, read entry by entry over the extended reals: arrays whose entries are reals, and what the words of a
   tile make of them. -/
module

public import proofs.«01_k».proof.Proof.Ideal.Last
public import proofs.«01_k».proof.Proof.Value.Model
public import Idealize.ShloMosaic.Lib.MatmulPlain
public import Idealize.ShloMosaic.Lib.ValueIdx
public import Idealize.ShloMosaic.Lib.WordCmp
public import Idealize.ShloMosaic.Lib.Pipeline.Value
public import Idealize.ShloMosaic.Lib.Pipeline.ValueKit.Geometry

@[expose] public section

noncomputable section

namespace Cert.Proof.Value

open Cert.KernelIdeal Cert.KernelIdeal.Gen Cert.Proof.KernelIdeal
open Idealize.ShloMosaic Idealize.ShloMosaic.ValueIdx Idealize.ShloMosaic.ValueKit

/-- An array of reals: entry (a, b) is `f a b`. -/
def Is {A B : ℕ} (x : (⟨2, ![A, B]⟩ : Shape).Idx → EReal) (f : ℕ → ℕ → ℝ) : Prop :=
  ∀ (a : Fin A) (b : Fin B), x (ix2 a b) = ((f a.val b.val : ℝ) : EReal)

/-- A row of real statistics: entry (0, 0, i) is `f i`. -/
def IsRow {B : ℕ} (x : (⟨3, ![1, 1, B]⟩ : Shape).Idx → EReal) (f : ℕ → ℝ) : Prop :=
  ∀ b : Fin B, x (ix3 0 0 b) = ((f b.val : ℝ) : EReal)

theorem Is.congr {A B : ℕ} {x : (⟨2, ![A, B]⟩ : Shape).Idx → EReal} {f g : ℕ → ℕ → ℝ} (hx : Is x f)
    (h : ∀ a b, a < A → b < B → f a b = g a b) : Is x g :=
  fun a b => (hx a b).trans (by rw [h _ _ a.isLt b.isLt])

/-! ## The parts of arrays -/

theorem Is.rows {x : FVec Ideal S8192x128 .bf16} {f : ℕ → ℕ → ℝ} (hx : Is x f) {r : ℕ} (hr : r < 8) :
    Is (rowTile x r) (fun b d => f (1024 * r + b) d) := by
  intro b d
  have e : rowTile x r (ix2 b d) = x (ix2 ⟨1024 * (r % 8) + b.val, by have := b.isLt; omega⟩ d) := by
    unfold rowTile VecWindow.window
    refine congrArg x (funext (Fin.forall_fin_two.mpr ⟨Fin.ext ?_, Fin.ext ?_⟩))
    · exact (rect_emb_unit_val (s := S8192x128) _ _ _ _ 0).trans rfl
    · exact (rect_emb_unit_val (s := S8192x128) _ _ _ _ 1).trans (Nat.zero_add _)
  rw [e, hx]; simp only [Nat.mod_eq_of_lt hr]

theorem IsRow.lanes {x : FVec Ideal S1x1x8192 .f32} {f : ℕ → ℝ} (hx : IsRow x f) {r : ℕ} (hr : r < 8) :
    IsRow (laneTile x r) (fun b => f (1024 * r + b)) := by
  intro b
  have e : laneTile x r (ix3 0 0 b) = x (ix3 0 0 ⟨1024 * (r % 8) + b.val, by have := b.isLt; omega⟩) := by
    unfold laneTile VecWindow.window
    refine congrArg x (funext (Fin.forall_fin_succ.mpr ⟨Fin.ext ?_, Fin.forall_fin_two.mpr ⟨Fin.ext ?_, Fin.ext ?_⟩⟩))
    · exact (rect_emb_unit_val (s := S1x1x8192) _ _ _ _ 0).trans rfl
    · exact (rect_emb_unit_val (s := S1x1x8192) _ _ _ _ 1).trans rfl
    · exact (rect_emb_unit_val (s := S1x1x8192) _ _ _ _ 2).trans rfl
  rw [e, hx]; simp only [Nat.mod_eq_of_lt hr]

theorem Is.top {x : FVec Ideal S128x8192 .f32} {f : ℕ → ℕ → ℝ} (hx : Is x f) {r : ℕ} (hr : r < 8) :
    Is (colTop x r) (fun d b => f d (1024 * r + b)) := by
  intro d b
  have e : colTop x r (ix2 d b) = x (ix2 ⟨d.val, by have := d.isLt; omega⟩ ⟨1024 * (r % 8) + b.val, by have := b.isLt; omega⟩) := by
    unfold colTop VecWindow.window
    refine congrArg x (funext (Fin.forall_fin_two.mpr ⟨Fin.ext ?_, Fin.ext ?_⟩))
    · exact (rect_emb_unit_val (s := S128x8192) _ _ _ _ 0).trans (Nat.zero_add _)
    · exact (rect_emb_unit_val (s := S128x8192) _ _ _ _ 1).trans rfl
  rw [e, hx]; simp only [Nat.mod_eq_of_lt hr]

theorem Is.column {x : FVec Ideal S128x8192 .f32} {f : ℕ → ℕ → ℝ} (hx : Is x f) {r : ℕ} (hr : r < 8) :
    Is (colTile x r) (fun d b => f d (1024 * r + b)) := by
  intro d b
  have e : colTile x r (ix2 d b) = x (ix2 d ⟨1024 * (r % 8) + b.val, by have := b.isLt; omega⟩) := by
    unfold colTile VecWindow.window
    refine congrArg x (funext (Fin.forall_fin_two.mpr ⟨Fin.ext ?_, Fin.ext ?_⟩))
    · exact (rect_emb_unit_val (s := S128x8192) _ _ _ _ 0).trans (Nat.zero_add _)
    · exact (rect_emb_unit_val (s := S128x8192) _ _ _ _ 1).trans rfl
  rw [e, hx]; simp only [Nat.mod_eq_of_lt hr]

theorem Is.upper {x : FVec Ideal S128x1024 .bf16} {f : ℕ → ℕ → ℝ} (hx : Is x f) : Is (topRows x) f := by
  intro d b
  have e : topRows x (ix2 d b) = x (ix2 ⟨d.val, by have := d.isLt; omega⟩ b) := by
    unfold topRows VecWindow.window
    refine congrArg x (funext (Fin.forall_fin_two.mpr ⟨Fin.ext ?_, Fin.ext ?_⟩))
    · exact (rect_emb_unit_val (s := S128x1024) _ _ _ _ 0).trans (Nat.zero_add _)
    · exact (rect_emb_unit_val (s := S128x1024) _ _ _ _ 1).trans (Nat.zero_add _)
  rw [e, hx]

theorem Is.put {x : FVec Ideal S128x8192 .f32} {w : FVec Ideal S96x1024 .f32} {f g : ℕ → ℕ → ℝ} (hx : Is x f) (hw : Is w g)
    {r : ℕ} (hr : r < 8) :
    Is (putTop x r w) (fun d i => if d < 96 ∧ 1024 * r ≤ i ∧ i < 1024 * r + 1024 then g d (i - 1024 * r) else f d i) := by
  intro d i
  show putTop x r w (ix2 d i) = (((if d.val < 96 ∧ 1024 * r ≤ i.val ∧ i.val < 1024 * r + 1024 then _ else _ : ℝ)) : EReal)
  unfold putTop VecWindow.put
  rw [Nat.mod_eq_of_lt hr]
  by_cases hin : d.val < 96 ∧ 1024 * r ≤ i.val ∧ i.val < 1024 * r + 1024
  · have h' : ∀ a, (![0, 1024 * r] : Fin 2 → ℕ) a ≤ ((ix2 d i : S128x8192.Idx) a).val ∧ ((ix2 d i : S128x8192.Idx) a).val < (![0, 1024 * r] : Fin 2 → ℕ) a + S96x1024.size a :=
      Fin.forall_fin_two.mpr ⟨⟨Nat.zero_le _, show d.val < 0 + 96 by omega⟩, hin.2⟩
    rw [if_pos hin]
    refine (dif_pos h').trans ?_
    refine Eq.trans (congrArg w (funext (Fin.forall_fin_two.mpr ⟨Fin.ext ?_, Fin.ext ?_⟩)))
      (hw ⟨d.val, hin.1⟩ ⟨i.val - 1024 * r, by omega⟩)
    · exact Nat.sub_zero _
    · rfl
  · rw [if_neg hin]
    refine (dif_neg fun h' => hin ?_).trans (hx d i)
    have h0 := (h' 0).2
    have h1 := h' 1
    exact ⟨lt_of_lt_of_eq h0 (Nat.zero_add 96), h1.1, h1.2⟩

/-! ## The words of a tile -/

theorem Is.truncf {A B : ℕ} {x : FVec Ideal ⟨2, ![A, B]⟩ .f32} {f : ℕ → ℕ → ℝ} (hx : Is x f) (hb : FTy.bf16.bits < FTy.f32.bits) :
    Is (Idealize.ShloMosaic.truncf (F := Ideal) .bf16 x hb) f := hx

theorem is_outer {a b : FVec Ideal S1024x128 .bf16} {f g : ℕ → ℕ → ℝ} (ha : Is a f) (hb : Is b g) :
    Is (outer a b) (fun x y => ∑ d ∈ Finset.range 128, f x d * g y d) := by
  intro x y
  unfold outer
  rw [shapeCast_self, shapeCast_self]
  refine (Ideal.matmul_transposedRhs_apply none a b _ x y).trans ?_
  rw [constant_apply, Ideal.ofBits_zero_f32, zero_add]
  exact sum_coe _ _ fun d => by rw [ha, hb, EReal.coe_mul]

theorem is_accKey {acc : FVec Ideal S1024x128 .f32} {w : FVec Ideal S1024x1024 .bf16} {x : FVec Ideal S1024x128 .bf16}
    {f g p : ℕ → ℕ → ℝ} (ha : Is acc f) (hw : Is w g) (hx : Is x p) :
    Is (accKey acc w x) (fun a d => f a d + ∑ y ∈ Finset.range 1024, g a y * p y d) := by
  intro a d
  unfold accKey
  rw [shapeCast_self, addf_apply, ha]
  refine Eq.trans (congrArg (_ + ·) (Ideal.matmul_plain_apply none w x _ a d)) ?_
  rw [constant_apply, Ideal.ofBits_zero_f32, zero_add, EReal.coe_add]
  exact congrArg (_ + ·) (sum_coe _ (fun y => g a.val y * p y d.val) fun y => by rw [hw, hx, EReal.coe_mul])

theorem is_accQuery {acc : FVec Ideal S96x1024 .f32} {w : FVec Ideal S1024x1024 .bf16} {kt : FVec Ideal S96x1024 .bf16}
    {f g p : ℕ → ℕ → ℝ} (ha : Is acc f) (hw : Is w g) (hk : Is kt p) :
    Is (accQuery kt w acc) (fun d y => f d y + ∑ a ∈ Finset.range 1024, p d a * g a y) := by
  intro d y
  unfold accQuery
  rw [shapeCast_self, addf_apply, ha]
  refine Eq.trans (congrArg (_ + ·) (Ideal.matmul_plain_apply none kt w _ d y)) ?_
  rw [constant_apply, Ideal.ofBits_zero_f32, zero_add, EReal.coe_add]
  exact congrArg (_ + ·) (sum_coe _ (fun a => p d.val a * g a y.val) fun a => by rw [hk, hw, EReal.coe_mul])

/-- A row of statistics under every key. -/
theorem row_apply (l : FVec Ideal S1x1x1024 .f32) (y : Fin 1024) :
    shapeCast S1x1024 l shapeCasts_S1x1x1024_S1x1024 (ix2 0 y) = l (ix3 0 0 y) :=
  shapeCast_apply _ _ _ _ (by rw [Shape.rowMajor_val_two, Shape.rowMajor_val_three]; show (0 * 1 + 0) * 1024 + y.val = 0 * 1024 + y.val; omega)

theorem spread_apply (l : FVec Ideal S1x1024 .f32) (x y : Fin 1024) :
    broadcastTo S1024x1024 l broadcasts_S1x1024_S1024x1024 (ix2 x y) = l (ix2 0 y) :=
  broadcastTo_apply _ _ _ _ fun a => match a with
    | ⟨0, _⟩ => by show 0 = if (1 : ℕ) = 1 then 0 else _; rw [if_pos rfl]
    | ⟨1, _⟩ => by show y.val = if (1024 : ℕ) = 1 then 0 else y.val; rw [if_neg (by decide)]

theorem is_dScore {p dp : FVec Ideal S1024x1024 .f32} {dl : FVec Ideal S1x1x1024 .f32} {f g : ℕ → ℕ → ℝ} {l : ℕ → ℝ}
    (hp : Is p f) (hd : Is dp g) (hl : IsRow dl l) : Is (dScore p dp dl) (fun x y => f x y * (g x y - l y)) := by
  intro x y
  unfold dScore perQuery
  rw [truncf_apply, mulf_apply, subf_apply, spread_apply, row_apply, hp, hd, hl, EReal.coe_mul, EReal.coe_sub]

theorem named_scale2 : Named.named (F := Ideal) κ "scale2" (φ := .f32) 0x3E16C740#32 = ((scale * (Real.log 2)⁻¹ : ℝ) : EReal) := by
  show (κ "scale2").getD _ = _
  rw [show κ "scale2" = some _ from rfl]
  rfl

theorem named_log2e : Named.named (F := Ideal) κ "log2e" (φ := .f32) 0x3FB8AA3B#32 = (((Real.log 2)⁻¹ : ℝ) : EReal) := by
  show (κ "log2e").getD _ = _
  rw [show κ "log2e" = some _ from rfl]
  rfl

theorem prob_apply {s : FVec Ideal S1024x1024 .f32} {l : FVec Ideal S1x1x1024 .f32} {f : ℕ → ℕ → ℝ} {g : ℕ → ℝ}
    (hs : Is s f) (hl : IsRow l g) (x y : Fin 1024) :
    prob s l (ix2 x y) = (((2 : ℝ) ^ (f x.val y.val * (scale * (Real.log 2)⁻¹) - g y.val * (Real.log 2)⁻¹) : ℝ) : EReal) := by
  unfold prob
  show Ideal.exp2 _ = _
  rw [subf_apply, mulf_apply, spread_apply, mulf_apply, row_apply, broadcast_apply, broadcast_apply, named_scale2, named_log2e, hs, hl,
    ← EReal.coe_mul, ← EReal.coe_mul, ← EReal.coe_sub, Ideal.exp2_coe]
  rfl

theorem probDiag_apply (s : FVec Ideal S1024x1024 .f32) (l : FVec Ideal S1x1x1024 .f32) (x y : Fin 1024) :
    probDiag s l (ix2 x y) = if x.val ≤ y.val then prob s l (ix2 x y) else 0 := by
  unfold probDiag
  rw [select_apply, broadcast_apply]
  show Scalar.select (IntOp.cmpi .sle (iota .tc S1024x1024 32 [0] iota_S1024x1024_d0_w32 (ix2 x y)) (iota .tc S1024x1024 32 [1] iota_S1024x1024_d1_w32 (ix2 x y))) _ _ = _
  rw [iota_single_apply, iota_single_apply]
  have hx := x.isLt
  have hy := y.isLt
  have key := WordCmp.cmpi_sle_ofNat_eq_one_iff (w := 32) (a := x.val) (b := y.val) (by omega) (by omega)
  by_cases h : x.val ≤ y.val
  · rw [if_pos h]
    exact (congrArg (fun c => Scalar.select c _ _) (key.mpr h)).trans (select_one _ _)
  · rw [if_neg h]
    refine (congrArg (fun c => Scalar.select c _ _) (eq_zero_of_ne_one fun hh => h (key.mp hh))).trans ((select_zero _ _).trans ?_)
    exact Ideal.ofBits_zero_f32

end Cert.Proof.Value
-- ==== Proof.Value.Walk.lean ====
/- A grid point of the kernel over the reals: a key tile's walk over the query tiles leaves the gradients of its keys and values,
   and adds its keys' part to the gradient of q. -/
module

public import proofs.«01_k».proof.Proof.Value.Tile

@[expose] public section

noncomputable section

namespace Cert.Proof.Value

open Cert.KernelIdeal Cert.KernelIdeal.Gen Cert.Proof.KernelIdeal
open Idealize.ShloMosaic Idealize.ShloMosaic.ValueIdx Idealize.ShloMosaic.ValueKit

/-- What a grid point reads, of head `h` and key tile `j` of a model. -/
structure Reads (e : Env Ideal) (M : Model) (h j : ℕ) : Prop where
  kk : Is e.kk (fun a d => M.k h (1024 * j + a) d)
  vv : Is e.vv (fun a d => M.v h (1024 * j + a) d)
  kt : Is e.kt (fun d a => M.k h (1024 * j + a) d)
  q : Is e.q (fun i d => M.q h i d)
  o : Is e.o (fun i d => M.o h i d)
  lse : IsRow e.lse (fun i => M.lse h i)
  dl : IsRow e.dl (fun i => M.delta h i)

/-- The part of key tile `j` in the gradient of q, before scaling. -/
def tilePart (M : Model) (h j d i : ℕ) : ℝ := ∑ a ∈ Finset.range 1024, M.k h (1024 * j + a) d * M.ds h i (1024 * j + a)

variable {e : Env Ideal} {M : Model} {h j : ℕ} (R : Reads e M h j)
include R

/-- The probabilities of a tile after the diagonal. -/
theorem is_prob {r : ℕ} (hr : r < 8) (hjr : j < r) :
    Is (prob (e.s r) (laneTile e.lse r)) (fun a y => M.prob h (1024 * r + y) (1024 * j + a)) := by
  intro a y
  have ha := a.isLt
  have hy := y.isLt
  refine (prob_apply (is_outer R.kk (R.q.rows hr)) (R.lse.lanes hr) a y).trans ?_
  exact congrArg _ (M.two_pow h (i := 1024 * r + y.val) (j := 1024 * j + a.val) (by omega) (by omega))

/-- The probabilities of the tile on the diagonal. -/
theorem is_probDiag (hj : j < 8) :
    Is (probDiag (e.s j) (laneTile e.lse j)) (fun a y => M.prob h (1024 * j + y) (1024 * j + a)) := by
  intro a y
  have ha := a.isLt
  have hy := y.isLt
  rw [probDiag_apply]
  by_cases hay : a.val ≤ y.val
  · rw [if_pos hay]
    refine (prob_apply (is_outer R.kk (R.q.rows hj)) (R.lse.lanes hj) a y).trans ?_
    exact congrArg _ (M.two_pow h (i := 1024 * j + y.val) (j := 1024 * j + a.val) (by omega) (by omega))
  · rw [if_neg hay]
    show (0 : EReal) = ((M.prob h (1024 * j + y.val) (1024 * j + a.val) : ℝ) : EReal)
    rw [M.prob_after h (by omega), EReal.coe_zero]

/-- The gradient of the scores of a tile. -/
theorem is_ds {r : ℕ} (hr : r < 8) {w : FVec Ideal S1024x1024 .f32} (hw : Is w (fun a y => M.prob h (1024 * r + y) (1024 * j + a))) :
    Is (dScore w (e.p r) (laneTile e.dl r)) (fun a y => M.ds h (1024 * r + y) (1024 * j + a)) :=
  is_dScore hw (is_outer R.vv (R.o.rows hr)) (R.dl.lanes hr)

theorem is_take_dk {r : ℕ} (hr : r < 8) {w : FVec Ideal S1024x1024 .f32} (hw : Is w (fun a y => M.prob h (1024 * r + y) (1024 * j + a)))
    {x : Acc Ideal} {f : ℕ → ℕ → ℝ} (hx : Is x.dk f) :
    Is (e.take w r x).dk (fun a d => f a d + ∑ y ∈ Finset.range 1024, M.ds h (1024 * r + y) (1024 * j + a) * M.q h (1024 * r + y) d) :=
  is_accKey hx (is_ds R hr hw) (R.q.rows hr)

theorem is_take_dv {r : ℕ} (hr : r < 8) {w : FVec Ideal S1024x1024 .f32} (hw : Is w (fun a y => M.prob h (1024 * r + y) (1024 * j + a)))
    {x : Acc Ideal} {f : ℕ → ℕ → ℝ} (hx : Is x.dv f) :
    Is (e.take w r x).dv (fun a d => f a d + ∑ y ∈ Finset.range 1024, M.prob h (1024 * r + y) (1024 * j + a) * M.o h (1024 * r + y) d) :=
  is_accKey hx (hw.truncf bitsLt_bf16_f32) (R.o.rows hr)

theorem is_take_dqt {r : ℕ} (hr : r < 8) {w : FVec Ideal S1024x1024 .f32} (hw : Is w (fun a y => M.prob h (1024 * r + y) (1024 * j + a)))
    {x : Acc Ideal} {f : ℕ → ℕ → ℝ} (hx : Is x.dqt f) :
    Is (e.take w r x).dqt (fun d i => f d i + if 1024 * r ≤ i ∧ i < 1024 * r + 1024 then tilePart M h j d i else 0) := by
  refine (hx.put (is_accQuery (hx.top hr) (is_ds R hr hw) R.kt) hr).congr fun d i hd hi => ?_
  by_cases hin : 1024 * r ≤ i ∧ i < 1024 * r + 1024
  · by_cases hd' : d < 96
    · rw [if_pos ⟨hd', hin⟩, if_pos hin]
      rw [show 1024 * r + (i - 1024 * r) = i by omega]
      rfl
    · rw [if_neg fun hh => hd' hh.1, if_pos hin]
      unfold tilePart
      rw [Finset.sum_eq_zero fun a _ => by rw [M.k_pad h _ d (by omega), zero_mul], add_zero]
  · rw [if_neg fun hh => hin hh.2, if_neg hin, add_zero]

/-- The walk over the tiles after the diagonal. -/
theorem is_walk {x : Acc Ideal} {f g p : ℕ → ℕ → ℝ} (hf : Is x.dqt f) (hg : Is x.dk g) (hp : Is x.dv p) :
    ∀ m, j + 1 + m ≤ 8 →
      Is (e.walk j x m).dqt (fun d i => f d i + if 1024 * (j + 1) ≤ i ∧ i < 1024 * (j + 1 + m) then tilePart M h j d i else 0)
      ∧ Is (e.walk j x m).dk (fun a d => g a d + ∑ r ∈ Finset.range m, ∑ y ∈ Finset.range 1024,
          M.ds h (1024 * (j + 1 + r) + y) (1024 * j + a) * M.q h (1024 * (j + 1 + r) + y) d)
      ∧ Is (e.walk j x m).dv (fun a d => p a d + ∑ r ∈ Finset.range m, ∑ y ∈ Finset.range 1024,
          M.prob h (1024 * (j + 1 + r) + y) (1024 * j + a) * M.o h (1024 * (j + 1 + r) + y) d)
  | 0, _ => by
    refine ⟨hf.congr fun d i _ _ => ?_, hg.congr fun a d _ _ => ?_, hp.congr fun a d _ _ => ?_⟩
    · rw [if_neg (by omega), add_zero]
    · rw [Finset.sum_range_zero, add_zero]
    · rw [Finset.sum_range_zero, add_zero]
  | m + 1, hm => by
    obtain ⟨h1, h2, h3⟩ := is_walk hf hg hp m (by omega)
    have hr : j + 1 + m < 8 := by omega
    have hw := is_prob R hr (by omega)
    rw [show e.walk j x (m + 1) = e.full (j + 1 + m) (e.walk j x m) from rfl]
    unfold Env.full
    refine ⟨(is_take_dqt R hr hw h1).congr fun d i _ _ => ?_, (is_take_dk R hr hw h2).congr fun a d _ _ => ?_,
      (is_take_dv R hr hw h3).congr fun a d _ _ => ?_⟩
    · by_cases ha : 1024 * (j + 1) ≤ i ∧ i < 1024 * (j + 1 + m)
      · rw [if_pos ha, if_neg (by omega), if_pos (by omega), add_zero]
      · by_cases hb : 1024 * (j + 1 + m) ≤ i ∧ i < 1024 * (j + 1 + m) + 1024
        · rw [if_neg ha, if_pos hb, if_pos (by omega), add_zero]
        · rw [if_neg ha, if_neg hb, if_neg (by omega), add_zero, add_zero]
    · rw [Finset.sum_range_succ _ m, add_assoc]
    · rw [Finset.sum_range_succ _ m, add_assoc]

theorem is_zero_keys : Is (k0_pay57 (F := Ideal)) (fun _ _ => 0) := fun _ _ => Ideal.ofBits_zero_f32

/-- A grid point: what it adds to the gradient of q, and the gradients of its keys, before scaling, and of its values. -/
theorem is_point (hj : j < 8) {D : FVec Ideal S128x8192 .f32} {f : ℕ → ℕ → ℝ} (hf : Is (startQuery j D) f) :
    Is (e.point j D).dqt (fun d i => f d i + tilePart M h j d i)
    ∧ Is (e.point j D).dk (fun a d => ∑ i ∈ Finset.range 8192, M.ds h i (1024 * j + a) * M.q h i d)
    ∧ Is (e.point j D).dv (fun a d => M.dv h (1024 * j + a) d) := by
  obtain ⟨h1, h2, h3⟩ := is_walk R (x := ⟨startQuery j D, k0_pay57, k0_pay57⟩) hf (is_zero_keys R) (is_zero_keys R) (7 - j) (by omega)
  have hw := is_probDiag R hj
  unfold Env.point Env.diag
  refine ⟨(is_take_dqt R hj hw h1).congr fun d i _ hi => ?_, (is_take_dk R hj hw h2).congr fun a d _ _ => ?_,
    (is_take_dv R hj hw h3).congr fun a d _ _ => ?_⟩
  · by_cases ha : 1024 * (j + 1) ≤ i ∧ i < 1024 * (j + 1 + (7 - j))
    · rw [if_pos ha, if_neg (by omega), add_zero]
    · by_cases hb : 1024 * j ≤ i ∧ i < 1024 * j + 1024
      · rw [if_neg ha, if_pos hb, add_zero]
      · rw [if_neg ha, if_neg hb, add_zero, add_zero]
        unfold tilePart
        rw [Finset.sum_eq_zero fun a _ => by rw [M.ds_after h (by omega), mul_zero], add_zero]
  · rw [zero_add, sum_from _ hj fun i hi => by rw [M.ds_after h (by omega), zero_mul]]
  · unfold Model.dv
    rw [zero_add, sum_from _ hj fun i hi => by rw [M.prob_after h (by omega), zero_mul]]

end Cert.Proof.Value
-- ==== Proof.Value.Entries.lean ====
/- The arrays the host hands the kernel, read entry by entry over the reals. -/
module

public import proofs.«01_k».proof.Proof.Value.Host
public import proofs.«01_k».proof.Proof.Value.Tile
public import Idealize.ShloMosaic.Lib.KernelVsHost

@[expose] public section

noncomputable section

namespace Cert.Proof.Value

open Cert.KernelIdeal Cert.KernelIdeal.Gen
open Cert.ReferenceIdeal.Read
open Idealize.ShloMosaic Idealize.ShloMosaic.ValueIdx

theorem padZero_apply (y : S_.Idx) : padZero y = (0 : EReal) := by
  show (((0#32 : BitVec 32).toInt : ℝ) : EReal) = 0
  norm_num

/-- The padded, joined heads of an array of width 96. -/
theorem is_wide96 {x : FVec Ideal S8192x8x96 .f32} {f : ℕ → ℕ → ℕ → ℝ}
    (hx : ∀ y, x y = ((f (y 1).val (y 0).val (y 2).val : ℝ) : EReal)) (h0 : ∀ h i d, 96 ≤ d → f h i d = 0) :
    Is (wide96 x) (fun i c => f (c / 128) i (c % 128)) := by
  intro a b
  have ha := a.isLt
  have hb := b.isLt
  unfold wide96
  rw [truncf_apply]
  refine (shapeCast_apply _ shapeCasts_S8192x8x128_S8192x1024 (ix2 a b)
    (ix3 a ⟨b.val / 128, by omega⟩ ⟨b.val % 128, by omega⟩) ?_).trans ?_
  · rw [Shape.rowMajor_val_two, Shape.rowMajor_val_three]
    show (a.val * 8 + b.val / 128) * 128 + b.val % 128 = a.val * 1024 + b.val
    omega
  by_cases hd : b.val % 128 < 96
  · refine (pad_apply_of_inside _ _ _ x padZero pads_S8192x8x96_S8192x8x128_000_000_0320 h_S_ _
      (ix3 a ⟨b.val / 128, by omega⟩ ⟨b.val % 128, hd⟩) ?_).trans (hx _)
    intro c
    match c with
    | ⟨0, _⟩ => show a.val = 0 + a.val * (0 + 1); omega
    | ⟨1, _⟩ => show b.val / 128 = 0 + b.val / 128 * (0 + 1); omega
    | ⟨2, _⟩ => show b.val % 128 = 0 + b.val % 128 * (0 + 1); omega
  · refine (pad_apply_of_not_inside _ _ _ x padZero pads_S8192x8x96_S8192x8x128_000_000_0320 h_S_ _ (2 : Fin 3) ?_).trans ?_
    · show ¬(0 ≤ b.val % 128 ∧ (b.val % 128 - 0) % (0 + 1) = 0 ∧ (b.val % 128 - 0) / (0 + 1) < 96)
      omega
    · exact (padZero_apply _).trans (congrArg (fun r : ℝ => (r : EReal)) (h0 (b.val / 128) a.val (b.val % 128) (by omega)).symm)

/-- The padded, joined heads of an array of width 64. -/
theorem is_wide64 {x : FVec Ideal S8192x8x64 .f32} {f : ℕ → ℕ → ℕ → ℝ}
    (hx : ∀ y, x y = ((f (y 1).val (y 0).val (y 2).val : ℝ) : EReal)) (h0 : ∀ h i d, 64 ≤ d → f h i d = 0) :
    Is (wide64 x) (fun i c => f (c / 128) i (c % 128)) := by
  intro a b
  have ha := a.isLt
  have hb := b.isLt
  unfold wide64
  rw [truncf_apply]
  refine (shapeCast_apply _ shapeCasts_S8192x8x128_S8192x1024 (ix2 a b)
    (ix3 a ⟨b.val / 128, by omega⟩ ⟨b.val % 128, by omega⟩) ?_).trans ?_
  · rw [Shape.rowMajor_val_two, Shape.rowMajor_val_three]
    show (a.val * 8 + b.val / 128) * 128 + b.val % 128 = a.val * 1024 + b.val
    omega
  by_cases hd : b.val % 128 < 64
  · refine (pad_apply_of_inside _ _ _ x padZero pads_S8192x8x64_S8192x8x128_000_000_0640 h_S_ _
      (ix3 a ⟨b.val / 128, by omega⟩ ⟨b.val % 128, hd⟩) ?_).trans (hx _)
    intro c
    match c with
    | ⟨0, _⟩ => show a.val = 0 + a.val * (0 + 1); omega
    | ⟨1, _⟩ => show b.val / 128 = 0 + b.val / 128 * (0 + 1); omega
    | ⟨2, _⟩ => show b.val % 128 = 0 + b.val % 128 * (0 + 1); omega
  · refine (pad_apply_of_not_inside _ _ _ x padZero pads_S8192x8x64_S8192x8x128_000_000_0640 h_S_ _ (2 : Fin 3) ?_).trans ?_
    · show ¬(0 ≤ b.val % 128 ∧ (b.val % 128 - 0) % (0 + 1) = 0 ∧ (b.val % 128 - 0) / (0 + 1) < 64)
      omega
    · exact (padZero_apply _).trans (congrArg (fun r : ℝ => (r : EReal)) (h0 (b.val / 128) a.val (b.val % 128) (by omega)).symm)

/-- The transpose of the joined heads. -/
theorem is_flip {x : FVec Ideal S8192x1024 .bf16} {f : ℕ → ℕ → ℝ} (hx : Is x f) :
    Is (transpose S1024x8192 [1, 0] x transposes_S8192x1024_S1024x8192_1_0) (fun c i => f i c) := by
  intro a b
  refine (transpose_apply [1, 0] x transposes_S8192x1024_S1024x8192_1_0 (ix2 a b) (ix2 b a) (fun c => match c with
    | ⟨0, _⟩ => rfl
    | ⟨1, _⟩ => rfl)).trans (hx b a)

/-! ## The statistics of the rows -/

theorem hostLog_apply {s : Shape} (x : FVec Ideal s .f32) (y : s.Idx) : Host.log x y = Ideal.log (x y) := rfl

theorem hostTop_eq (x0 x1 : FVec Ideal S8192x8x96 .f32) : hostTop x0 x1 = val_main_v28 (F := Ideal) x0 x1 := by
  unfold hostTop val_main_v28; rw [v18_eq]
theorem hostExp_eq (x0 x1 : FVec Ideal S8192x8x96 .f32) : hostExp x0 x1 = val_main_v31 (F := Ideal) x0 x1 := by
  unfold hostExp val_main_v31 val_main_v30 val_main_v29; rw [hostTop_eq]
theorem hostTotal_eq (x0 x1 : FVec Ideal S8192x8x96 .f32) : hostTotal x0 x1 = val_main_v33 (F := Ideal) x0 x1 := by
  unfold hostTotal val_main_v33 val_main_v32; rw [hostExp_eq]; rfl
theorem hostOut_eq (x0 x1 : FVec Ideal S8192x8x96 .f32) (x2 : FVec Ideal S8192x8x64 .f32) :
    hostOut x0 x1 x2 = val_main_v40 (F := Ideal) x0 x1 x2 := by
  unfold hostOut val_main_v40 val_main_v39 val_main_v35 val_main_v34; rw [hostExp_eq, hostTotal_eq]; rfl

variable {x0 x1 : FVec Ideal S8192x8x96 .f32} {x2 x3 : FVec Ideal S8192x8x64 .f32} {M : Model} (T : Top x0 x1 x2 x3 M)
include T

theorem is_hostLse (y : S8x1x8192.Idx) : hostLse x0 x1 y = ((M.lse (y 0).val (y 2).val : ℝ) : EReal) := by
  have h0 : (y 0).val < 8 := (y 0).isLt
  have h1 : (y 1).val < 1 := (y 1).isLt
  have h2 : (y 2).val < 8192 := (y 2).isLt
  unfold hostLse
  rw [hostTop_eq, hostTotal_eq]
  refine (shapeCast_apply _ shapeCasts_S8x8192_S8x1x8192 y (ix2 ⟨(y 0).val, h0⟩ ⟨(y 2).val, h2⟩) ?_).trans ?_
  · rw [Shape.rowMajor_val_two, Shape.rowMajor_val_three]
    show (y 0).val * 8192 + (y 2).val = ((y 0).val * 1 + (y 1).val) * 8192 + (y 2).val
    omega
  refine (shapeCast_apply _ shapeCasts_S8x8192x1_S8x8192 _ (ix3 ⟨(y 0).val, h0⟩ ⟨(y 2).val, h2⟩ 0) ?_).trans ?_
  · rw [Shape.rowMajor_val_two, Shape.rowMajor_val_three]
    show ((y 0).val * 8192 + (y 2).val) * 1 + 0 = (y 0).val * 8192 + (y 2).val
    omega
  rw [addf_apply, is_v28 T]
  have hp := M.total_pos (y 0).val h2
  have e : (Host.log (F := Ideal) (φ := .f32) (val_main_v33 (F := Ideal) x0 x1) : FVec Ideal S8x8192x1 .f32) (ix3 ⟨(y 0).val, h0⟩ ⟨(y 2).val, h2⟩ 0)
      = ((Real.log (M.total (y 0).val (y 2).val) : ℝ) : EReal) := by
    rw [hostLog_apply, is_v33 T]
    exact (Ideal.log_coe _).trans (if_neg (not_le.mpr hp))
  rw [e]
  exact (EReal.coe_add _ _).symm

theorem is_hostDelta (y : S8x1x8192.Idx) : hostDelta x0 x1 x2 x3 y = ((M.delta (y 0).val (y 2).val : ℝ) : EReal) := by
  have h0 : (y 0).val < 8 := (y 0).isLt
  have h1 : (y 1).val < 1 := (y 1).isLt
  have h2 : (y 2).val < 8192 := (y 2).isLt
  unfold hostDelta
  rw [hostOut_eq]
  refine (shapeCast_apply _ shapeCasts_S8x8192_S8x1x8192 y (ix2 ⟨(y 0).val, h0⟩ ⟨(y 2).val, h2⟩) ?_).trans ?_
  · rw [Shape.rowMajor_val_two, Shape.rowMajor_val_three]
    show (y 0).val * 8192 + (y 2).val = ((y 0).val * 1 + (y 1).val) * 8192 + (y 2).val
    omega
  refine (transpose_apply [1, 0] _ transposes_S8192x8_S8x8192_1_0 _ (ix2 ⟨(y 2).val, h2⟩ ⟨(y 0).val, h0⟩) (fun c => match c with
    | ⟨0, _⟩ => rfl
    | ⟨1, _⟩ => rfl)).trans ?_
  simp only [Host.reduceAdd, Ideal.hostReduceAdd_def]
  rw [Ideal.hostReduceAdd_single reducesTo_S8192x8x64_S8192x8_d2 (by decide)]
  refine (congrArg (_ + ·) (sum_coe_pad (n := 64) (N := 128) (by norm_num) _ (fun d => M.o (y 0).val (y 2).val d * M.out (y 0).val (y 2).val d)
    (fun k => ?_) (fun d hd => by rw [M.o_pad _ _ _ hd, zero_mul]))).trans ?_
  · rw [mulf_apply, T.o, is_v40 T, ← EReal.coe_mul]; rfl
  · exact (congrArg (· + _) Ideal.ofBits_zero_f32).trans (zero_add _)

end Cert.Proof.Value
-- ==== Proof.Value.Blocks.lean ====
/- What a grid point reads: the blocks of the arrays the host hands the kernel are head `t / 8`'s and key tile `t % 8`'s. -/
module

public import proofs.«01_k».proof.Proof.Ideal.Run
public import proofs.«01_k».proof.Proof.Value.Walk
public import proofs.«01_k».proof.Proof.Value.Entries

@[expose] public section

noncomputable section

namespace Cert.Proof.Value

open Cert.KernelIdeal Cert.KernelIdeal.Gen Cert.Proof.KernelIdeal
open Idealize.ShloMosaic Idealize.ShloMosaic.TcCoe Idealize.ShloMosaic.ValueIdx Idealize.ShloMosaic.ValueKit Idealize.SL.Sem

variable (m : (ℓ : Loc nD τ sig) → Buf (Elt Ideal) ℓ) (c : Dev nD)

/-! ## Where the blocks lie -/

theorem index0 : ∀ t : Fin cfg0.N, win0_0.index t = ![0, t.val / 8] := (by decide +kernel : ∀ t : Fin grid0.N, _)
theorem index1 : ∀ t : Fin cfg0.N, win0_1.index t = ![t.val % 8, t.val / 8] := (by decide +kernel : ∀ t : Fin grid0.N, _)
theorem index2 : ∀ t : Fin cfg0.N, win0_2.index t = ![t.val % 8, t.val / 8] := (by decide +kernel : ∀ t : Fin grid0.N, _)
theorem index3 : ∀ t : Fin cfg0.N, win0_3.index t = ![t.val / 8, t.val % 8] := (by decide +kernel : ∀ t : Fin grid0.N, _)
theorem index4 : ∀ t : Fin cfg0.N, win0_4.index t = ![0, t.val / 8] := (by decide +kernel : ∀ t : Fin grid0.N, _)
theorem index5 : ∀ t : Fin cfg0.N, win0_5.index t = ![t.val / 8, 0, 0] := (by decide +kernel : ∀ t : Fin grid0.N, _)
theorem index6 : ∀ t : Fin cfg0.N, win0_6.index t = ![t.val / 8, 0, 0] := (by decide +kernel : ∀ t : Fin grid0.N, _)
theorem index7 : ∀ t : Fin cfg0.N, win0_7.index t = ![0, t.val / 8] := (by decide +kernel : ∀ t : Fin grid0.N, _)
theorem index8 : ∀ t : Fin cfg0.N, win0_8.index t = ![t.val % 8, t.val / 8] := (by decide +kernel : ∀ t : Fin grid0.N, _)
theorem index9 : ∀ t : Fin cfg0.N, win0_9.index t = ![t.val % 8, t.val / 8] := (by decide +kernel : ∀ t : Fin grid0.N, _)

/-! ## The blocks, read -/

variable {m c} {M : Model} (T : Top (arg0 m c) (arg1 m c) (arg2 m c) (arg3 m c) M) (t : Fin cfg0.N)

/-- A column of head `g`, by its head and lane. -/
theorem column (f : ℕ → ℕ → ℕ → ℝ) (g i d : ℕ) (hd : d < 128) :
    ((f ((128 * g + d) / 128) i ((128 * g + d) % 128) : ℝ) : EReal) = ((f g i d : ℝ) : EReal) := by
  rw [show (128 * g + d) / 128 = g by omega, show (128 * g + d) % 128 = d by omega]

include T

theorem block_q : Is (iblk m c 0 t) (fun i d => M.q (t.val / 8) i d) := by
  intro a b
  have ht : t.val < 64 := t.isLt
  have hb := b.isLt
  have e : iblk m c 0 t (ix2 a b) = V m c main_v32 (ix2 a ⟨128 * (t.val / 8) + b.val, by omega⟩) := by
    blk_simp [iblk]
    refine congrArg (V m c main_v32) ?_
    blk_ext [index0]
    show t.val / 8 * 128 + b.val = 128 * (t.val / 8) + b.val
    omega
  rw [e, V_q]
  exact (is_wide96 T.q M.q_pad _ _).trans (column M.q _ _ _ hb)

theorem block_o : Is (iblk m c 4 t) (fun i d => M.o (t.val / 8) i d) := by
  intro a b
  have ht : t.val < 64 := t.isLt
  have hb := b.isLt
  have e : iblk m c 4 t (ix2 a b) = V m c main_v41 (ix2 a ⟨128 * (t.val / 8) + b.val, by omega⟩) := by
    blk_simp [iblk]
    refine congrArg (V m c main_v41) ?_
    blk_ext [index4]
    show t.val / 8 * 128 + b.val = 128 * (t.val / 8) + b.val
    omega
  rw [e, V_o]
  exact (is_wide64 T.o M.o_pad _ _).trans (column M.o _ _ _ hb)

theorem block_k : Is (iblk m c 1 t) (fun a d => M.k (t.val / 8) (1024 * (t.val % 8) + a) d) := by
  intro a b
  have ht : t.val < 64 := t.isLt
  have ha := a.isLt
  have hb := b.isLt
  have e : iblk m c 1 t (ix2 a b) = V m c main_v35 (ix2 ⟨1024 * (t.val % 8) + a.val, by omega⟩ ⟨128 * (t.val / 8) + b.val, by omega⟩) := by
    blk_simp [iblk]
    refine congrArg (V m c main_v35) ?_
    blk_ext [index1]
    · show t.val % 8 * 1024 + a.val = 1024 * (t.val % 8) + a.val
      omega
    · show t.val / 8 * 128 + b.val = 128 * (t.val / 8) + b.val
      omega
  rw [e, V_k]
  exact (is_wide96 T.k M.k_pad _ _).trans (column M.k _ _ _ hb)

theorem block_v : Is (iblk m c 2 t) (fun a d => M.v (t.val / 8) (1024 * (t.val % 8) + a) d) := by
  intro a b
  have ht : t.val < 64 := t.isLt
  have ha := a.isLt
  have hb := b.isLt
  have e : iblk m c 2 t (ix2 a b) = V m c main_v38 (ix2 ⟨1024 * (t.val % 8) + a.val, by omega⟩ ⟨128 * (t.val / 8) + b.val, by omega⟩) := by
    blk_simp [iblk]
    refine congrArg (V m c main_v38) ?_
    blk_ext [index2]
    · show t.val % 8 * 1024 + a.val = 1024 * (t.val % 8) + a.val
      omega
    · show t.val / 8 * 128 + b.val = 128 * (t.val / 8) + b.val
      omega
  rw [e, V_v]
  exact (is_wide64 T.v M.v_pad _ _).trans (column M.v _ _ _ hb)

theorem block_kt : Is (iblk m c 3 t) (fun d a => M.k (t.val / 8) (1024 * (t.val % 8) + a) d) := by
  intro b a
  have ht : t.val < 64 := t.isLt
  have ha := a.isLt
  have hb := b.isLt
  have e : iblk m c 3 t (ix2 b a) = V m c main_v42 (ix2 ⟨128 * (t.val / 8) + b.val, by omega⟩ ⟨1024 * (t.val % 8) + a.val, by omega⟩) := by
    blk_simp [iblk]
    refine congrArg (V m c main_v42) ?_
    blk_ext [index3]
    · show t.val / 8 * 128 + b.val = 128 * (t.val / 8) + b.val
      omega
    · show t.val % 8 * 1024 + a.val = 1024 * (t.val % 8) + a.val
      omega
  rw [e, V_kt]
  exact (is_flip (is_wide96 T.k M.k_pad) _ _).trans (column M.k _ _ _ hb)

omit T in
theorem emb_lse (y : S1x1x8192.Idx) (z : S8x1x8192.Idx) (h0 : (z 0).val = t.val / 8) (h2 : (z 2).val = (y 2).val) :
    ((win0_5.blk t).view.emb y : S8x1x8192.Idx) = z := by
  have hy0 : (y 0).val < 1 := (y 0).isLt
  have hy1 : (y 1).val < 1 := (y 1).isLt
  have hz1 : (z 1).val < 1 := (z 1).isLt
  blk_ext [index5]

omit T in
theorem read_lse (y : S1x1x8192.Idx) (z : S8x1x8192.Idx) (h0 : (z 0).val = t.val / 8) (h2 : (z 2).val = (y 2).val) :
    iblk m c 5 t y = V m c main_v25 z := by
  unfold iblk
  refine (cast_eq _ _).trans ?_
  exact congrArg (V m c (Pipeline.arrRef spec0 5)) (emb_lse t y z h0 h2)

theorem block_lse : IsRow (iblk m c 5 t) (fun i => M.lse (t.val / 8) i) := fun b =>
  have ht : t.val / 8 < 8 := Nat.div_lt_of_lt_mul t.isLt
  (read_lse t _ (ix3 (⟨t.val / 8, ht⟩ : Fin 8) (0 : Fin 1) b) rfl rfl).trans ((congrFun (V_lse m c) _).trans (is_hostLse T _))

omit T in
theorem emb_delta (y : S1x1x8192.Idx) (z : S8x1x8192.Idx) (h0 : (z 0).val = t.val / 8) (h2 : (z 2).val = (y 2).val) :
    ((win0_6.blk t).view.emb y : S8x1x8192.Idx) = z := by
  have hy0 : (y 0).val < 1 := (y 0).isLt
  have hy1 : (y 1).val < 1 := (y 1).isLt
  have hz1 : (z 1).val < 1 := (z 1).isLt
  blk_ext [index6]

omit T in
theorem read_delta (y : S1x1x8192.Idx) (z : S8x1x8192.Idx) (h0 : (z 0).val = t.val / 8) (h2 : (z 2).val = (y 2).val) :
    iblk m c 6 t y = V m c main_v29 z := by
  unfold iblk
  refine (cast_eq _ _).trans ?_
  exact congrArg (V m c (Pipeline.arrRef spec0 6)) (emb_delta t y z h0 h2)

theorem block_delta : IsRow (iblk m c 6 t) (fun i => M.delta (t.val / 8) i) := fun b =>
  have ht : t.val / 8 < 8 := Nat.div_lt_of_lt_mul t.isLt
  (read_delta t _ (ix3 (⟨t.val / 8, ht⟩ : Fin 8) (0 : Fin 1) b) rfl rfl).trans ((congrFun (V_delta m c) _).trans (is_hostDelta T _))

omit T in
theorem pay54_eq (x : FVec Ideal S1024x128 .bf16) : k0_pay54 x = x := shapeCast_self _ _
omit T in
theorem pay55_eq (x : FVec Ideal S1024x128 .bf16) : k0_pay55 x = x := shapeCast_self _ _
omit T in
theorem pay56_eq (x : FVec Ideal S96x1024 .bf16) : k0_pay56 x = x := shapeCast_self _ _

omit T in
theorem reads_envOf {h j : ℕ} {x2 : FVec Ideal S8192x128 .bf16} {x3 x4 : FVec Ideal S1024x128 .bf16} {x5 : FVec Ideal S128x1024 .bf16} {x6 : FVec Ideal S8192x128 .bf16}
    {x7 x8 : FVec Ideal S1x1x8192 .f32} (h2 : Is x2 (fun i d => M.q h i d)) (h3 : Is x3 (fun a d => M.k h (1024 * j + a) d))
    (h4 : Is x4 (fun a d => M.v h (1024 * j + a) d)) (h5 : Is x5 (fun d a => M.k h (1024 * j + a) d)) (h6 : Is x6 (fun i d => M.o h i d))
    (h7 : IsRow x7 (fun i => M.lse h i)) (h8 : IsRow x8 (fun i => M.delta h i)) : Reads (envOf x2 x3 x4 x5 x6 x7 x8) M h j := by
  unfold envOf
  rw [pay54_eq, pay55_eq, pay56_eq]
  exact ⟨h3, h4, h5.upper, h2, h6, h7, h8⟩

/-- Everything a grid point reads is its head's and its key tile's. -/
theorem reads : Reads (envAt m c t) M (t.val / 8) (t.val % 8) :=
  reads_envOf (block_q T t) (block_k T t) (block_v T t) (block_kt T t) (block_o T t) (block_lse T t) (block_delta T t)

end Cert.Proof.Value
-- ==== Proof.Value.Query.lean ====
/- What the grid points leave: the gradient of q gathers the key tiles one after another, and a head's last point writes
   it out; the gradients of k and v of a tile are written by its own point. -/
module

public import proofs.«01_k».proof.Proof.Value.Blocks

@[expose] public section

noncomputable section

namespace Cert.Proof.Value

open Cert.KernelIdeal Cert.KernelIdeal.Gen Cert.Proof.KernelIdeal
open Idealize.ShloMosaic Idealize.ShloMosaic.TcCoe Idealize.ShloMosaic.ValueIdx Idealize.ShloMosaic.ValueKit Idealize.SL.Sem

/-- The first `J` key tiles' part of the gradient of q, before scaling. -/
def gathered (M : Model) (h J d i : ℕ) : ℝ := ∑ x ∈ Finset.range (1024 * J), M.k h x d * M.ds h i x

theorem gathered_succ (M : Model) (h J d i : ℕ) : gathered M h J d i + tilePart M h J d i = gathered M h (J + 1) d i := by
  unfold gathered tilePart
  rw [show 1024 * (J + 1) = 1024 * J + 1024 by omega, Finset.sum_range_add]

variable {m : (ℓ : Loc nD τ sig) → Buf (Elt Ideal) ℓ} {c : Dev nD}
variable {M : Model} (T : Top (arg0 m c) (arg1 m c) (arg2 m c) (arg3 m c) M)
include T

omit T in
/-- A head starts from nothing. -/
theorem is_cleared (h : ℕ) (D : FVec Ideal S128x8192 .f32) : Is (startQuery 0 D) (gathered M h 0) := by
  intro a b
  unfold startQuery gathered
  rw [if_pos rfl, show k0_pay53 (F := Ideal) = broadcast S128x8192 (Scalar.ofBits .f32 0x00000000#32) from shapeCast_self _ _]
  exact (broadcast_apply _ _).trans ((congrArg _ rfl).trans zero_word)

/-- What point `t` leaves, given what the head's earlier points left. -/
theorem point_of (t : Fin cfg0.N) (h : Is (startQuery (t.val % 8) (queryAt m c t.val)) (gathered M (t.val / 8) (t.val % 8))) :
    Is (accAt m c t).dqt (gathered M (t.val / 8) (t.val % 8 + 1))
    ∧ Is (accAt m c t).dk (fun a d => ∑ i ∈ Finset.range 8192, M.ds (t.val / 8) i (1024 * (t.val % 8) + a) * M.q (t.val / 8) i d)
    ∧ Is (accAt m c t).dv (fun a d => M.dv (t.val / 8) (1024 * (t.val % 8) + a) d) := by
  have hp := is_point (reads T t) (Nat.mod_lt _ (by decide)) h
  unfold accAt
  rw [coord_one]
  exact ⟨hp.1.congr fun d i _ _ => gathered_succ _ _ _ _ _, hp.2⟩

/-- Before a point the head's earlier points have gathered their tiles. -/
theorem before : ∀ n : ℕ, n < 64 → Is (startQuery (n % 8) (queryAt m c n)) (gathered M (n / 8) (n % 8))
  | 0, _ => is_cleared 0 _
  | n + 1, hn => by
    by_cases h8 : (n + 1) % 8 = 0
    · rw [h8]; exact is_cleared _ _
    · have hb := (point_of T ⟨n, show n < 64 by omega⟩ (before n (by omega))).1
      rw [show (n + 1) % 8 = n % 8 + 1 by omega, show (n + 1) / 8 = n / 8 by omega]
      unfold startQuery
      rw [if_neg (by omega), queryAt_succ m c ⟨n, show n < 64 by omega⟩]
      exact hb

/-- What every point leaves. -/
theorem point (t : Fin cfg0.N) :
    Is (accAt m c t).dqt (gathered M (t.val / 8) (t.val % 8 + 1))
    ∧ Is (accAt m c t).dk (fun a d => ∑ i ∈ Finset.range 8192, M.ds (t.val / 8) i (1024 * (t.val % 8) + a) * M.q (t.val / 8) i d)
    ∧ Is (accAt m c t).dv (fun a d => M.dv (t.val / 8) (1024 * (t.val % 8) + a) d) :=
  point_of T t (before T t.val t.isLt)

omit T in
/-- The write-out of a row tile of the gradient of q: turned back, scaled. -/
theorem pay48_apply (v : FVec Ideal S128x1024 .f32) (a : Fin 1024) (b : Fin 128) :
    (k0_pay48 (F := Ideal) v (ix2 a b) : EReal) = (v (ix2 b a) : EReal) * ((scale : ℝ) : EReal) := by
  unfold k0_pay48
  show (transpose S1024x128 [1, 0] v transposes_S128x1024_p1_0_S1024x128 (ix2 a b)) * Ideal.ofBits .f32 0x3DD105EC#32 = _
  rw [scale_word]
  exact congrArg (fun r : EReal => r * ((scale : ℝ) : EReal)) (transpose_apply [1, 0] v transposes_S128x1024_p1_0_S1024x128 (ix2 a b) (ix2 b a) (fun c => match c with
    | ⟨0, _⟩ => rfl
    | ⟨1, _⟩ => rfl))

omit T in
theorem is_queryOut {D : FVec Ideal S128x8192 .f32} {f : ℕ → ℕ → ℝ} (hD : Is D f) (y : S8192x128.Idx) :
    queryOut D y = ((f (y 1).val (y 0).val * scale : ℝ) : EReal) := by
  have h0 : (y 0).val < 8192 := (y 0).isLt
  have h1 : (y 1).val < 128 := (y 1).isLt
  have e : queryOut D y = k0_pay48 (F := Ideal) (colTile D ((y 0).val / 1024)) (ix2 ⟨(y 0).val % 1024, Nat.mod_lt _ (by decide)⟩ ⟨(y 1).val, h1⟩) := by
    unfold queryOut
    refine congrArg (k0_pay48 (F := Ideal) (colTile D ((y 0).val / 1024))) (funext (Fin.forall_fin_two.mpr ⟨rfl, rfl⟩))
  rw [e, pay48_apply, hD.column (by omega), ← EReal.coe_mul]
  show ((f (y 1).val (1024 * ((y 0).val / 1024) + (y 0).val % 1024) * scale : ℝ) : EReal) = _
  rw [Nat.div_add_mod]

omit T in
theorem is_pay72 {x : FVec Ideal S1024x128 .f32} {f : ℕ → ℕ → ℝ} (hx : Is x f) (a : Fin 1024) (b : Fin 128) :
    k0_pay72 x (ix2 a b) = ((f a.val b.val * scale : ℝ) : EReal) := by
  unfold k0_pay72
  show x (ix2 a b) * Ideal.ofBits .f32 0x3DD105EC#32 = _
  rw [scale_word, hx, ← EReal.coe_mul]

end Cert.Proof.Value
-- ==== Proof.Value.Results.lean ====
/- The three results as the kernel leaves them: every entry is the gradient's, by its row, head and lane. -/
module

public import proofs.«01_k».proof.Proof.Value.Query

@[expose] public section

noncomputable section

namespace Cert.Proof.Value

open Cert.KernelIdeal Cert.KernelIdeal.Gen Cert.Proof.KernelIdeal
open Idealize.ShloMosaic Idealize.ShloMosaic.TcCoe Idealize.ShloMosaic.ValueIdx Idealize.ShloMosaic.ValueKit Idealize.SL.Sem

/-- A gradient's entries, its heads side by side. -/
def joined (f : ℕ → ℕ → ℕ → ℝ) : S8192x1024.Idx → EReal := fun y => ((f ((y 1).val / 128) (y 0).val ((y 1).val % 128) : ℝ) : EReal)

theorem joined_at (f : ℕ → ℕ → ℕ → ℝ) {g i d : ℕ} (z : S8192x1024.Idx) (h0 : (z 0).val = i) (h1 : (z 1).val = 128 * g + d) (hd : d < 128) :
    joined f z = ((f g i d : ℝ) : EReal) := by
  unfold joined
  rw [h0, h1]
  exact column f g i d hd

variable {m : (ℓ : Loc nD τ sig) → Buf (Elt Ideal) ℓ} {c : Dev nD}
variable {M : Model} (T : Top (arg0 m c) (arg1 m c) (arg2 m c) (arg3 m c) M) (t : Fin cfg0.N)

theorem emb7_0 (y : S8192x128.Idx) : (((win0_7.blk t).view.emb y : S8192x1024.Idx) 0).val = (y 0).val := by
  blk_simp [index7]

theorem emb7_1 (y : S8192x128.Idx) : (((win0_7.blk t).view.emb y : S8192x1024.Idx) 1).val = 128 * (t.val / 8) + (y 1).val := by
  blk_simp [index7]
  show t.val / 8 * 128 + (y 1).val = 128 * (t.val / 8) + (y 1).val
  omega

theorem emb8_0 (y : S1024x128.Idx) : (((win0_8.blk t).view.emb y : S8192x1024.Idx) 0).val = 1024 * (t.val % 8) + (y 0).val := by
  blk_simp [index8]
  show t.val % 8 * 1024 + (y 0).val = 1024 * (t.val % 8) + (y 0).val
  omega

theorem emb8_1 (y : S1024x128.Idx) : (((win0_8.blk t).view.emb y : S8192x1024.Idx) 1).val = 128 * (t.val / 8) + (y 1).val := by
  blk_simp [index8]
  show t.val / 8 * 128 + (y 1).val = 128 * (t.val / 8) + (y 1).val
  omega

theorem emb9_0 (y : S1024x128.Idx) : (((win0_9.blk t).view.emb y : S8192x1024.Idx) 0).val = 1024 * (t.val % 8) + (y 0).val := by
  blk_simp [index9]
  show t.val % 8 * 1024 + (y 0).val = 1024 * (t.val % 8) + (y 0).val
  omega

theorem emb9_1 (y : S1024x128.Idx) : (((win0_9.blk t).view.emb y : S8192x1024.Idx) 1).val = 128 * (t.val / 8) + (y 1).val := by
  blk_simp [index9]
  show t.val / 8 * 128 + (y 1).val = 128 * (t.val / 8) + (y 1).val
  omega

theorem flush7 : ∀ t : Fin cfg0.N, win0_7.flush t = true → t.val % 8 = 7 := (by decide +kernel : ∀ t : Fin grid0.N, _)

include T

/-- A head's last point writes its block of the gradient of q. -/
theorem block7 (hf : t.val % 8 = 7) (y : S8192x128.Idx) :
    queryOut (accAt m c t).dqt y = joined M.dq ((win0_7.blk t).view.emb y : S8192x1024.Idx) := by
  have h1 : (y 1).val < 128 := (y 1).isLt
  rw [is_queryOut (point T t).1 y, joined_at M.dq _ (emb7_0 t y) (emb7_1 t y) h1, hf]
  refine congrArg (fun r : ℝ => ((r * scale : ℝ) : EReal)) ?_
  exact Finset.sum_congr rfl fun x _ => mul_comm _ _

/-- A point writes its key tile's block of the gradient of k. -/
theorem block8 (y : S1024x128.Idx) : k0_pay72 (accAt m c t).dk y = joined M.dk ((win0_8.blk t).view.emb y : S8192x1024.Idx) := by
  have h1 : (y 1).val < 128 := (y 1).isLt
  have e : y = ix2 (y 0) (y 1) := funext (Fin.forall_fin_two.mpr ⟨rfl, rfl⟩)
  rw [joined_at M.dk _ (emb8_0 t y) (emb8_1 t y) h1]
  exact (congrArg (k0_pay72 (F := Ideal) (accAt m c t).dk) e).trans (is_pay72 (point T t).2.1 (y 0) (y 1))

/-- A point writes its key tile's block of the gradient of v. -/
theorem block9 (y : S1024x128.Idx) : k0_pay1 (accAt m c t).dv y = joined M.dv ((win0_9.blk t).view.emb y : S8192x1024.Idx) := by
  have h1 : (y 1).val < 128 := (y 1).isLt
  have e : y = ix2 (y 0) (y 1) := funext (Fin.forall_fin_two.mpr ⟨rfl, rfl⟩)
  rw [joined_at M.dv _ (emb9_0 t y) (emb9_1 t y) h1]
  exact (congrArg (k0_pay1 (F := Ideal) (accAt m c t).dv) e).trans ((point T t).2.2 (y 0) (y 1))

omit t

theorem result7 : (dats m 0 c).arrAt 7 cfg0.N = joined M.dq := by
  refine (dats m 0 c).arrAt_eq_of_covers 7 _ (by decide +kernel) fun t hf y => ?_
  blk_simp
  rw [after0_7]
  exact block7 T t (flush7 t hf) y

theorem result8 : (dats m 0 c).arrAt 8 cfg0.N = joined M.dk := by
  refine (dats m 0 c).arrAt_eq_of_covers 8 _ (by decide +kernel) fun t hf y => ?_
  blk_simp
  rw [after0_8]
  exact block8 T t y

theorem result9 : (dats m 0 c).arrAt 9 cfg0.N = joined M.dv := by
  refine (dats m 0 c).arrAt_eq_of_covers 9 _ (by decide +kernel) fun t hf y => ?_
  blk_simp
  rw [after0_9]
  exact block9 T t y

end Cert.Proof.Value
-- ==== Proof.Value.Ref.lean ====
/- The reference's gradients, read over the reals: a head's lanes of each result are the model's gradients. -/
module

public import proofs.«01_k».proof.Proof.Value.Softmax

@[expose] public section

noncomputable section

namespace Cert.Proof.Value

open Cert.ReferenceIdeal Cert.ReferenceIdeal.Gen Cert.ReferenceIdeal.Read
open Idealize.ShloMosaic Idealize.ShloMosaic.ValueIdx

variable {x0 x1 : S8192x8x96.Idx → EReal} {x2 x3 : S8192x8x64.Idx → EReal} {M : Model} (T : Top x0 x1 x2 x3 M)

section
include T

/-- The products of values and output gradients. -/
theorem is_v42 (y : S8x8192x8192.Idx) :
    val_main_v42 (F := Ideal) x2 x3 y = ((M.dp (y 0).val (y 1).val (y 2).val : ℝ) : EReal) := by
  rw [val_main_v42_apply]
  exact sum_coe_pad (N := 128) (by norm_num) _ (fun d => M.v (y 0).val (y 2).val d * M.o (y 0).val (y 1).val d)
    (fun k => by rw [val_main_v41_apply, T.o, T.v, ← EReal.coe_mul, mul_comm]) (fun d hd => by rw [M.v_pad _ _ _ hd, zero_mul])

theorem is_v38 (y : S8x8192x1.Idx) : val_main_v38 (F := Ideal) x0 x1 y
    = ((1 / (M.total (y 0).val (y 1).val * M.total (y 0).val (y 1).val) : ℝ) : EReal) := by
  have hp := M.total_pos (y 0).val (y 1).isLt
  rw [val_main_v38_apply, val_main_v37_apply, val_main_cst_10_apply, val_main_v36_apply, is_v33 T, Ideal.mulf_def, Ideal.hostDivf_def,
    ← EReal.coe_mul, show FloatOps.ofBits (F := Ideal) .f32 0x3F800000#32 = ((1 : ℝ) : EReal) from one_word]
  exact div_real (mul_pos hp hp).ne'

theorem is_v48 (y : S8x8192.Idx) : val_main_v48 (F := Ideal) x0 x1 x2 x3 y
    = ((∑ j ∈ Finset.range 8192, M.dp (y 0).val (y 1).val j * (1 / (M.total (y 0).val (y 1).val * M.total (y 0).val (y 1).val))
        * M.ex (y 0).val (y 1).val j : ℝ) : EReal) := by
  rw [val_main_v48_apply, val_main_cst_11_apply]
  rw [sum_coe _ (fun j => M.dp (y 0).val (y 1).val j * (1 / (M.total (y 0).val (y 1).val * M.total (y 0).val (y 1).val))
        * M.ex (y 0).val (y 1).val j) (fun k => by
      rw [val_main_v47_apply, val_main_v46_apply, val_main_v45_apply, is_v42 T, is_v38 T, is_v31 T, Ideal.mulf_def, Ideal.mulf_def,
        ← EReal.coe_mul, ← EReal.coe_mul])]
  rw [show FloatOps.ofBits (F := Ideal) .f32 0x00000000#32 = (0 : EReal) from Ideal.ofBits_zero_f32]
  exact zero_add _

/-- The row's part of the softmax's derivative. -/
theorem is_v53 (y : S8x8192.Idx) : val_main_v53 (F := Ideal) x0 x1 x2 x3 y
    = ((-(∑ j ∈ Finset.range 8192, M.dp (y 0).val (y 1).val j * (1 / (M.total (y 0).val (y 1).val * M.total (y 0).val (y 1).val))
        * M.ex (y 0).val (y 1).val j) : ℝ) : EReal) := by
  have h0 : (y 0).val < 8 := (y 0).isLt
  have h1 : (y 1).val < 8192 := (y 1).isLt
  rw [val_main_v53_apply, val_main_cst_12_apply, Fin.sum_univ_one, val_main_v50_apply, val_main_v49_apply, is_v48 T]
  rw [show FloatOps.ofBits (F := Ideal) .f32 0x00000000#32 = (0 : EReal) from Ideal.ofBits_zero_f32]
  refine (zero_add _).trans ((EReal.coe_neg _).symm.trans ?_)
  have e0 : (((y 0).val * 8192 + (y 1).val) * 1 + 0) / 8192 = (y 0).val := by omega
  have e1 : (((y 0).val * 8192 + (y 1).val) * 1 + 0) % 8192 = (y 1).val := by omega
  simp only [Fin.val_zero, e0, e1]

/-- The gradient of the scaled scores. -/
theorem is_v57 (y : S8x8192x8192.Idx) :
    val_main_v57 (F := Ideal) x0 x1 x2 x3 y = ((M.ds (y 0).val (y 1).val (y 2).val : ℝ) : EReal) := by
  have hp := M.total_pos (y 0).val (y 1).isLt
  rw [val_main_v57_apply, select_mask]
  by_cases h : (y 2).val ≤ (y 1).val
  · rw [if_pos h, val_main_v56_apply, val_main_v55_apply, val_main_v52_apply, val_main_v51_apply, val_main_v54_apply, is_v42 T, is_v33 T,
      is_v53 T, is_v31 T, Ideal.mulf_def, Ideal.addf_def, Ideal.hostDivf_def, div_real hp.ne', ← EReal.coe_add, ← EReal.coe_mul,
      ← M.ds_eq _ (y 1).isLt (y 2).val, mul_one_div]
  · rw [if_neg h, M.ds_after _ (by omega), val_main_call1_v0_apply]
    exact zero_word

theorem is_v59 (y : S8x8192x8192.Idx) :
    val_main_v59 (F := Ideal) x0 x1 x2 x3 y = ((M.ds (y 0).val (y 1).val (y 2).val * scale : ℝ) : EReal) := by
  rw [val_main_v59_apply, val_main_v58_apply, val_main_cst_13_apply, is_v57 T, Ideal.mulf_def,
    show FloatOps.ofBits (F := Ideal) .f32 0x3DD105EC#32 = ((scale : ℝ) : EReal) from scale_word, ← EReal.coe_mul]

theorem is_v63 (y : S8192x8x96.Idx) :
    val_main_v63 (F := Ideal) x0 x1 x2 x3 y = ((M.dq (y 1).val (y 0).val (y 2).val : ℝ) : EReal) := by
  rw [val_main_v63_apply, val_main_v62_apply,
    sum_coe _ (fun j => M.ds (y 1).val (y 0).val j * scale * M.k (y 1).val j (y 2).val) (fun k => by rw [is_v59 T, T.k, ← EReal.coe_mul])]
  unfold Model.dq
  rw [Finset.sum_mul]
  exact congrArg _ (Finset.sum_congr rfl fun j _ => by ring)

theorem is_v61 (y : S8192x8x96.Idx) :
    val_main_v61 (F := Ideal) x0 x1 x2 x3 y = ((M.dk (y 1).val (y 0).val (y 2).val : ℝ) : EReal) := by
  rw [val_main_v61_apply, val_main_v60_apply,
    sum_coe _ (fun i => M.ds (y 1).val i (y 0).val * scale * M.q (y 1).val i (y 2).val) (fun k => by rw [is_v59 T, T.q, ← EReal.coe_mul])]
  unfold Model.dk
  rw [Finset.sum_mul]
  exact congrArg _ (Finset.sum_congr rfl fun j _ => by ring)

theorem is_v44 (y : S8192x8x64.Idx) :
    val_main_v44 (F := Ideal) x0 x1 x3 y = ((M.dv (y 1).val (y 0).val (y 2).val : ℝ) : EReal) := by
  rw [val_main_v44_apply, val_main_v43_apply,
    sum_coe _ (fun i => M.prob (y 1).val i (y 0).val * M.o (y 1).val i (y 2).val)
      (fun k => by rw [val_main_v41_apply, is_v35 T, T.o, ← EReal.coe_mul, mul_comm])]
  rfl

end

/-! ## The lanes past a head's width -/

theorem dq_pad (M : Model) (h i : ℕ) {d : ℕ} (hd : 96 ≤ d) : M.dq h i d = 0 := by
  unfold Model.dq
  rw [Finset.sum_eq_zero fun j _ => by rw [M.k_pad _ _ _ hd, mul_zero], zero_mul]
theorem dk_pad (M : Model) (h j : ℕ) {d : ℕ} (hd : 96 ≤ d) : M.dk h j d = 0 := by
  unfold Model.dk
  rw [Finset.sum_eq_zero fun j _ => by rw [M.q_pad _ _ _ hd, mul_zero], zero_mul]
theorem dv_pad (M : Model) (h j : ℕ) {d : ℕ} (hd : 64 ≤ d) : M.dv h j d = 0 := by
  unfold Model.dv
  exact Finset.sum_eq_zero fun j _ => by rw [M.o_pad _ _ _ hd, mul_zero]

/-- Lanes of width 96 joined with zeros. -/
theorem concat_96 (a : S8192x8x96.Idx → EReal) (b : S8192x8x32.Idx → EReal) (f : ℕ → ℕ → ℕ → ℝ)
    (ha : ∀ y, a y = ((f (y 1).val (y 0).val (y 2).val : ℝ) : EReal)) (hb : ∀ y, b y = (0 : EReal))
    (h0 : ∀ h i d, 96 ≤ d → f h i d = 0) (y : S8192x8x128.Idx) :
    concatenate S8192x8x128 2 [⟨S8192x8x96, a⟩, ⟨S8192x8x32, b⟩] concatenates_S8192x8x96_S8192x8x32_S8192x8x128_d2 y
      = ((f (y 1).val (y 0).val (y 2).val : ℝ) : EReal) := by
  by_cases hd : (y 2).val < 96
  · refine (concatenate_pair_apply_left (2 : Fin S8192x8x128.rank) a b concatenates_S8192x8x96_S8192x8x32_S8192x8x128_d2 y rfl
      (ix3 (y 0) (y 1) ⟨(y 2).val, hd⟩) (fun c => by match c with | ⟨0, _⟩ => rfl | ⟨1, _⟩ => rfl | ⟨2, _⟩ => rfl)).trans ?_
    exact ha _
  · have h2 : (y 2).val < 128 := (y 2).isLt
    refine (concatenate_pair_apply_right (2 : Fin S8192x8x128.rank) a b concatenates_S8192x8x96_S8192x8x32_S8192x8x128_d2 y rfl rfl
      (ix3 (y 0) (y 1) ⟨(y 2).val - 96, by omega⟩) ?_ ?_).trans ?_
    · intro c hc
      match c with
      | ⟨0, _⟩ => rfl
      | ⟨1, _⟩ => rfl
      | ⟨2, _⟩ => exact absurd rfl hc
    · show (y 2).val - 96 + 96 = (y 2).val
      omega
    · rw [hb, h0 _ _ _ (by omega)]; rfl

/-- Lanes of width 64 joined with zeros. -/
theorem concat_64 (a : S8192x8x64.Idx → EReal) (b : S8192x8x64.Idx → EReal) (f : ℕ → ℕ → ℕ → ℝ)
    (ha : ∀ y, a y = ((f (y 1).val (y 0).val (y 2).val : ℝ) : EReal)) (hb : ∀ y, b y = (0 : EReal))
    (h0 : ∀ h i d, 64 ≤ d → f h i d = 0) (y : S8192x8x128.Idx) :
    concatenate S8192x8x128 2 [⟨S8192x8x64, a⟩, ⟨S8192x8x64, b⟩] concatenates_S8192x8x64_S8192x8x64_S8192x8x128_d2 y
      = ((f (y 1).val (y 0).val (y 2).val : ℝ) : EReal) := by
  by_cases hd : (y 2).val < 64
  · refine (concatenate_pair_apply_left (2 : Fin S8192x8x128.rank) a b concatenates_S8192x8x64_S8192x8x64_S8192x8x128_d2 y rfl
      (ix3 (y 0) (y 1) ⟨(y 2).val, hd⟩) (fun c => by match c with | ⟨0, _⟩ => rfl | ⟨1, _⟩ => rfl | ⟨2, _⟩ => rfl)).trans ?_
    exact ha _
  · have h2 : (y 2).val < 128 := (y 2).isLt
    refine (concatenate_pair_apply_right (2 : Fin S8192x8x128.rank) a b concatenates_S8192x8x64_S8192x8x64_S8192x8x128_d2 y rfl rfl
      (ix3 (y 0) (y 1) ⟨(y 2).val - 64, by omega⟩) ?_ ?_).trans ?_
    · intro c hc
      match c with
      | ⟨0, _⟩ => rfl
      | ⟨1, _⟩ => rfl
      | ⟨2, _⟩ => exact absurd rfl hc
    · show (y 2).val - 64 + 64 = (y 2).val
      omega
    · rw [hb, h0 _ _ _ (by omega)]; rfl

/-- A head and a lane from a column of the joined heads. -/
theorem lanes (f : ℕ → ℕ → ℕ → ℝ) {i c : ℕ} (hc : c < 1024) :
    ((f ((i * 1024 + c) / 128 % 8) ((i * 1024 + c) / 1024) ((i * 1024 + c) % 128) : ℝ) : EReal) = ((f (c / 128) i (c % 128) : ℝ) : EReal) := by
  have e0 : (i * 1024 + c) / 128 % 8 = c / 128 := by omega
  have e1 : (i * 1024 + c) / 1024 = i := by omega
  have e2 : (i * 1024 + c) % 128 = c % 128 := by omega
  rw [e0, e1, e2]

/-! ## The three results -/

include T

theorem is_v68 (y : S8192x1024.Idx) : val_main_v68 (F := Ideal) x0 x1 x2 x3 y
    = ((M.dq ((y 1).val / 128) (y 0).val ((y 1).val % 128) : ℝ) : EReal) := by
  have h1 : (y 1).val < 1024 := (y 1).isLt
  rw [val_main_v68_apply, Ideal.truncf_def, val_main_v67_apply]
  refine (concat_96 _ _ M.dq (is_v63 T) (fun z => (val_main_v64_apply (F := Ideal) z).trans Ideal.ofBits_zero_f32)
    (fun h i d hd => dq_pad M h i hd) _).trans ?_
  exact lanes M.dq h1

theorem is_v71 (y : S8192x1024.Idx) : val_main_v71 (F := Ideal) x0 x1 x2 x3 y
    = ((M.dk ((y 1).val / 128) (y 0).val ((y 1).val % 128) : ℝ) : EReal) := by
  have h1 : (y 1).val < 1024 := (y 1).isLt
  rw [val_main_v71_apply, Ideal.truncf_def, val_main_v70_apply]
  refine (concat_96 _ _ M.dk (is_v61 T) (fun z => (val_main_v64_apply (F := Ideal) z).trans Ideal.ofBits_zero_f32)
    (fun h i d hd => dk_pad M h i hd) _).trans ?_
  exact lanes M.dk h1

theorem is_v74 (y : S8192x1024.Idx) : val_main_v74 (F := Ideal) x0 x1 x3 y
    = ((M.dv ((y 1).val / 128) (y 0).val ((y 1).val % 128) : ℝ) : EReal) := by
  have h1 : (y 1).val < 1024 := (y 1).isLt
  rw [val_main_v74_apply, Ideal.truncf_def, val_main_v73_apply]
  refine (concat_64 _ _ M.dv (is_v44 T) (fun z => (val_main_v65_apply (F := Ideal) z).trans Ideal.ofBits_zero_f32)
    (fun h i d hd => dv_pad M h i hd) _).trans ?_
  exact lanes M.dv h1

end Cert.Proof.Value
-- ==== Proof.Value.Equal.lean ====
/- The kernel's results are the reference's: each program ends with the gradient of the attention, entry by entry. -/
module

public import proofs.«01_k».proof.Proof.Value.Pre
public import proofs.«01_k».proof.Proof.Value.Results
public import proofs.«01_k».proof.Proof.Value.Ref
public import proofs.«01_k».proof.Proof.Gen.ReferenceIdeal.Run

@[expose] public section

noncomputable section

namespace Cert.Proof.Value

open Idealize.ShloMosaic Idealize.ShloMosaic.TcCoe Idealize.SL.Sem

section Kernel

open Cert.KernelIdeal Cert.KernelIdeal.Gen Cert.Proof.KernelIdeal

variable (m : (ℓ : Loc nD τ sig) → Buf (Elt Ideal) ℓ) (g : Dev nD → PrngReg)

/-- The numbers of a device. -/
def numbers (c : Dev nD) : Model := modelOf (arg0 m c) (arg1 m c) (arg2 m c) (arg3 m c)

theorem kernel_run (hT : ∀ c, Top (arg0 m c) (arg1 m c) (arg2 m c) (arg3 m c) (numbers m c)) :
    θ_run (defs (F := Ideal)) (onTc (τ := τ) (main (F := Ideal))) ⟨m, fun _ => 0, g⟩ (fun r => ∀ c : Dev nD,
      r.2.mem ((c.tc : Thread nD τ).loc main_v43_0) = joined (numbers m c).dq
      ∧ r.2.mem ((c.tc : Thread nD τ).loc main_v43_1) = joined (numbers m c).dk
      ∧ r.2.mem ((c.tc : Thread nD τ).loc main_v43_2) = joined (numbers m c).dv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(Pipeline.FramePost.out_eq h.1 c 7).trans (result7 (hT c)), (Pipeline.FramePost.out_eq h.1 c 8).trans (result8 (hT c)),
      (Pipeline.FramePost.out_eq h.1 c 9).trans (result9 (hT c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run m g)

end Kernel

section Reference

open Cert.ReferenceIdeal Cert.ReferenceIdeal.Read

variable {x0 x1 : S8192x8x96.Idx → EReal} {x2 x3 : S8192x8x64.Idx → EReal} {M : Model} (T : Top x0 x1 x2 x3 M)
include T

theorem reference_q : val_main_v68 (F := Ideal) x0 x1 x2 x3 = joined M.dq := funext fun y => is_v68 T y
theorem reference_k : val_main_v71 (F := Ideal) x0 x1 x2 x3 = joined M.dk := funext fun y => is_v71 T y
theorem reference_v : val_main_v74 (F := Ideal) x0 x1 x3 = joined M.dv := funext fun y => is_v74 T y

end Reference

theorem equal : Cert.algebraic_KernelIdeal_ReferenceIdeal_pre_finite_inputs := by
  intro m g m' g' hpre hargs
  have hT : ∀ c, Top (arg0 m c) (arg1 m c) (arg2 m c) (arg3 m c) (numbers m c) := fun c =>
    have h := real_of_pre hpre c
    top_modelOf _ _ _ _ h.1 h.2.1 h.2.2.1 h.2.2.2
  refine ⟨fun c => joined (numbers m c).dq, fun c => joined (numbers m c).dk, fun c => joined (numbers m c).dv, kernel_run m g hT, ?_⟩
  refine (θ_run Cert.ReferenceIdeal.defs _ _).mono (fun r h c => ?_) (Cert.ReferenceIdeal.Value.run (F := Ideal) m' g')
  obtain ⟨e0, e1, e2, e3⟩ := hargs c
  obtain ⟨hq, hk, hv, hrest⟩ := h c
  refine ⟨hq.trans ?_, hk.trans ?_, hv.trans ?_, hrest⟩
  · rw [Cert.ReferenceIdeal.Read.val_main_v68_eq, e0, e1, e2, e3]
    exact reference_q (hT c)
  · rw [Cert.ReferenceIdeal.Read.val_main_v71_eq, e0, e1, e2, e3]
    exact reference_k (hT c)
  · rw [Cert.ReferenceIdeal.Read.val_main_v74_eq, e0, e1, e3]
    exact reference_v (hT c)

end Cert.Proof.Value
-- ==== Proof.Product.Sum.lean ====
/- A product of two matrices over their rows: one tile's part of it, entry by entry. -/
module

public import Idealize.ShloMosaic.Lib.MatmulPlain
public import Idealize.ShloMosaic.Lib.Pipeline.Value
public import Idealize.ShloMosaic.Lib.Pipeline.ReadBack
public import Idealize.ShloMosaic.Lib.Pipeline.ValueKit.Acc
public import Idealize.ShloMosaic.Lib.Pipeline.ValueKit.Geometry

@[expose] public section

noncomputable section

namespace Cert.Proof.Product

open Idealize.ShloMosaic Idealize.ShloMosaic.ValueIdx

/-- The first matrix transposed times the second: both are summed over their rows. -/
def overRows (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- An entry of such a product, added to what was there. -/
theorem overRows_apply {K M N : ℕ} {φ₁ φ₂ : FTy} (x : FVec Ideal ⟨2, ![K, M]⟩ φ₁) (w : FVec Ideal ⟨2, ![K, N]⟩ φ₂)
    (acc : FVec Ideal ⟨2, ![M, N]⟩ .f32) (i : Fin M) (j : Fin N) :
    addf acc (matmul (overRows K M N) none x w (constant ⟨2, ![M, N]⟩ .f32 0x00000000#32)) (ix2 i j)
      = acc (ix2 i j) + ∑ k : Fin K, x (ix2 k i) * w (ix2 k j) := by
  refine congrArg (acc (ix2 i j) + ·) ((Ideal.matmul_constant_zero_apply (overRows K M N) none x w (ix2 i j)).trans ?_)
  rw [← Equiv.sum_comp (contrEquiv1 (overRows K M N) K rfl rfl).symm]
  refine Finset.sum_congr rfl fun k _ => ?_
  have hk := contrEquiv1_symm_val (overRows K M N) K rfl rfl k
  exact congrArg₂ (· * ·)
    (congrArg x (funext (Fin.forall_fin_two.mpr ⟨Fin.ext hk, rfl⟩)))
    (congrArg w (funext (Fin.forall_fin_two.mpr ⟨Fin.ext hk, rfl⟩)))

/-- Four tiles of 2048 rows, added one after the other: what stands after the fourth is the sum over all 8192 rows. -/
theorem four_tiles {N : ℕ} {ι : Type} (f : (n : ℕ) → n < N → ι → EReal) (term : ℕ → ι → Fin 8192 → EReal)
    (h0 : ∀ t : Fin N, t.val % 4 = 0 → ∀ y, f t.val t.isLt y = 0 + ∑ k : Fin 2048, term (t.val / 4) y ⟨t.val % 4 * 2048 + k.val, by omega⟩)
    (hs : ∀ t : Fin N, ¬t.val % 4 = 0 → ∀ y, f t.val t.isLt y = f (t.val - 1) (Nat.lt_of_le_of_lt (Nat.sub_le _ _) t.isLt) y
      + ∑ k : Fin 2048, term (t.val / 4) y ⟨t.val % 4 * 2048 + k.val, by omega⟩)
    (t : Fin N) (h : t.val % 4 = 3) (y : ι) : f t.val t.isLt y = ∑ l : Fin 8192, term (t.val / 4) y l := by
  rw [Pipeline.eq_sum_fin_of_reset_step_apply_of_flush f 4 (fun _ => 0) _ h0 hs t h y, zero_add]
  refine Fin.sum_mul_add_congr fun s k hl => ?_
  have e1 : (4 * (t.val / 4) + s.val) / 4 = t.val / 4 := by omega
  have e2 : (4 * (t.val / 4) + s.val) % 4 = s.val := by omega
  dsimp only
  simp only [e1, e2]

end Cert.Proof.Product
-- ==== Proof.Product.Up.lean ====
/- The product of a 1024-column and a 4096-column matrix over their 8192 rows, its columns in eight slabs of 512: each block of
   2048 columns of the second is a sum over all the rows, and is written as four slabs. -/
module

public import proofs.«01_k».proof.Proof.Gen.Kernel2Ideal.Value
public import proofs.«01_k».proof.Proof.Product.Sum
public import Idealize.ShloMosaic.Lib.Pipeline.ValueKit.Tiles

@[expose] public section

noncomputable section

namespace Cert.Proof.Product.Up

open Cert.Kernel2Ideal Cert.Kernel2Ideal.Gen
open Idealize.ShloMosaic Idealize.ShloMosaic.TcCoe Idealize.ShloMosaic.StableHlo Idealize.ShloMosaic.ValueIdx Idealize.ShloMosaic.ValueKit Idealize.SL.Sem

/-- One tile's part of a block of the product. -/
theorem pay2_apply (acc : FVec Ideal S1024x2048 .f32) (x : FVec Ideal S2048x1024 .bf16) (w : FVec Ideal S2048x2048 .bf16) (y : S1024x2048.Idx) :
    k0_pay2 acc x w y = acc y + ∑ k : Fin 2048, x (ix2 k (y 0)) * w (ix2 k (y 1)) := by
  unfold k0_pay2
  simp only [shapeCast_self]
  have e : y = ix2 (y 0) (y 1) := funext (Fin.forall_fin_two.mpr ⟨rfl, rfl⟩)
  rw [e]
  exact overRows_apply x w acc (y 0) (y 1)

variable (m : (ℓ : Loc nD τ sig) → Buf (Elt Ideal) ℓ) (c : Dev nD)

def arg0 : FVec Ideal S8192x1024 .f32 := m ((c.tc : Thread nD τ).loc main_arg0)
def arg1 : FVec Ideal S8192x4096 .f32 := m ((c.tc : Thread nD τ).loc main_arg1)

theorem V_x : V m c main_v0 = truncf .bf16 (arg0 m c) bitsLt_bf16_f32 := by
  unfold V
  simp only [hostOps0]
  after_results_simp <;> rfl
theorem V_w : V m c main_v1 = truncf .bf16 (arg1 m c) bitsLt_bf16_f32 := by
  unfold V
  simp only [hostOps0]
  after_results_simp <;> rfl

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![t.val / 4, 0, 0] := (by decide +kernel : ∀ t : Fin grid0.N, _)

/-- A column of block `b` of the second matrix. -/
def column (b : ℕ) (j : Fin 2048) : Fin 4096 := ⟨(b * 2048 + j.val) % 4096, Nat.mod_lt _ (by decide)⟩

theorem block_x (t : Fin cfg0.N) (k : Fin 2048) (i : Fin 1024) :
    iblk m c 0 t (ix2 k i) = arg0 m c (ix2 ⟨t.val % 4 * 2048 + k.val, by omega⟩ i) := by
  have e : iblk m c 0 t (ix2 k i) = V m c main_v0 (ix2 ⟨t.val % 4 * 2048 + k.val, by omega⟩ i) := by
    blk_simp [iblk]
    refine congrArg (V m c main_v0) ?_
    blk_ext [index0]
  rw [e, V_x]
  rfl

theorem block_w (t : Fin cfg0.N) (k : Fin 2048) (j : Fin 2048) :
    iblk m c 1 t (ix2 k j) = arg1 m c (ix2 ⟨t.val % 4 * 2048 + k.val, by omega⟩ (column (t.val / 4) j)) := by
  have ht : t.val < 8 := t.isLt
  have e : iblk m c 1 t (ix2 k j) = V m c main_v1 (ix2 ⟨t.val % 4 * 2048 + k.val, by omega⟩ (column (t.val / 4) j)) := by
    blk_simp [iblk]
    refine congrArg (V m c main_v1) ?_
    blk_ext [index1]
    show t.val / 4 * 2048 + j.val = (t.val / 4 * 2048 + j.val) % 4096
    omega
  rw [e, V_w]
  rfl

/-- A point adds its tile's part. -/
theorem step (t : Fin cfg0.N) (acc : FVec Ideal S1024x2048 .f32) (y : S1024x2048.Idx) :
    k0_pay2 acc (iblk m c 0 t) (iblk m c 1 t) y = acc y + ∑ k : Fin 2048,
      arg0 m c (ix2 ⟨t.val % 4 * 2048 + k.val, by omega⟩ (y 0)) * arg1 m c (ix2 ⟨t.val % 4 * 2048 + k.val, by omega⟩ (column (t.val / 4) (y 1))) := by
  rw [pay2_apply]
  exact congrArg (acc y + ·) (Finset.sum_congr rfl fun k _ =>
    congrArg₂ (· * ·) (block_x m c t k (y 0)) (block_w m c t k (y 1)))

/-- A column, by its slab. -/
theorem slab_lt (y : S8x1024x512.Idx) : (y 0).val * 512 + (y 2).val < 4096 := by
  have h0 : (y 0).val < 8 := (y 0).isLt
  have h2 : (y 2).val < 512 := (y 2).isLt
  omega

/-- The product, its columns in slabs. -/
def product (x : FVec Ideal S8192x1024 .f32) (w : FVec Ideal S8192x4096 .f32) : S8x1024x512.Idx → EReal :=
  fun y => ∑ l : Fin 8192, x (ix2 l (y 1)) * w (ix2 l ⟨(y 0).val * 512 + (y 2).val, slab_lt y⟩)

theorem kept (t : Fin cfg0.N) (h : t.val % 4 = 3) (y : S1024x2048.Idx) :
    (outsAt0 m c t.val t.isLt).2 y = ∑ l : Fin 8192, arg0 m c (ix2 l (y 0)) * arg1 m c (ix2 l (column (t.val / 4) (y 1))) := by
  refine four_tiles (fun n h => (outsAt0 m c n h).2) (fun b y l => arg0 m c (ix2 l (y 0)) * arg1 m c (ix2 l (column b (y 1))))
    (fun t h y => ?_) (fun t h y => ?_) t h y
  · rw [outsAt0_A m c t h (by omega)]
    frame_out
    rw [step]
    refine congrArg (· + _) ?_
    unfold k0_pay1
    rw [shapeCast_self]
    exact Ideal.ofBits_zero_f32
  · by_cases h1 : t.val % 4 = 3
    · rw [outsAt0_C m c t h h1]
      frame_out
      rw [read_unread_whole]
      exact step m c t _ y
    · rw [outsAt0_B m c t h h1]
      frame_out
      rw [read_unread_whole]
      exact step m c t _ y

/-- A slab as it is written, read from the sum. -/
theorem slab_apply (acc : Vec Ideal S1024x2048 .f32) {o : ℕ} (inb : ∀ a, (![0, o] : Fin 2 → ℕ) a + S1024x512.size a ≤ S1024x2048.size a)
    (x : S1x1024x512.Idx) (z : S1024x2048.Idx) (h0 : (z 0).val = (x 1).val) (h1 : (z 1).val = o + (x 2).val) :
    k0_pay3 (F := Ideal) (View.ld acc (Rect.unit (s := S1024x2048) ![0, o] S1024x512.size inb)) x = acc z := by
  have hx : (x 0).val < 1 := (x 0).isLt
  unfold k0_pay3
  refine (shapeCast_apply _ shapeCasts_S1024x512_S1x1024x512 x (ix2 (x 1) (x 2)) ?_).trans ?_
  · rw [Shape.rowMajor_val_two, Shape.rowMajor_val_three]
    show (x 1).val * 512 + (x 2).val = ((x 0).val * 1024 + (x 1).val) * 512 + (x 2).val
    omega
  · refine congrArg acc (funext (Fin.forall_fin_two.mpr ⟨Fin.ext ?_, Fin.ext ?_⟩))
    · show 0 + 1 * (x 1).val = (z 0).val
      omega
    · show o + 1 * (x 2).val = (z 1).val
      omega

theorem at_zero : ∀ a : Fin S1024x2048.rank, (![0, 0] : Fin 2 → ℕ) a = 0 := Fin.forall_fin_two.mpr ⟨rfl, rfl⟩

/-- The last point of a block writes the sum back, slab by slab. -/
theorem written (t : Fin cfg0.N) (h : t.val % 4 = 3) (y : S4x1024x512.Idx) (z : S1024x2048.Idx) (h0 : (z 0).val = (y 1).val)
    (h1 : (z 1).val = (y 0).val * 512 + (y 2).val) : (outsAt0 m c t.val t.isLt).1 y = (outsAt0 m c t.val t.isLt).2 z := by
  rw [outsAt0_C m c t (by omega) h]
  frame_out
  generalize k0_pay2 (F := Ideal) _ _ _ = acc
  canon_tiles x h
  all_goals
    rw [View.readCov_fill _ _ _ _ _ at_zero]
    exact slab_apply acc _ x z (by omega) (by omega)

theorem flushes : ∀ t : Fin cfg0.N, win0_2.flush t = true → t.val % 4 = 3 := (by decide +kernel : ∀ t : Fin grid0.N, _)

theorem emb0 (t : Fin cfg0.N) (y : S4x1024x512.Idx) : (((win0_2.blk t).view.emb y : S8x1024x512.Idx) 0).val = t.val / 4 * 4 + (y 0).val := by
  blk_simp [index2]
theorem emb1 (t : Fin cfg0.N) (y : S4x1024x512.Idx) : (((win0_2.blk t).view.emb y : S8x1024x512.Idx) 1).val = (y 1).val := by
  blk_simp [index2]
theorem emb2 (t : Fin cfg0.N) (y : S4x1024x512.Idx) : (((win0_2.blk t).view.emb y : S8x1024x512.Idx) 2).val = (y 2).val := by
  blk_simp [index2]

/-- A block's entry is the product's. -/
theorem block (t : Fin cfg0.N) (h : t.val % 4 = 3) (y : S4x1024x512.Idx) (z : S8x1024x512.Idx) (h0 : (z 0).val = t.val / 4 * 4 + (y 0).val)
    (h1 : (z 1).val = (y 1).val) (h2 : (z 2).val = (y 2).val) : (outsAt0 m c t.val t.isLt).1 y = product (arg0 m c) (arg1 m c) z := by
  have hy0 : (y 0).val < 4 := (y 0).isLt
  have hy2 : (y 2).val < 512 := (y 2).isLt
  have ht : t.val < 8 := t.isLt
  refine (written m c t h y (ix2 (y 1) ⟨(y 0).val * 512 + (y 2).val, by omega⟩) rfl rfl).trans ((kept m c t h _).trans ?_)
  refine Finset.sum_congr rfl fun l _ => ?_
  refine congrArg₂ (· * ·) (congrArg (arg0 m c) ?_) (congrArg (arg1 m c) ?_)
  · exact funext (Fin.forall_fin_two.mpr ⟨rfl, Fin.ext h1.symm⟩)
  · refine funext (Fin.forall_fin_two.mpr ⟨rfl, Fin.ext ?_⟩)
    show (t.val / 4 * 2048 + ((y 0).val * 512 + (y 2).val)) % 4096 = (z 0).val * 512 + (z 2).val
    omega

theorem result : (dats m 0 c).arrAt 2 cfg0.N = product (arg0 m c) (arg1 m c) := by
  refine (dats m 0 c).arrAt_eq_of_covers 2 _ (by decide +kernel) fun t hf y => ?_
  blk_simp
  rw [after0_2]
  exact block m c t (flushes t hf) y _ (emb0 t y) (emb1 t y) (emb2 t y)

end Cert.Proof.Product.Up
-- ==== Proof.Product.UpEqual.lean ====
/- The product of a 1024-column and a 4096-column matrix, in slabs: kernel and reference leave the same. -/
module

public import proofs.«01_k».proof.Defs
public import proofs.«01_k».proof.Proof.Product.Up
public import proofs.«01_k».proof.Proof.Gen.Reference2Ideal.Run
public import proofs.«01_k».proof.Proof.Gen.Reference2Ideal.Read

@[expose] public section

noncomputable section

namespace Cert.Proof.Product.Up

open Idealize.ShloMosaic Idealize.ShloMosaic.TcCoe Idealize.SL.Sem
open Cert.Reference2Ideal.Read

theorem reference (x : FVec Ideal Cert.Kernel2Ideal.S8192x1024 .f32) (w : FVec Ideal Cert.Kernel2Ideal.S8192x4096 .f32) : val_main_v6 (F := Ideal) x w = product x w := by
  funext y
  rw [val_main_v6_apply, val_main_v5_apply, val_main_v4_apply, val_main_v3_apply, val_main_v2_apply]
  refine Finset.sum_congr rfl fun l _ => (mul_comm _ _).trans ?_
  have h0 : (y 0).val < 8 := (y 0).isLt
  have h1 : (y 1).val < 1024 := (y 1).isLt
  have h2 : (y 2).val < 512 := (y 2).isLt
  refine congrArg₂ (· * ·) (congrArg x (funext (Fin.forall_fin_two.mpr ⟨rfl, Fin.ext ?_⟩))) (congrArg w (funext (Fin.forall_fin_two.mpr ⟨rfl, Fin.ext ?_⟩)))
  · show (((y 1).val * 8 + (y 0).val) * 512 + (y 2).val) / 4096 = (y 1).val
    omega
  · show (((y 1).val * 8 + (y 0).val) * 512 + (y 2).val) % 4096 = (y 0).val * 512 + (y 2).val
    omega

theorem equal : Cert.algebraic_Kernel2Ideal_Reference2Ideal := fun m g m' g' _ hargs =>
  ⟨fun c => product (arg0 m c) (arg1 m c),
    (θ_run Cert.Kernel2Ideal.defs _ _).mono (fun _ h c => ⟨(h c).1.trans (result m c), (h c).2⟩) (Cert.Kernel2Ideal.Value.run_blocks m g),
    (θ_run Cert.Reference2Ideal.defs _ _).mono (fun _ h c => ⟨(h c).1.trans (by
      rw [(hargs c).1, (hargs c).2, val_main_v6_eq]
      exact reference (arg0 m c) (arg1 m c)), (h c).2⟩) (Cert.Reference2Ideal.Value.run m' g')⟩

end Cert.Proof.Product.Up
-- ==== Proof.Product.Down.lean ====
/- The product of a 4096-column and a 1024-column matrix over their 8192 rows: each block of 1024 columns of the first is a sum
   over all the rows. -/
module

public import proofs.«01_k».proof.Proof.Gen.Kernel3Ideal.Value
public import proofs.«01_k».proof.Proof.Product.Sum

@[expose] public section

noncomputable section

namespace Cert.Proof.Product.Down

open Cert.Kernel3Ideal Cert.Kernel3Ideal.Gen
open Idealize.ShloMosaic Idealize.ShloMosaic.TcCoe Idealize.ShloMosaic.StableHlo Idealize.ShloMosaic.ValueIdx Idealize.ShloMosaic.ValueKit Idealize.SL.Sem

/-- One tile's part of a block of the product. -/
theorem pay2_apply (acc : FVec Ideal S1024x1024 .f32) (x w : FVec Ideal S2048x1024 .bf16) (y : S1024x1024.Idx) :
    k0_pay2 acc x w y = acc y + ∑ k : Fin 2048, x (ix2 k (y 0)) * w (ix2 k (y 1)) := by
  unfold k0_pay2
  simp only [shapeCast_self]
  have e : y = ix2 (y 0) (y 1) := funext (Fin.forall_fin_two.mpr ⟨rfl, rfl⟩)
  rw [e]
  exact overRows_apply x w acc (y 0) (y 1)

variable (m : (ℓ : Loc nD τ sig) → Buf (Elt Ideal) ℓ) (c : Dev nD)

def arg0 : FVec Ideal S8192x4096 .f32 := m ((c.tc : Thread nD τ).loc main_arg0)
def arg1 : FVec Ideal S8192x1024 .f32 := m ((c.tc : Thread nD τ).loc main_arg1)

theorem V_x : V m c main_v0 = truncf .bf16 (arg0 m c) bitsLt_bf16_f32 := by
  unfold V
  simp only [hostOps0]
  after_results_simp <;> rfl
theorem V_w : V m c main_v1 = truncf .bf16 (arg1 m c) bitsLt_bf16_f32 := by
  unfold V
  simp only [hostOps0]
  after_results_simp <;> rfl

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

/-- A column of block `b` of the first matrix. -/
def column (b : ℕ) (i : Fin 1024) : Fin 4096 := ⟨(b * 1024 + i.val) % 4096, Nat.mod_lt _ (by decide)⟩

theorem block_x (t : Fin cfg0.N) (k : Fin 2048) (i : Fin 1024) :
    iblk m c 0 t (ix2 k i) = arg0 m c (ix2 ⟨t.val % 4 * 2048 + k.val, by omega⟩ (column (t.val / 4) i)) := by
  have ht : t.val < 16 := t.isLt
  have e : iblk m c 0 t (ix2 k i) = V m c main_v0 (ix2 ⟨t.val % 4 * 2048 + k.val, by omega⟩ (column (t.val / 4) i)) := by
    blk_simp [iblk]
    refine congrArg (V m c main_v0) ?_
    blk_ext [index0]
    show t.val / 4 * 1024 + i.val = (t.val / 4 * 1024 + i.val) % 4096
    omega
  rw [e, V_x]
  rfl

theorem block_w (t : Fin cfg0.N) (k : Fin 2048) (i : Fin 1024) :
    iblk m c 1 t (ix2 k i) = arg1 m c (ix2 ⟨t.val % 4 * 2048 + k.val, by omega⟩ i) := by
  have e : iblk m c 1 t (ix2 k i) = V m c main_v1 (ix2 ⟨t.val % 4 * 2048 + k.val, by omega⟩ i) := by
    blk_simp [iblk]
    refine congrArg (V m c main_v1) ?_
    blk_ext [index1]
  rw [e, V_w]
  rfl

/-- A point adds its tile's part. -/
theorem step (t : Fin cfg0.N) (acc : FVec Ideal S1024x1024 .f32) (y : S1024x1024.Idx) :
    k0_pay2 acc (iblk m c 0 t) (iblk m c 1 t) y = acc y + ∑ k : Fin 2048,
      arg0 m c (ix2 ⟨t.val % 4 * 2048 + k.val, by omega⟩ (column (t.val / 4) (y 0))) * arg1 m c (ix2 ⟨t.val % 4 * 2048 + k.val, by omega⟩ (y 1)) := by
  rw [pay2_apply]
  exact congrArg (acc y + ·) (Finset.sum_congr rfl fun k _ =>
    congrArg₂ (· * ·) (block_x m c t k (y 0)) (block_w m c t k (y 1)))

/-- The product. -/
def product (x : FVec Ideal S8192x4096 .f32) (w : FVec Ideal S8192x1024 .f32) : S4096x1024.Idx → EReal :=
  fun y => ∑ l : Fin 8192, x (ix2 l (y 0)) * w (ix2 l (y 1))

theorem kept (t : Fin cfg0.N) (h : t.val % 4 = 3) (y : S1024x1024.Idx) :
    (outsAt0 m c t.val t.isLt).2 y = ∑ l : Fin 8192, arg0 m c (ix2 l (column (t.val / 4) (y 0))) * arg1 m c (ix2 l (y 1)) := by
  refine four_tiles (fun n h => (outsAt0 m c n h).2) (fun b y l => arg0 m c (ix2 l (column b (y 0))) * arg1 m c (ix2 l (y 1)))
    (fun t h y => ?_) (fun t h y => ?_) t h y
  · rw [outsAt0_A m c t h (by omega)]
    frame_out
    rw [step]
    refine congrArg (· + _) ?_
    unfold k0_pay1
    rw [shapeCast_self]
    exact Ideal.ofBits_zero_f32
  · by_cases h1 : t.val % 4 = 3
    · rw [outsAt0_C m c t h h1]
      frame_out
      rw [read_unread_whole]
      exact step m c t _ y
    · rw [outsAt0_B m c t h h1]
      frame_out
      rw [read_unread_whole]
      exact step m c t _ y

/-- The last point of a block writes the sum back. -/
theorem written (t : Fin cfg0.N) (h : t.val % 4 = 3) (y : S1024x1024.Idx) :
    (outsAt0 m c t.val t.isLt).1 y = (outsAt0 m c t.val t.isLt).2 y := by
  rw [outsAt0_C m c t (by omega) h]
  frame_out
  rfl

theorem flushes : ∀ t : Fin cfg0.N, win0_2.flush t = true → t.val % 4 = 3 := (by decide +kernel : ∀ t : Fin grid0.N, _)

theorem result : (dats m 0 c).arrAt 2 cfg0.N = product (arg0 m c) (arg1 m c) := by
  refine (dats m 0 c).arrAt_eq_of_covers 2 _ (by decide +kernel) fun t hf y => ?_
  have ht : t.val < 16 := t.isLt
  blk_simp
  rw [after0_2]
  refine ((written m c t (flushes t hf) y).trans (kept m c t (flushes t hf) y)).trans ?_
  have e : ∀ z : S4096x1024.Idx, z = ix2 (column (t.val / 4) (y 0)) (y 1) →
      ∑ l : Fin 8192, arg0 m c (ix2 l (column (t.val / 4) (y 0))) * arg1 m c (ix2 l (y 1)) = product (arg0 m c) (arg1 m c) z :=
    fun z hz => by rw [hz]; rfl
  refine e _ ?_
  have hy : (y 0).val < 1024 := (y 0).isLt
  blk_ext [index2]
  show t.val / 4 * 1024 + (y 0).val = (t.val / 4 * 1024 + (y 0).val) % 4096
  omega

end Cert.Proof.Product.Down
-- ==== Proof.Product.DownEqual.lean ====
/- The product of a 4096-column and a 1024-column matrix: kernel and reference leave the same. -/
module

public import proofs.«01_k».proof.Defs
public import proofs.«01_k».proof.Proof.Product.Down
public import proofs.«01_k».proof.Proof.Gen.Reference3Ideal.Run
public import proofs.«01_k».proof.Proof.Gen.Reference3Ideal.Read

@[expose] public section

noncomputable section

namespace Cert.Proof.Product.Down

open Idealize.ShloMosaic Idealize.ShloMosaic.TcCoe Idealize.SL.Sem
open Cert.Reference3Ideal.Read

theorem reference (x : FVec Ideal Cert.Kernel3Ideal.S8192x4096 .f32) (w : FVec Ideal Cert.Kernel3Ideal.S8192x1024 .f32) : val_main_v4 (F := Ideal) x w = product x w := by
  funext y
  rw [val_main_v4_apply, val_main_v3_apply, val_main_v2_apply]
  refine Finset.sum_congr rfl fun l _ => (mul_comm _ _).trans ?_
  exact congrArg₂ (· * ·) (congrArg x (funext (Fin.forall_fin_two.mpr ⟨rfl, rfl⟩))) (congrArg w (funext (Fin.forall_fin_two.mpr ⟨rfl, rfl⟩)))

theorem equal : Cert.algebraic_Kernel3Ideal_Reference3Ideal := fun m g m' g' _ hargs =>
  ⟨fun c => product (arg0 m c) (arg1 m c),
    (θ_run Cert.Kernel3Ideal.defs _ _).mono (fun _ h c => ⟨(h c).1.trans (result m c), (h c).2⟩) (Cert.Kernel3Ideal.Value.run_blocks m g),
    (θ_run Cert.Reference3Ideal.defs _ _).mono (fun _ h c => ⟨(h c).1.trans (by
      rw [(hargs c).1, (hargs c).2, val_main_v4_eq]
      exact reference (arg0 m c) (arg1 m c)), (h c).2⟩) (Cert.Reference3Ideal.Value.run m' g')⟩

end Cert.Proof.Product.Down
-- ==== Proof.Product.Wide.lean ====
/- The same product with the first matrix cast inside the kernel and the sum left as it is: what the kernel leaves is the sum over
   all the rows. -/
module

public import proofs.«01_k».proof.Proof.Gen.Kernel5Ideal.Value
public import proofs.«01_k».proof.Proof.Product.Sum

@[expose] public section

noncomputable section

namespace Cert.Proof.Product.Wide

open Cert.Kernel5Ideal Cert.Kernel5Ideal.Gen
open Idealize.ShloMosaic Idealize.ShloMosaic.TcCoe Idealize.ShloMosaic.StableHlo Idealize.ShloMosaic.ValueIdx Idealize.ShloMosaic.ValueKit Idealize.SL.Sem

/-- One tile's part of the product. -/
theorem pay2_apply (acc : FVec Ideal S1024x1024 .f32) (x : FVec Ideal S2048x1024 .f32) (w : FVec Ideal S2048x1024 .bf16) (y : S1024x1024.Idx) :
    k0_pay2 acc x w y = acc y + ∑ k : Fin 2048, x (ix2 k (y 0)) * w (ix2 k (y 1)) := by
  unfold k0_pay2
  simp only [shapeCast_self]
  have e : y = ix2 (y 0) (y 1) := funext (Fin.forall_fin_two.mpr ⟨rfl, rfl⟩)
  rw [e]
  exact overRows_apply (truncf .bf16 x bitsLt_bf16_f32) w acc (y 0) (y 1)

variable (m : (ℓ : Loc nD τ sig) → Buf (Elt Ideal) ℓ) (c : Dev nD)

def arg0 : FVec Ideal S8192x1024 .f32 := m ((c.tc : Thread nD τ).loc main_arg0)
def arg1 : FVec Ideal S8192x1024 .f32 := m ((c.tc : Thread nD τ).loc main_arg1)

theorem V_w : V m c main_v0 = truncf .bf16 (arg1 m c) bitsLt_bf16_f32 := by
  unfold V
  simp only [hostOps0]
  after_results_simp <;> rfl

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

theorem block_x (t : Fin cfg0.N) (k : Fin 2048) (i : Fin 1024) :
    iblk m c 0 t (ix2 k i) = arg0 m c (ix2 ⟨t.val % 4 * 2048 + k.val, by omega⟩ i) := by
  have e : iblk m c 0 t (ix2 k i) = V m c main_arg0 (ix2 ⟨t.val % 4 * 2048 + k.val, by omega⟩ i) := by
    blk_simp [iblk]
    refine congrArg (V m c main_arg0) ?_
    blk_ext [index0]
  rw [e, V_main_arg0]
  rfl

theorem block_w (t : Fin cfg0.N) (k : Fin 2048) (i : Fin 1024) :
    iblk m c 1 t (ix2 k i) = arg1 m c (ix2 ⟨t.val % 4 * 2048 + k.val, by omega⟩ i) := by
  have e : iblk m c 1 t (ix2 k i) = V m c main_v0 (ix2 ⟨t.val % 4 * 2048 + k.val, by omega⟩ i) := by
    blk_simp [iblk]
    refine congrArg (V m c main_v0) ?_
    blk_ext [index1]
  rw [e, V_w]
  rfl

/-- A point adds its tile's part. -/
theorem step (t : Fin cfg0.N) (acc : FVec Ideal S1024x1024 .f32) (y : S1024x1024.Idx) :
    k0_pay2 acc (iblk m c 0 t) (iblk m c 1 t) y = acc y + ∑ k : Fin 2048,
      arg0 m c (ix2 ⟨t.val % 4 * 2048 + k.val, by omega⟩ (y 0)) * arg1 m c (ix2 ⟨t.val % 4 * 2048 + k.val, by omega⟩ (y 1)) := by
  rw [pay2_apply]
  exact congrArg (acc y + ·) (Finset.sum_congr rfl fun k _ =>
    congrArg₂ (· * ·) (block_x m c t k (y 0)) (block_w m c t k (y 1)))

/-- The product. -/
def product (x w : FVec Ideal S8192x1024 .f32) : S1024x1024.Idx → EReal :=
  fun y => ∑ l : Fin 8192, x (ix2 l (y 0)) * w (ix2 l (y 1))

theorem kept (t : Fin cfg0.N) (h : t.val % 4 = 3) (y : S1024x1024.Idx) :
    (outsAt0 m c t.val t.isLt).2 y = product (arg0 m c) (arg1 m c) y := by
  refine four_tiles (fun n h => (outsAt0 m c n h).2) (fun _ y l => arg0 m c (ix2 l (y 0)) * arg1 m c (ix2 l (y 1)))
    (fun t h y => ?_) (fun t h y => ?_) t h y
  · rw [outsAt0_A m c t h (by omega)]
    frame_out
    rw [step]
    refine congrArg (· + _) ?_
    unfold k0_pay1
    rw [shapeCast_self]
    exact Ideal.ofBits_zero_f32
  · by_cases h1 : t.val % 4 = 3
    · rw [outsAt0_C m c t h h1]
      frame_out
      rw [read_unread_whole]
      exact step m c t _ y
    · rw [outsAt0_B m c t h h1]
      frame_out
      rw [read_unread_whole]
      exact step m c t _ y

/-- The last point of a block writes the sum back. -/
theorem written (t : Fin cfg0.N) (h : t.val % 4 = 3) (y : S1024x1024.Idx) :
    (outsAt0 m c t.val t.isLt).1 y = (outsAt0 m c t.val t.isLt).2 y := by
  rw [outsAt0_C m c t (by omega) h]
  frame_out

theorem flushes : ∀ t : Fin cfg0.N, win0_2.flush t = true → t.val % 4 = 3 := (by decide +kernel : ∀ t : Fin grid0.N, _)

theorem result : (dats m 0 c).arrAt 2 cfg0.N = product (arg0 m c) (arg1 m c) := by
  refine (dats m 0 c).arrAt_eq_of_covers 2 _ (by decide +kernel) fun t hf y => ?_
  blk_simp
  rw [after0_2]
  refine ((written m c t (flushes t hf) y).trans (kept m c t (flushes t hf) y)).trans ?_
  refine congrArg (product (arg0 m c) (arg1 m c)) ?_
  blk_ext [index2]

end Cert.Proof.Product.Wide
-- ==== Proof.Product.WideEqual.lean ====
/- The product with the first matrix cast inside: kernel and reference leave the same. -/
module

public import proofs.«01_k».proof.Defs
public import proofs.«01_k».proof.Proof.Product.Wide
public import proofs.«01_k».proof.Proof.Gen.Reference5Ideal.Run
public import proofs.«01_k».proof.Proof.Gen.Reference5Ideal.Read

@[expose] public section

noncomputable section

namespace Cert.Proof.Product.Wide

open Idealize.ShloMosaic Idealize.ShloMosaic.TcCoe Idealize.SL.Sem
open Cert.Reference5Ideal.Read

theorem reference (x w : FVec Ideal Cert.Kernel5Ideal.S8192x1024 .f32) : val_main_v3 (F := Ideal) x w = product x w := by
  funext y
  rw [val_main_v3_apply, val_main_v2_apply]
  refine Finset.sum_congr rfl fun l _ => (mul_comm _ _).trans ?_
  exact congrArg₂ (· * ·) (congrArg x (funext (Fin.forall_fin_two.mpr ⟨rfl, rfl⟩))) (congrArg w (funext (Fin.forall_fin_two.mpr ⟨rfl, rfl⟩)))

theorem equal : Cert.algebraic_Kernel5Ideal_Reference5Ideal := fun m g m' g' _ hargs =>
  ⟨fun c => product (arg0 m c) (arg1 m c),
    (θ_run Cert.Kernel5Ideal.defs _ _).mono (fun _ h c => ⟨(h c).1.trans (result m c), (h c).2⟩) (Cert.Kernel5Ideal.Value.run_blocks m g),
    (θ_run Cert.Reference5Ideal.defs _ _).mono (fun _ h c => ⟨(h c).1.trans (by
      rw [(hargs c).1, (hargs c).2, val_main_v3_eq]
      exact reference (arg0 m c) (arg1 m c)), (h c).2⟩) (Cert.Reference5Ideal.Value.run m' g')⟩

end Cert.Proof.Product.Wide
-- ==== Proof.Product.Input.lean ====
/- The product of a 1024-column and a 3072-column matrix over their 8192 rows: each block of 1536 columns of the second is a sum
   over all the rows. -/
module

public import proofs.«01_k».proof.Proof.Gen.Kernel6Ideal.Value
public import proofs.«01_k».proof.Proof.Product.Sum

@[expose] public section

noncomputable section

namespace Cert.Proof.Product.Input

open Cert.Kernel6Ideal Cert.Kernel6Ideal.Gen
open Idealize.ShloMosaic Idealize.ShloMosaic.TcCoe Idealize.ShloMosaic.StableHlo Idealize.ShloMosaic.ValueIdx Idealize.ShloMosaic.ValueKit Idealize.SL.Sem

/-- One tile's part of a block of the product. -/
theorem pay2_apply (acc : FVec Ideal S1024x1536 .f32) (x : FVec Ideal S2048x1024 .bf16) (w : FVec Ideal S2048x1536 .bf16) (y : S1024x1536.Idx) :
    k0_pay2 acc x w y = acc y + ∑ k : Fin 2048, x (ix2 k (y 0)) * w (ix2 k (y 1)) := by
  unfold k0_pay2
  simp only [shapeCast_self]
  have e : y = ix2 (y 0) (y 1) := funext (Fin.forall_fin_two.mpr ⟨rfl, rfl⟩)
  rw [e]
  exact overRows_apply x w acc (y 0) (y 1)

variable (m : (ℓ : Loc nD τ sig) → Buf (Elt Ideal) ℓ) (c : Dev nD)

def arg0 : FVec Ideal S8192x1024 .f32 := m ((c.tc : Thread nD τ).loc main_arg0)
def arg1 : FVec Ideal S8192x3072 .f32 := m ((c.tc : Thread nD τ).loc main_arg1)

theorem V_x : V m c main_v0 = truncf .bf16 (arg0 m c) bitsLt_bf16_f32 := by
  unfold V
  simp only [hostOps0]
  after_results_simp <;> rfl
theorem V_w : V m c main_v1 = truncf .bf16 (arg1 m c) bitsLt_bf16_f32 := by
  unfold V
  simp only [hostOps0]
  after_results_simp <;> rfl

theorem index0 : ∀ t : Fin cfg0.N, win0_0.index t = ![t.val % 4, 0] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![0, t.val / 4] := (by decide +kernel : ∀ t : Fin grid0.N, _)

/-- A column of block `b` of the second matrix. -/
def column (b : ℕ) (i : Fin 1536) : Fin 3072 := ⟨(b * 1536 + i.val) % 3072, Nat.mod_lt _ (by decide)⟩

theorem block_x (t : Fin cfg0.N) (k : Fin 2048) (i : Fin 1024) :
    iblk m c 0 t (ix2 k i) = arg0 m c (ix2 ⟨t.val % 4 * 2048 + k.val, by omega⟩ i) := by
  have e : iblk m c 0 t (ix2 k i) = V m c main_v0 (ix2 ⟨t.val % 4 * 2048 + k.val, by omega⟩ i) := by
    blk_simp [iblk]
    refine congrArg (V m c main_v0) ?_
    blk_ext [index0]
  rw [e, V_x]
  rfl

theorem block_w (t : Fin cfg0.N) (k : Fin 2048) (i : Fin 1536) :
    iblk m c 1 t (ix2 k i) = arg1 m c (ix2 ⟨t.val % 4 * 2048 + k.val, by omega⟩ (column (t.val / 4) i)) := by
  have ht : t.val < 8 := t.isLt
  have e : iblk m c 1 t (ix2 k i) = V m c main_v1 (ix2 ⟨t.val % 4 * 2048 + k.val, by omega⟩ (column (t.val / 4) i)) := by
    blk_simp [iblk]
    refine congrArg (V m c main_v1) ?_
    blk_ext [index1]
    show t.val / 4 * 1536 + i.val = (t.val / 4 * 1536 + i.val) % 3072
    omega
  rw [e, V_w]
  rfl

/-- A point adds its tile's part. -/
theorem step (t : Fin cfg0.N) (acc : FVec Ideal S1024x1536 .f32) (y : S1024x1536.Idx) :
    k0_pay2 acc (iblk m c 0 t) (iblk m c 1 t) y = acc y + ∑ k : Fin 2048,
      arg0 m c (ix2 ⟨t.val % 4 * 2048 + k.val, by omega⟩ (y 0)) * arg1 m c (ix2 ⟨t.val % 4 * 2048 + k.val, by omega⟩ (column (t.val / 4) (y 1))) := by
  rw [pay2_apply]
  exact congrArg (acc y + ·) (Finset.sum_congr rfl fun k _ =>
    congrArg₂ (· * ·) (block_x m c t k (y 0)) (block_w m c t k (y 1)))

/-- The product. -/
def product (x : FVec Ideal S8192x1024 .f32) (w : FVec Ideal S8192x3072 .f32) : S1024x3072.Idx → EReal :=
  fun y => ∑ l : Fin 8192, x (ix2 l (y 0)) * w (ix2 l (y 1))

theorem kept (t : Fin cfg0.N) (h : t.val % 4 = 3) (y : S1024x1536.Idx) :
    (outsAt0 m c t.val t.isLt).2 y = ∑ l : Fin 8192, arg0 m c (ix2 l (y 0)) * arg1 m c (ix2 l (column (t.val / 4) (y 1))) := by
  refine four_tiles (fun n h => (outsAt0 m c n h).2) (fun b y l => arg0 m c (ix2 l (y 0)) * arg1 m c (ix2 l (column b (y 1))))
    (fun t h y => ?_) (fun t h y => ?_) t h y
  · rw [outsAt0_A m c t h (by omega)]
    frame_out
    rw [step]
    refine congrArg (· + _) ?_
    unfold k0_pay1
    rw [shapeCast_self]
    exact Ideal.ofBits_zero_f32
  · by_cases h1 : t.val % 4 = 3
    · rw [outsAt0_C m c t h h1]
      frame_out
      rw [read_unread_whole]
      exact step m c t _ y
    · rw [outsAt0_B m c t h h1]
      frame_out
      rw [read_unread_whole]
      exact step m c t _ y

/-- The last point of a block writes the sum back. -/
theorem written (t : Fin cfg0.N) (h : t.val % 4 = 3) (y : S1024x1536.Idx) :
    (outsAt0 m c t.val t.isLt).1 y = (outsAt0 m c t.val t.isLt).2 y := by
  rw [outsAt0_C m c t (by omega) h]
  frame_out

theorem flushes : ∀ t : Fin cfg0.N, win0_2.flush t = true → t.val % 4 = 3 := (by decide +kernel : ∀ t : Fin grid0.N, _)

theorem result : (dats m 0 c).arrAt 2 cfg0.N = product (arg0 m c) (arg1 m c) := by
  refine (dats m 0 c).arrAt_eq_of_covers 2 _ (by decide +kernel) fun t hf y => ?_
  have ht : t.val < 8 := t.isLt
  blk_simp
  rw [after0_2]
  refine ((written m c t (flushes t hf) y).trans (kept m c t (flushes t hf) y)).trans ?_
  have e : ∀ z : S1024x3072.Idx, z = ix2 (y 0) (column (t.val / 4) (y 1)) →
      ∑ l : Fin 8192, arg0 m c (ix2 l (y 0)) * arg1 m c (ix2 l (column (t.val / 4) (y 1))) = product (arg0 m c) (arg1 m c) z :=
    fun z hz => by rw [hz]; rfl
  refine e _ ?_
  have hy : (y 1).val < 1536 := (y 1).isLt
  blk_ext [index2]
  show t.val / 4 * 1536 + (y 1).val = (t.val / 4 * 1536 + (y 1).val) % 3072
  omega

end Cert.Proof.Product.Input
-- ==== Proof.Product.InputEqual.lean ====
/- The product of a 1024-column and a 3072-column matrix: kernel and reference leave the same. -/
module

public import proofs.«01_k».proof.Defs
public import proofs.«01_k».proof.Proof.Product.Input
public import proofs.«01_k».proof.Proof.Gen.Reference6Ideal.Run
public import proofs.«01_k».proof.Proof.Gen.Reference6Ideal.Read

@[expose] public section

noncomputable section

namespace Cert.Proof.Product.Input

open Idealize.ShloMosaic Idealize.ShloMosaic.TcCoe Idealize.SL.Sem
open Cert.Reference6Ideal.Read

theorem reference (x : FVec Ideal Cert.Kernel6Ideal.S8192x1024 .f32) (w : FVec Ideal Cert.Kernel6Ideal.S8192x3072 .f32) : val_main_v3 (F := Ideal) x w = product x w := by
  funext y
  rw [val_main_v3_apply, val_main_v2_apply]
  refine Finset.sum_congr rfl fun l _ => (mul_comm _ _).trans ?_
  exact congrArg₂ (· * ·) (congrArg x (funext (Fin.forall_fin_two.mpr ⟨rfl, rfl⟩))) (congrArg w (funext (Fin.forall_fin_two.mpr ⟨rfl, rfl⟩)))

theorem equal : Cert.algebraic_Kernel6Ideal_Reference6Ideal := fun m g m' g' _ hargs =>
  ⟨fun c => product (arg0 m c) (arg1 m c),
    (θ_run Cert.Kernel6Ideal.defs _ _).mono (fun _ h c => ⟨(h c).1.trans (result m c), (h c).2⟩) (Cert.Kernel6Ideal.Value.run_blocks m g),
    (θ_run Cert.Reference6Ideal.defs _ _).mono (fun _ h c => ⟨(h c).1.trans (by
      rw [(hargs c).1, (hargs c).2, val_main_v3_eq]
      exact reference (arg0 m c) (arg1 m c)), (h c).2⟩) (Cert.Reference6Ideal.Value.run m' g')⟩

end Cert.Proof.Product.Input
-- ==== Proof.Mlp.Row.lean ====
/- One row of the feed-forward half: normalize, multiply up, square what is positive, multiply down, normalize again. -/
module

public import Idealize.ShloMosaic.Lib.MatmulPlain
public import Idealize.ShloMosaic.Lib.Pipeline.Value
public import Idealize.ShloMosaic.Lib.ValueLayoutCasts
public import Idealize.ShloMosaic.PureOps.Ideal.Laws

@[expose] public section

noncomputable section

namespace Cert.Proof.Mlp

open Idealize.ShloMosaic Idealize.ShloMosaic.ValueIdx

/-- A row of 1024 numbers. -/
abbrev Row := Fin 1024 → EReal

/-- Row `i` of a matrix. -/
def row {N : ℕ} (x : FVec Ideal ⟨2, ![N, 1024]⟩ .f32) (i : Fin N) : Row := fun k => x (ix2 i k)

/-- A vector as a row. -/
def line (x : FVec Ideal ⟨1, ![1024]⟩ .f32) : Row := fun k => x (ix1 k)

/-- A matrix by its two coordinates. -/
def entry {A B : ℕ} (x : FVec Ideal ⟨2, ![A, B]⟩ .f32) : Fin A → Fin B → EReal := fun i j => x (ix2 i j)

theorem pair_eq {A B : ℕ} (i : Fin A) (j : Fin B) (y : (⟨2, ![A, B]⟩ : Shape).Idx) (h0 : (y 0).val = i.val) (h1 : (y 1).val = j.val) : y = ix2 i j :=
  funext (Fin.forall_fin_two.mpr ⟨Fin.ext h0, Fin.ext h1⟩)

/-- The row less its mean. -/
def centred (r : Row) : Row := fun j => r j - Ideal.div (∑ k, r k) (Ideal.ofBits .f32 0x44800000#32)

/-- One over the row's deviation. -/
def scale (r : Row) : EReal :=
  Ideal.rsqrt (Ideal.div (∑ k, centred r k * centred r k) (Ideal.ofBits .f32 0x44800000#32) + Ideal.ofBits .f32 0x3727C5AC#32)

/-- The row normalized, with gain and offset. -/
def normed (r g b : Row) : Row := fun j => centred r j * scale r * g j + b j

/-- The positive part of the row times a column, squared. -/
def unit (h column : Row) : EReal :=
  max (∑ k, h k * column k) (Ideal.ofBits .f32 0x00000000#32) * max (∑ k, h k * column k) (Ideal.ofBits .f32 0x00000000#32)

/-- The hidden units of a row. -/
def hidden (h : Row) (up : Fin 1024 → Fin 4096 → EReal) : Fin 4096 → EReal := fun f => unit h (fun k => up k f)

/-- The row with the hidden units multiplied back down and added. -/
def joined (h : Row) (a : Fin 4096 → EReal) (down : Fin 4096 → Fin 1024 → EReal) : Row := fun j =>
  Ideal.ofBits .f32 0x3F9837F0#32 * h j + ∑ f, a f * down f j

/-- How far the row, normalized, sent up and down and normalized again, is from its target. -/
def miss (r t g2 b2 g3 b3 : Row) (up : Fin 1024 → Fin 4096 → EReal) (down : Fin 4096 → Fin 1024 → EReal) : Row := fun j =>
  normed (joined (normed r g2 b2) (hidden (normed r g2 b2) up) down) g3 b3 j - t j

/-- A row's squares added up. -/
def squares (r : Row) : EReal := ∑ k, r k * r k

/-- A tile of 256 rows less their means. -/
theorem centred_tile (x : FVec Ideal ⟨2, ![256, 1024]⟩ .f32) (hr : (⟨2, ![256, 1024]⟩ : Shape).Reduces [1] ⟨1, ![256]⟩)
    (hφ : FKind.Formats FTy.f32) (ha : 0x00000000#32 = FKind.add.neutral FTy.f32 hφ)
    (hc : (⟨1, ![256]⟩ : Shape).ShapeCasts ⟨2, ![256, 1]⟩) (hb : (⟨2, ![256, 1]⟩ : Shape).Broadcasts ⟨2, ![256, 1024]⟩) (i : Fin 256) (j : Fin 1024) :
    subf x (broadcastTo ⟨2, ![256, 1024]⟩ (divf (shapeCast ⟨2, ![256, 1]⟩ (multiReduction .add [1] ⟨1, ![256]⟩ x 0x00000000#32 hr hφ ha) hc)
      (broadcast ⟨2, ![256, 1]⟩ (Scalar.ofBits (F := Ideal) .f32 0x44800000#32))) hb) (ix2 i j) = centred (fun k => x (ix2 i k)) j := by
  refine congrArg (x (ix2 i j) - ·) ?_
  refine (broadcastTo_apply _ hb (ix2 i j) (ix2 i 0) fun a => match a with | ⟨0, _⟩ => rfl | ⟨1, _⟩ => rfl).trans ?_
  refine congrArg (Ideal.div · _) ?_
  refine (shapeCast_a_a1_apply _ hc i 0).trans ?_
  refine (Ideal.multiReduction_add_single x _ hr hφ ha (ix1 i)).trans ?_
  exact Finset.sum_congr rfl fun k _ => congrArg x (funext (Fin.forall_fin_two.mpr ⟨rfl, rfl⟩))

/-- One over the deviations of a tile's rows, spread over their columns. -/
theorem scale_tile (x : FVec Ideal ⟨2, ![256, 1024]⟩ .f32) (r : Fin 256 → Row) (h : ∀ i j, x (ix2 i j) = centred (r i) j)
    (hr : (⟨2, ![256, 1024]⟩ : Shape).Reduces [1] ⟨1, ![256]⟩)
    (hφ : FKind.Formats FTy.f32) (ha : 0x00000000#32 = FKind.add.neutral FTy.f32 hφ)
    (hc : (⟨1, ![256]⟩ : Shape).ShapeCasts ⟨2, ![256, 1]⟩) (hb : (⟨2, ![256, 1]⟩ : Shape).Broadcasts ⟨2, ![256, 1024]⟩) (i : Fin 256) (j : Fin 1024) :
    broadcastTo ⟨2, ![256, 1024]⟩ (rsqrt (addf (divf (shapeCast ⟨2, ![256, 1]⟩ (multiReduction .add [1] ⟨1, ![256]⟩ (mulf x x) 0x00000000#32 hr hφ ha) hc)
      (broadcast ⟨2, ![256, 1]⟩ (Scalar.ofBits (F := Ideal) .f32 0x44800000#32)))
      (broadcast ⟨2, ![256, 1]⟩ (Scalar.ofBits (F := Ideal) .f32 0x3727C5AC#32)))) hb (ix2 i j) = scale (r i) := by
  refine (broadcastTo_apply _ hb (ix2 i j) (ix2 i 0) fun a => match a with | ⟨0, _⟩ => rfl | ⟨1, _⟩ => rfl).trans ?_
  refine congrArg (fun s => Ideal.rsqrt (Ideal.div s _ + _)) ?_
  refine (shapeCast_a_a1_apply _ hc i 0).trans ?_
  refine (Ideal.multiReduction_add_single (mulf x x) _ hr hφ ha (ix1 i)).trans ?_
  refine Finset.sum_congr rfl fun k _ => ?_
  have e : hr.lift (ix1 i) k = ix2 i k := funext (Fin.forall_fin_two.mpr ⟨rfl, rfl⟩)
  rw [e]
  exact congrArg₂ (· * ·) (h i k) (h i k)

/-- A tile's rows times a 1024-square matrix. -/
theorem product_tile {φ₁ φ₂ : FTy} (x : FVec Ideal ⟨2, ![256, 1024]⟩ φ₁) (w : FVec Ideal ⟨2, ![1024, 1024]⟩ φ₂) (i : Fin 256) (j : Fin 1024) :
    matmul (DotDims.plain 256 1024 1024) none x w (constant ⟨2, ![256, 1024]⟩ .f32 0x00000000#32) (ix2 i j)
      = ∑ k : Fin 1024, x (ix2 i k) * w (ix2 k j) := by
  refine (Ideal.matmul_plain_apply none x w _ i j).trans ?_
  show Ideal.ofBits .f32 0x00000000#32 + _ = _
  rw [Ideal.ofBits_zero_f32, zero_add]

end Cert.Proof.Mlp
-- ==== Proof.Mlp.Tile.lean ====
/- What the body computes for a tile of 256 rows, row by row. -/
module

public import proofs.«01_k».proof.Proof.Gen.Kernel7Ideal.Skeleton
public import proofs.«01_k».proof.Proof.Mlp.Row
public import Idealize.ShloMosaic.Lib.Pipeline.ValueKit.Acc

@[expose] public section

noncomputable section

namespace Cert.Proof.Mlp

open Cert.Kernel7Ideal Cert.Kernel7Ideal.Gen
open Idealize.ShloMosaic Idealize.ShloMosaic.ValueIdx Idealize.ShloMosaic.StableHlo

/-- The first normalization. -/
theorem pay6_apply (x : FVec Ideal S256x1024 .f32) (g b : FVec Ideal S1x1024 .f32) (i : Fin 256) (j : Fin 1024) :
    k0_pay6 (F := Ideal) x g b (ix2 i j) = normed (fun k => x (ix2 i k)) (fun k => g (ix2 0 k)) (fun k => b (ix2 0 k)) j := by
  unfold k0_pay6
  simp only [shapeCast_self]
  exact congrArg₂ (· + ·) (congrArg₂ (· * ·) (congrArg₂ (· * ·) (centred_tile x _ _ _ _ _ i j)
    (scale_tile _ (fun i k => x (ix2 i k)) (fun i j => centred_tile x _ _ _ _ _ i j) _ _ _ _ _ i j))
    (broadcastTo_1b_ab_apply g _ i j)) (broadcastTo_1b_ab_apply b _ i j)

/-- A block of hidden units. -/
theorem pay11_apply (h : FVec Ideal S256x1024 .bf16) (w : FVec Ideal S1024x1024 .bf16) (i : Fin 256) (f : Fin 1024) :
    k0_pay11 h w (constant S256x1024 .f32 0x00000000#32) (ix2 i f) = unit (fun k => h (ix2 i k)) (fun k => w (ix2 k f)) := by
  have e := congrArg (fun s => max s (Ideal.ofBits .f32 0x00000000#32)) (product_tile h w i f)
  exact congrArg₂ (· * ·) e e

theorem pay14_eq (h : FVec Ideal S256x1024 .bf16) (w : FVec Ideal S1024x1024 .bf16) :
    k0_pay14 h w = k0_pay11 h w (constant S256x1024 .f32 0x00000000#32) := rfl

theorem pay18_eq (h : FVec Ideal S256x1024 .bf16) (w : FVec Ideal S1024x1024 .bf16) :
    k0_pay18 (k0_pay16 h w) = k0_pay11 h w (constant S256x1024 .f32 0x00000000#32) := rfl

theorem pay21_eq (h : FVec Ideal S256x1024 .bf16) (w : FVec Ideal S1024x1024 .bf16) :
    k0_pay21 h w = k0_pay11 h w (constant S256x1024 .f32 0x00000000#32) := rfl

/-- A block of hidden units multiplied back down. -/
theorem down_tile (h : FVec Ideal S256x1024 .bf16) (u d : FVec Ideal S1024x1024 .bf16) (i : Fin 256) (j : Fin 1024) :
    matmul dot_S256x1024_S1024x1024_S256x1024_1_0_0_1_n_n none (k0_pay11 h u (constant S256x1024 .f32 0x00000000#32)) d
      (constant S256x1024 .f32 0x00000000#32) (ix2 i j)
      = ∑ f : Fin 1024, unit (fun k => h (ix2 i k)) (fun k => u (ix2 k f)) * d (ix2 f j) := by
  refine (product_tile _ d i j).trans (Finset.sum_congr rfl fun f _ => ?_)
  rw [pay11_apply]

/-- The second normalization's input, less its mean: the four blocks of hidden units together are all of them. -/
theorem pay24_apply (x : FVec Ideal S256x1024 .f32) (h : FVec Ideal S256x1024 .bf16) (u d : Fin 4 → FVec Ideal S1024x1024 .bf16)
    (up : Fin 1024 → Fin 4096 → EReal) (down : Fin 4096 → Fin 1024 → EReal) (r : Fin 256 → Row)
    (hx : ∀ i j, x (ix2 i j) = r i j) (hh : ∀ i j, h (ix2 i j) = r i j)
    (hu : ∀ (s : Fin 4) k (f : Fin 1024), u s (ix2 k f) = up k ⟨s.val * 1024 + f.val, by omega⟩)
    (hd : ∀ (s : Fin 4) (f : Fin 1024) j, d s (ix2 f j) = down ⟨s.val * 1024 + f.val, by omega⟩ j) (i : Fin 256) (j : Fin 1024) :
    k0_pay24 x h (k0_pay15 h k0_pay8 (u 0) (constant S256x1024 .f32 0x00000000#32) (d 0) (u 1) (d 1)) (k0_pay16 h (u 2)) (d 2) (u 3) (d 3) (ix2 i j)
      = centred (joined (r i) (hidden (r i) up) down) j := by
  unfold k0_pay24 k0_pay15
  simp only [pay14_eq, pay18_eq, pay21_eq]
  refine (centred_tile _ _ _ _ _ _ i j).trans (congrArg (centred · j) (funext fun k => ?_))
  refine congrArg₂ (· + ·) (congrArg (Ideal.ofBits .f32 0x3F9837F0#32 * ·) (hx i k)) ?_
  have e : ∀ s : Fin 4, (∑ f : Fin 1024, unit (fun k => h (ix2 i k)) (fun k => u s (ix2 k f)) * d s (ix2 f k))
      = ∑ f : Fin 1024, (fun l : Fin 4096 => hidden (r i) up l * down l k) ⟨s.val * 1024 + f.val, by omega⟩ := fun s =>
    Finset.sum_congr rfl fun f _ => congrArg₂ (· * ·) (congrArg₂ unit (funext (hh i)) (funext fun k => hu s k f)) (hd s f k)
  refine Eq.trans ?_ (Fin.sum_mul_add_fin 4 1024 (fun l : Fin 4096 => hidden (r i) up l * down l k))
  rw [Fin.sum_univ_four, ← e 0, ← e 1, ← e 2, ← e 3, ← down_tile h (u 0) (d 0) i k, ← down_tile h (u 1) (d 1) i k,
    ← down_tile h (u 2) (d 2) i k, ← down_tile h (u 3) (d 3) i k]
  refine congrArg (· + _) (congrArg (· + _) (congrArg (· + _) ?_))
  exact (congrArg (· + _) Ideal.ofBits_zero_f32).trans (zero_add _)

/-- How far the second normalization's row is from its target. -/
theorem pay27_apply (x t : FVec Ideal S256x1024 .f32) (g b : FVec Ideal S1x1024 .f32) (r : Fin 256 → Row)
    (hx : ∀ i j, x (ix2 i j) = centred (r i) j) (i : Fin 256) (j : Fin 1024) :
    k0_pay27 (k0_pay22 g) (k0_pay23 b) x t (ix2 i j)
      = normed (r i) (fun k => g (ix2 0 k)) (fun k => b (ix2 0 k)) j - t (ix2 i j) := by
  unfold k0_pay27 k0_pay26 k0_pay25 k0_pay22 k0_pay23
  simp only [shapeCast_self]
  exact congrArg (· - t (ix2 i j)) (congrArg₂ (· + ·) (congrArg₂ (· * ·) (congrArg₂ (· * ·) (hx i j)
    (scale_tile x r hx _ _ _ _ _ i j)) (broadcastTo_1b_ab_apply g _ i j)) (broadcastTo_1b_ab_apply b _ i j))

/-- A sum over a tile with a leading axis of one. -/
theorem sum_tile (F : S1x256x1024.Idx → EReal) : ∑ y : S1x256x1024.Idx, F y = ∑ i : Fin 256, ∑ j : Fin 1024, F (ix3 0 i j) := by
  have e : ∀ y : S1x256x1024.Idx, ix3 (n0 := 1) (n1 := 256) (n2 := 1024) 0 (y 1) (y 2) = y := fun y => funext fun a => match a with
    | ⟨0, _⟩ => Fin.ext (by have h : (y 0).val < 1 := (y 0).isLt; show 0 = (y 0).val; omega)
    | ⟨1, _⟩ => rfl
    | ⟨2, _⟩ => rfl
  have h : ∑ p : Fin 256 × Fin 1024, F (ix3 (n0 := 1) (n1 := 256) (n2 := 1024) 0 p.1 p.2) = ∑ y : S1x256x1024.Idx, F y :=
    Fintype.sum_equiv (Equiv.mk (fun p : Fin 256 × Fin 1024 => (ix3 (n0 := 1) (n1 := 256) (n2 := 1024) 0 p.1 p.2 : S1x256x1024.Idx))
      (fun y : S1x256x1024.Idx => ((y 1 : Fin 256), (y 2 : Fin 1024))) (fun _ => rfl) e) _ _ fun _ => rfl
  exact h.symm.trans (Fintype.sum_prod_type _)

/-- A tile's part of the loss, the same in each entry. -/
theorem pay28_apply (x t : FVec Ideal S256x1024 .f32) (g b : FVec Ideal S1x1024 .f32) (acc : FVec Ideal S8x128 .f32) (y : S8x128.Idx) :
    k0_pay28 g b x t acc y = acc y + Ideal.ofBits .f32 0x3F000000#32
      * (∑ i : Fin 256, ∑ j : Fin 1024, k0_pay27 g b x t (ix2 i j) * k0_pay27 g b x t (ix2 i j)) * Ideal.ofBits .f32 0x3A800000#32 := by
  unfold k0_pay28
  simp only [shapeCast_self]
  refine congrArg (fun s => acc y + Ideal.ofBits .f32 0x3F000000#32 * s * Ideal.ofBits .f32 0x3A800000#32) ?_
  refine (shapeCast_apply (t := S1x1x1) _ shapeCasts_S1_S1x1x1 _ (ix1 0) rfl).trans ?_
  refine (Ideal.multiReduction_add_total _ _ reduces_S1x256x1024_S1 (fun b => match b with | ⟨0, _⟩ => rfl) _ _ (ix1 0)).trans ?_
  refine (sum_tile _).trans (Finset.sum_congr rfl fun i _ => Finset.sum_congr rfl fun j _ => ?_)
  exact shapeCast_ab_1ab_apply _ shapeCasts_S256x1024_S1x256x1024 0 i j

end Cert.Proof.Mlp
-- ==== Proof.Mlp.Blocks.lean ====
/- What a point of the grid is given: 256 rows of the two matrices, the four vectors, and both weights. -/
module

public import proofs.«01_k».proof.Proof.Gen.Kernel7Ideal.Frame
public import proofs.«01_k».proof.Proof.Mlp.Row
public import Idealize.ShloMosaic.Lib.Pipeline.ValueKit.Geometry
public import Idealize.ShloMosaic.Lib.Pipeline.ValueKit.Tiles
public import Idealize.ShloMosaic.Lib.ValueIdxCore

@[expose] public section

noncomputable section

namespace Cert.Proof.Mlp

open Cert.Kernel7Ideal Cert.Kernel7Ideal.Gen
open Idealize.ShloMosaic Idealize.ShloMosaic.TcCoe Idealize.ShloMosaic.StableHlo Idealize.ShloMosaic.ValueIdx Idealize.ShloMosaic.ValueKit Idealize.SL.Sem

variable (m : (ℓ : Loc nD τ sig) → Buf (Elt Ideal) ℓ) (c : Dev nD)

def stream : FVec Ideal S8192x1024 .f32 := m ((c.tc : Thread nD τ).loc main_arg0)
def target : FVec Ideal S8192x1024 .f32 := m ((c.tc : Thread nD τ).loc main_arg1)
def gain2 : FVec Ideal S1024 .f32 := m ((c.tc : Thread nD τ).loc main_arg2)
def shift2 : FVec Ideal S1024 .f32 := m ((c.tc : Thread nD τ).loc main_arg3)
def gain3 : FVec Ideal S1024 .f32 := m ((c.tc : Thread nD τ).loc main_arg4)
def shift3 : FVec Ideal S1024 .f32 := m ((c.tc : Thread nD τ).loc main_arg5)
def upward : FVec Ideal S1024x4096 .f32 := m ((c.tc : Thread nD τ).loc main_arg6)
def downward : FVec Ideal S4096x1024 .f32 := m ((c.tc : Thread nD τ).loc main_arg7)

theorem V_gain2 : V m c main_v0 = shapeCast S1x1024 (gain2 m c) shapeCasts_S1024_S1x1024 := by
  unfold V
  simp only [hostOps0]
  after_results_simp <;> rfl
theorem V_shift2 : V m c main_v1 = shapeCast S1x1024 (shift2 m c) shapeCasts_S1024_S1x1024 := by
  unfold V
  simp only [hostOps0]
  after_results_simp <;> rfl
theorem V_gain3 : V m c main_v2 = shapeCast S1x1024 (gain3 m c) shapeCasts_S1024_S1x1024 := by
  unfold V
  simp only [hostOps0]
  after_results_simp <;> rfl
theorem V_shift3 : V m c main_v3 = shapeCast S1x1024 (shift3 m c) shapeCasts_S1024_S1x1024 := by
  unfold V
  simp only [hostOps0]
  after_results_simp <;> rfl
theorem V_up : V m c main_v4 = truncf .bf16 (upward m c) bitsLt_bf16_f32 := by
  unfold V
  simp only [hostOps0]
  after_results_simp <;> rfl
theorem V_down : V m c main_v5 = truncf .bf16 (downward m c) bitsLt_bf16_f32 := by
  unfold V
  simp only [hostOps0]
  after_results_simp <;> rfl
theorem V_stream : V m c main_arg0 = stream m c := by
  unfold V
  simp only [hostOps0]
  after_results_simp <;> rfl
theorem V_target : V m c main_arg1 = target m c := by
  unfold V
  simp only [hostOps0]
  after_results_simp <;> rfl

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index7 : ∀ t : Fin cfg0.N, win0_7.index t = ![t.val, 0] := (by decide +kernel : ∀ t : Fin grid0.N, _)
theorem index9 : ∀ t : Fin cfg0.N, win0_9.index t = ![t.val, 0] := (by decide +kernel : ∀ t : Fin grid0.N, _)

/-- A row of tile `t`. -/
def place (t : Fin cfg0.N) (i : Fin 256) : Fin 8192 := ⟨t.val * 256 + i.val, by have h : t.val < 32 := t.isLt; omega⟩

theorem block_stream (t : Fin cfg0.N) (i : Fin 256) (j : Fin 1024) : iblk m c 0 t (ix2 i j) = stream m c (ix2 (place t i) j) := by
  have e : iblk m c 0 t (ix2 i j) = V m c main_arg0 (ix2 (place t i) j) := by
    blk_simp [iblk]
    refine congrArg (V m c main_arg0) ?_
    blk_ext [index0]
    rfl
  rw [e, V_stream]

theorem block_target (t : Fin cfg0.N) (i : Fin 256) (j : Fin 1024) : iblk m c 1 t (ix2 i j) = target m c (ix2 (place t i) j) := by
  have e : iblk m c 1 t (ix2 i j) = V m c main_arg1 (ix2 (place t i) j) := by
    blk_simp [iblk]
    refine congrArg (V m c main_arg1) ?_
    blk_ext [index1]
    rfl
  rw [e, V_target]

/-- A vector laid out as one row. -/
theorem laid (x : FVec Ideal S1024 .f32) (j : Fin 1024) : shapeCast S1x1024 x shapeCasts_S1024_S1x1024 (ix2 0 j) = x (ix1 j) := by
  refine shapeCast_apply x shapeCasts_S1024_S1x1024 (ix2 0 j) (ix1 j) ?_
  rw [Shape.rowMajor_val_one, Shape.rowMajor_val_two]
  show j.val = 0 * 1024 + j.val
  omega

theorem block_gain2 (t : Fin cfg0.N) (j : Fin 1024) : iblk m c 2 t (ix2 0 j) = gain2 m c (ix1 j) := by
  have e : iblk m c 2 t (ix2 0 j) = V m c main_v0 (ix2 0 j) := by
    blk_simp [iblk]
    refine congrArg (V m c main_v0) ?_
    blk_ext [index2]
  rw [e, V_gain2, laid]

theorem block_shift2 (t : Fin cfg0.N) (j : Fin 1024) : iblk m c 3 t (ix2 0 j) = shift2 m c (ix1 j) := by
  have e : iblk m c 3 t (ix2 0 j) = V m c main_v1 (ix2 0 j) := by
    blk_simp [iblk]
    refine congrArg (V m c main_v1) ?_
    blk_ext [index3]
  rw [e, V_shift2, laid]

theorem block_gain3 (t : Fin cfg0.N) (j : Fin 1024) : iblk m c 4 t (ix2 0 j) = gain3 m c (ix1 j) := by
  have e : iblk m c 4 t (ix2 0 j) = V m c main_v2 (ix2 0 j) := by
    blk_simp [iblk]
    refine congrArg (V m c main_v2) ?_
    blk_ext [index4]
  rw [e, V_gain3, laid]

theorem block_shift3 (t : Fin cfg0.N) (j : Fin 1024) : iblk m c 5 t (ix2 0 j) = shift3 m c (ix1 j) := by
  have e : iblk m c 5 t (ix2 0 j) = V m c main_v3 (ix2 0 j) := by
    blk_simp [iblk]
    refine congrArg (V m c main_v3) ?_
    blk_ext [index5]
  rw [e, V_shift3, laid]

end Cert.Proof.Mlp
-- ==== Proof.Mlp.Weights.lean ====
/- The weights stay where the first point copied them. -/
module

public import proofs.«01_k».proof.Proof.Mlp.Blocks
public import Idealize.ShloMosaic.Lib.Pipeline.ReadBack

@[expose] public section

noncomputable section

namespace Cert.Proof.Mlp

open Cert.Kernel7Ideal Cert.Kernel7Ideal.Gen
open Idealize.ShloMosaic Idealize.ShloMosaic.TcCoe Idealize.ShloMosaic.StableHlo Idealize.ShloMosaic.ValueIdx Idealize.ShloMosaic.ValueKit Idealize.SL.Sem

/-- A load of any rectangle after a copy of the whole reads the copy there. -/
theorem copied {κ : Kind} {sp : Space} {s : Shape} {e : EltTy} (v : View sig κ sp s e) (Z : s.Idx → Elt Ideal e) (r : Rect s) :
    v.readCov (Val := Elt Ideal) [⟨Rect.whole s, Z⟩] r.toLoadRect = View.ld Z r :=
  View.readCov_fill v _ Z [] r fun _ => rfl

/-- The whole after a copy of the whole is the copy. -/
theorem copied_whole {s : Shape} {e : EltTy} (Z : s.Idx → Elt Ideal e) (y : s.Idx) :
    View.canon (Val := Elt Ideal) [⟨Rect.whole s, Z⟩] y = Z y :=
  congrFun (View.canon_cons_unit_lit (Val := Elt Ideal) _ Z [] fun _ => rfl) y

variable (m : (ℓ : Loc nD τ sig) → Buf (Elt Ideal) ℓ) (c : Dev nD)

theorem later (n : ℕ) (h : n + 1 < cfg0.N) : ¬ (n + 1) % 32 = 0 := by
  have hn : n + 1 < 32 := h
  omega

theorem before (t : Fin cfg0.N) : t.val - 1 < cfg0.N := Nat.lt_of_le_of_lt (Nat.sub_le _ _) t.isLt

/-- The first weight is copied by the first point. -/
theorem up_first (t : Fin cfg0.N) (h : t.val % 32 = 0) (y) : (outsAt0 m c t.val t.isLt).2.2.2.2.2.2.2.2.1 y = V m c main_v4 y := by
  rw [outsAt0_A m c t h h]
  frame_out
  exact copied_whole _ y

/-- A later point leaves it. -/
theorem up_later (t : Fin cfg0.N) (h : ¬ t.val % 32 = 0) (y) :
    (outsAt0 m c t.val t.isLt).2.2.2.2.2.2.2.2.1 y = (outsAt0 m c (t.val - 1) (before t)).2.2.2.2.2.2.2.2.1 y := by
  rw [outsAt0_B m c t h h]
  frame_out
  unfold sout0_B_0
  rfl

theorem up_held (n : ℕ) (h : n < cfg0.N) : (outsAt0 m c n h).2.2.2.2.2.2.2.2.1 = V m c main_v4 := by
  induction n with
  | zero => exact funext fun y => up_first m c ⟨0, h⟩ rfl y
  | succ n ih => exact (funext fun y => up_later m c ⟨n + 1, h⟩ (later n h) y).trans (ih _)

/-- The second weight is copied by the first point. -/
theorem down_first (t : Fin cfg0.N) (h : t.val % 32 = 0) (y) : (outsAt0 m c t.val t.isLt).2.2.2.2.2.2.2.2.2 y = V m c main_v5 y := by
  rw [outsAt0_A m c t h h]
  frame_out
  exact copied_whole _ y

/-- A later point leaves it. -/
theorem down_later (t : Fin cfg0.N) (h : ¬ t.val % 32 = 0) (y) :
    (outsAt0 m c t.val t.isLt).2.2.2.2.2.2.2.2.2 y = (outsAt0 m c (t.val - 1) (before t)).2.2.2.2.2.2.2.2.2 y := by
  rw [outsAt0_B m c t h h]
  frame_out
  unfold sout0_B_1
  rfl

theorem down_held (n : ℕ) (h : n < cfg0.N) : (outsAt0 m c n h).2.2.2.2.2.2.2.2.2 = V m c main_v5 := by
  induction n with
  | zero => exact funext fun y => down_first m c ⟨0, h⟩ rfl y
  | succ n ih => exact (funext fun y => down_later m c ⟨n + 1, h⟩ (later n h) y).trans (ih _)

end Cert.Proof.Mlp
-- ==== Proof.Mlp.Points.lean ====
/- What each point of the grid leaves: a tile of the normalized rows, a tile of hidden units, and its part of the loss. -/
module

public import proofs.«01_k».proof.Proof.Mlp.Tile
public import proofs.«01_k».proof.Proof.Mlp.Weights

@[expose] public section

noncomputable section

namespace Cert.Proof.Mlp

open Cert.Kernel7Ideal Cert.Kernel7Ideal.Gen
open Idealize.ShloMosaic Idealize.ShloMosaic.TcCoe Idealize.ShloMosaic.StableHlo Idealize.ShloMosaic.ValueIdx Idealize.ShloMosaic.ValueKit Idealize.SL.Sem

/-- The first weight in four blocks of columns. -/
def columns (U : FVec Ideal S1024x4096 .bf16) : Fin 4 → FVec Ideal S1024x1024 .bf16 :=
  ![View.ld (Val := Elt Ideal) (e' := .bf16) U (Rect.unit ![0, 0] ![1024, 1024] inb_S1024x4096_S1024x1024_0_0),
    View.ld (Val := Elt Ideal) (e' := .bf16) U (Rect.unit ![0, 1024] ![1024, 1024] inb_S1024x4096_S1024x1024_0_1024),
    View.ld (Val := Elt Ideal) (e' := .bf16) U (Rect.unit ![0, 2048] ![1024, 1024] inb_S1024x4096_S1024x1024_0_2048),
    View.ld (Val := Elt Ideal) (e' := .bf16) U (Rect.unit ![0, 3072] ![1024, 1024] inb_S1024x4096_S1024x1024_0_3072)]

/-- The second weight in four blocks of rows. -/
def bands (D : FVec Ideal S4096x1024 .bf16) : Fin 4 → FVec Ideal S1024x1024 .bf16 :=
  ![View.ld (Val := Elt Ideal) (e' := .bf16) D (Rect.unit ![0, 0] ![1024, 1024] inb_S4096x1024_S1024x1024_0_0),
    View.ld (Val := Elt Ideal) (e' := .bf16) D (Rect.unit ![1024, 0] ![1024, 1024] inb_S4096x1024_S1024x1024_1024_0),
    View.ld (Val := Elt Ideal) (e' := .bf16) D (Rect.unit ![2048, 0] ![1024, 1024] inb_S4096x1024_S1024x1024_2048_0),
    View.ld (Val := Elt Ideal) (e' := .bf16) D (Rect.unit ![3072, 0] ![1024, 1024] inb_S4096x1024_S1024x1024_3072_0)]

/-- A block read at an index. -/
theorem part_apply {A B : ℕ} (Z : FVec Ideal ⟨2, ![A, B]⟩ .bf16) (o p : ℕ) (inb : ∀ a, (![o, p] : Fin 2 → ℕ) a + (![1024, 1024] : Fin 2 → ℕ) a ≤ (⟨2, ![A, B]⟩ : Shape).size a)
    (k f : Fin 1024) (i : Fin A) (j : Fin B) (hi : i.val = o + k.val) (hj : j.val = p + f.val) :
    View.ld (Val := Elt Ideal) (e' := .bf16) Z (Rect.unit (s := ⟨2, ![A, B]⟩) ![o, p] ![1024, 1024] inb) (ix2 (n0 := 1024) (n1 := 1024) k f) = Z (ix2 i j) := by
  refine congrArg Z (pair_eq i j _ ?_ ?_)
  · show o + 1 * k.val = i.val
    omega
  · show p + 1 * f.val = j.val
    omega

theorem columns_apply (U : FVec Ideal S1024x4096 .bf16) (s : Fin 4) (k f : Fin 1024) :
    columns U s (ix2 k f) = U (ix2 k ⟨s.val * 1024 + f.val, by omega⟩) :=
  match s with
  | 0 => part_apply U 0 0 _ k f _ _ (by omega) (by show 0 * 1024 + f.val = 0 + f.val; omega)
  | 1 => part_apply U 0 1024 _ k f _ _ (by omega) (by show 1 * 1024 + f.val = 1024 + f.val; omega)
  | 2 => part_apply U 0 2048 _ k f _ _ (by omega) (by show 2 * 1024 + f.val = 2048 + f.val; omega)
  | 3 => part_apply U 0 3072 _ k f _ _ (by omega) (by show 3 * 1024 + f.val = 3072 + f.val; omega)

theorem bands_apply (D : FVec Ideal S4096x1024 .bf16) (s : Fin 4) (f j : Fin 1024) :
    bands D s (ix2 f j) = D (ix2 ⟨s.val * 1024 + f.val, by omega⟩ j) :=
  match s with
  | 0 => part_apply D 0 0 _ f j _ _ (by show 0 * 1024 + f.val = 0 + f.val; omega) (by omega)
  | 1 => part_apply D 1024 0 _ f j _ _ (by show 1 * 1024 + f.val = 1024 + f.val; omega) (by omega)
  | 2 => part_apply D 2048 0 _ f j _ _ (by show 2 * 1024 + f.val = 2048 + f.val; omega) (by omega)
  | 3 => part_apply D 3072 0 _ f j _ _ (by show 3 * 1024 + f.val = 3072 + f.val; omega) (by omega)

/-- A tile of hidden units, from its four blocks of columns. -/
theorem hidden_pieces (h : FVec Ideal S256x1024 .bf16) (U : FVec Ideal S1024x4096 .bf16) (y : S256x4096.Idx) (u0 u1 u2 u3 : FVec Ideal S1024x1024 .bf16)
    (h0 : u0 = columns U 0) (h1 : u1 = columns U 1) (h2 : u2 = columns U 2) (h3 : u3 = columns U 3) :
    View.canon (Val := Elt Ideal) (s := S256x4096) (e := .bf16)
      [⟨Rect.unit ![0, 3072] ![256, 1024] inb_S256x4096_S256x1024_0_3072, k0_pay21 h u3⟩,
        ⟨Rect.unit ![0, 2048] ![256, 1024] inb_S256x4096_S256x1024_0_2048, k0_pay18 (k0_pay16 h u2)⟩,
        ⟨Rect.unit ![0, 1024] ![256, 1024] inb_S256x4096_S256x1024_0_1024, k0_pay14 h u1⟩,
        ⟨Rect.unit ![0, 0] ![256, 1024] inb_S256x4096_S256x1024_0_0, k0_pay11 h u0 (constant S256x1024 .f32 0x00000000#32)⟩] y
      = unit (fun k => h (ix2 (y 0) k)) (fun k => U (ix2 k (y 1))) := by
  subst h0 h1 h2 h3
  have e : ∀ (s : Fin 4) (i : Fin 256) (f : Fin 1024), (y 0).val = i.val → (y 1).val = s.val * 1024 + f.val →
      k0_pay11 h (columns U s) (constant S256x1024 .f32 0x00000000#32) (ix2 i f) = unit (fun k => h (ix2 (y 0) k)) (fun k => U (ix2 k (y 1))) :=
    fun s i f hi hf => by
      refine (pay11_apply h _ i f).trans (congrArg₂ unit (funext fun k => congrArg h ?_) (funext fun k => ?_))
      · exact pair_eq _ _ _ hi.symm rfl
      · exact (columns_apply U s k f).trans (congrArg U (pair_eq _ _ _ rfl hf.symm))
  simp only [pay14_eq, pay18_eq, pay21_eq]
  canon_tiles x hx
  all_goals rw [pair_eq (A := 256) (B := 1024) (x 0) (x 1) x rfl rfl]
  · exact e 3 _ _ (by omega) (by show (y 1).val = 3 * 1024 + (x 1).val; omega)
  · exact e 2 _ _ (by omega) (by show (y 1).val = 2 * 1024 + (x 1).val; omega)
  · exact e 1 _ _ (by omega) (by show (y 1).val = 1 * 1024 + (x 1).val; omega)
  · exact e 0 _ _ (by omega) (by show (y 1).val = 0 * 1024 + (x 1).val; omega)

theorem same_up (X : FVec Ideal S1024x4096 .bf16) : ReadAs.same.apply (View.read (Elt Ideal) (View.whole main_v4) X) = X := rfl
theorem same_down (X : FVec Ideal S4096x1024 .bf16) : ReadAs.same.apply (View.read (Elt Ideal) (View.whole main_v5) X) = X := rfl

variable (m : (ℓ : Loc nD τ sig) → Buf (Elt Ideal) ℓ) (c : Dev nD)

/-- A row after the first normalization. -/
def first (l : Fin 8192) : Row := normed (row (stream m c) l) (line (gain2 m c)) (line (shift2 m c))

/-- How far a row is from its target. -/
def missed (l : Fin 8192) : Row :=
  miss (row (stream m c) l) (row (target m c) l) (line (gain2 m c)) (line (shift2 m c)) (line (gain3 m c)) (line (shift3 m c))
    (entry (upward m c)) (entry (downward m c))

theorem first_tile (t : Fin cfg0.N) (i : Fin 256) (j : Fin 1024) :
    k0_pay6 (F := Ideal) (iblk m c 0 t) (iblk m c 2 t) (iblk m c 3 t) (ix2 i j) = first m c (place t i) j := by
  rw [pay6_apply, show (fun k => iblk m c 0 t (ix2 i k)) = row (stream m c) (place t i) from funext fun k => block_stream m c t i k,
    show (fun k => iblk m c 2 t (ix2 0 k)) = line (gain2 m c) from funext fun k => block_gain2 m c t k,
    show (fun k => iblk m c 3 t (ix2 0 k)) = line (shift2 m c) from funext fun k => block_shift2 m c t k]
  rfl

theorem first_tile' (t : Fin cfg0.N) (i : Fin 256) (j : Fin 1024) :
    k0_pay7 (F := Ideal) (iblk m c 0 t) (iblk m c 2 t) (iblk m c 3 t) (ix2 i j) = first m c (place t i) j := first_tile m c t i j

set_option maxHeartbeats 600000 in
/-- What a point leaves of the normalized rows. -/
theorem first_left (t : Fin cfg0.N) (i : Fin 256) (j : Fin 1024) : (outsAt0 m c t.val t.isLt).2.1 (ix2 i j) = first m c (place t i) j := by
  by_cases h : t.val % 32 = 0
  · rw [outsAt0_A m c t h h]
    frame_out
    exact first_tile' m c t i j
  · rw [outsAt0_B m c t h h]
    frame_out
    exact first_tile' m c t i j

theorem hidden_tile (t : Fin cfg0.N) (y : S256x4096.Idx) :
    unit (fun k => k0_pay7 (F := Ideal) (iblk m c 0 t) (iblk m c 2 t) (iblk m c 3 t) (ix2 (y 0) k)) (fun k => V m c main_v4 (ix2 k (y 1)))
      = hidden (first m c (place t (y 0))) (entry (upward m c)) (y 1) :=
  congrArg₂ unit (funext fun k => first_tile' m c t (y 0) k) (funext fun k => by rw [V_up]; rfl)

set_option maxHeartbeats 600000 in
/-- What a point leaves of the hidden units. -/
theorem hidden_left (t : Fin cfg0.N) (y : S256x4096.Idx) :
    (outsAt0 m c t.val t.isLt).2.2.2.1 y = hidden (first m c (place t (y 0))) (entry (upward m c)) (y 1) := by
  refine Eq.trans ?_ (hidden_tile m c t y)
  by_cases h : t.val % 32 = 0
  · rw [outsAt0_A m c t h h]
    frame_out
    simp only [copied, same_up]
    exact hidden_pieces _ (V m c main_v4) y _ _ _ _ rfl rfl rfl rfl
  · rw [outsAt0_B m c t h h]
    frame_out
    simp only [read_unread_whole, up_held]
    exact hidden_pieces _ (V m c main_v4) y _ _ _ _ rfl rfl rfl rfl

/-- A tile's part of the loss. -/
def part (t : Fin cfg0.N) : EReal :=
  Ideal.ofBits .f32 0x3F000000#32 * (∑ i : Fin 256, squares (missed m c (place t i))) * Ideal.ofBits .f32 0x3A800000#32

/-- A point adds its part of the loss. -/
theorem loss_step (t : Fin cfg0.N) (acc : FVec Ideal S8x128 .f32) (y : S8x128.Idx) (u0 u1 u2 u3 d0 d1 d2 d3 : FVec Ideal S1024x1024 .bf16)
    (h0 : u0 = columns (V m c main_v4) 0) (h1 : u1 = columns (V m c main_v4) 1) (h2 : u2 = columns (V m c main_v4) 2)
    (h3 : u3 = columns (V m c main_v4) 3) (k0 : d0 = bands (V m c main_v5) 0) (k1 : d1 = bands (V m c main_v5) 1)
    (k2 : d2 = bands (V m c main_v5) 2) (k3 : d3 = bands (V m c main_v5) 3) :
    k0_pay28 (k0_pay22 (iblk m c 4 t)) (k0_pay23 (iblk m c 5 t))
      (k0_pay24 (k0_pay6 (iblk m c 0 t) (iblk m c 2 t) (iblk m c 3 t)) (k0_pay7 (iblk m c 0 t) (iblk m c 2 t) (iblk m c 3 t))
        (k0_pay15 (k0_pay7 (iblk m c 0 t) (iblk m c 2 t) (iblk m c 3 t)) k0_pay8 u0 (constant S256x1024 .f32 0x00000000#32) d0
          u1 d1)
        (k0_pay16 (k0_pay7 (iblk m c 0 t) (iblk m c 2 t) (iblk m c 3 t)) u2) d2 u3 d3)
      (iblk m c 1 t) acc y = acc y + part m c t := by
  subst h0 h1 h2 h3 k0 k1 k2 k3
  rw [pay28_apply]
  refine congrArg (fun s => acc y + Ideal.ofBits .f32 0x3F000000#32 * s * Ideal.ofBits .f32 0x3A800000#32) ?_
  refine Finset.sum_congr rfl fun i _ => Finset.sum_congr rfl fun j _ => ?_
  have e := pay27_apply _ (iblk m c 1 t) (iblk m c 4 t) (iblk m c 5 t) _ (fun i j => pay24_apply _ _ (columns (V m c main_v4)) (bands (V m c main_v5))
    (entry (upward m c)) (entry (downward m c)) (fun i => first m c (place t i)) (first_tile m c t) (first_tile' m c t)
    (fun s k f => by rw [columns_apply, V_up]; rfl) (fun s f j => by rw [bands_apply, V_down]; rfl) i j) i j
  rw [show (fun k => iblk m c 4 t (ix2 0 k)) = line (gain3 m c) from funext fun k => block_gain3 m c t k,
    show (fun k => iblk m c 5 t (ix2 0 k)) = line (shift3 m c) from funext fun k => block_shift3 m c t k, block_target] at e
  exact congrArg₂ (· * ·) e e

set_option maxHeartbeats 600000 in
/-- The last point holds the whole loss. -/
theorem loss_left (t : Fin cfg0.N) (h : t.val % 32 = 31) (y : S8x128.Idx) :
    (outsAt0 m c t.val t.isLt).2.2.2.2.2.1 y = ∑ s : Fin 32, part m c s := by
  rw [Pipeline.eq_sum_fin_of_reset_step_apply_of_flush (fun n h => (outsAt0 m c n h).2.2.2.2.2.1) 32 (fun _ => 0) (fun t _ => part m c t)
    (fun t h y => ?_) (fun t h y => ?_) t h y, zero_add]
  · have ht : t.val < 32 := t.isLt
    refine Finset.sum_congr rfl fun s _ => congrArg (part m c) (Fin.ext ?_)
    show 32 * (t.val / 32) + s.val = s.val
    omega
  · rw [outsAt0_A m c t h h]
    frame_out
    simp only [copied, same_up, same_down]
    refine (loss_step m c t _ y _ _ _ _ _ _ _ _ rfl rfl rfl rfl rfl rfl rfl rfl).trans (congrArg (· + part m c t) ?_)
    unfold k0_pay3
    exact Ideal.ofBits_zero_f32
  · rw [outsAt0_B m c t h h]
    frame_out
    simp only [read_unread_whole, up_held, down_held]
    exact loss_step m c t _ y _ _ _ _ _ _ _ _ rfl rfl rfl rfl rfl rfl rfl rfl

end Cert.Proof.Mlp
-- ==== Proof.Mlp.Loss.lean ====
/- The loss tile by tile and row by row: a constant factor may be taken out of a sum. -/
module

public import proofs.«01_k».proof.Proof.Mlp.Row
public import Idealize.ShloMosaic.Lib.Pipeline.ValueKit.Acc

@[expose] public section

noncomputable section

namespace Cert.Proof.Mlp

open Idealize.ShloMosaic

theorem half_word : Ideal.ofBits .f32 0x3F000000#32 = (((1 : ℝ) / 2 : ℝ) : EReal) := by
  simp [Ideal.ofBits, Ideal.ieee, -EReal.coe_mul]
  norm_num

theorem width_word : Ideal.ofBits .f32 0x44800000#32 = ((1024 : ℝ) : EReal) := by
  simp [Ideal.ofBits, Ideal.ieee, -EReal.coe_mul]
  norm_num

theorem part_word : Ideal.ofBits .f32 0x3A800000#32 = (((1 : ℝ) / 1024 : ℝ) : EReal) := by
  simp [Ideal.ofBits, Ideal.ieee, -EReal.coe_mul]
  norm_num

/-- Dividing by 1024 is multiplying by its inverse. -/
theorem div_width (x : EReal) : Ideal.div x (Ideal.ofBits .f32 0x44800000#32) = Ideal.ofBits .f32 0x3A800000#32 * x := by
  rw [width_word, part_word]
  unfold Ideal.div
  rw [if_neg (by norm_num), mul_comm, ← EReal.coe_inv, one_div]

/-- A factor that is a number at least zero goes into a sum, whatever the terms are. -/
theorem factor_sum {ι : Type} (s : Finset ι) (c : ℝ) (hc : 0 ≤ c) (f : ι → EReal) : (c : EReal) * ∑ i ∈ s, f i = ∑ i ∈ s, (c : EReal) * f i := by
  classical
  induction s using Finset.induction with
  | empty => simp
  | insert a s ha ih =>
    rw [Finset.sum_insert ha, Finset.sum_insert ha,
      EReal.left_distrib_of_nonneg_of_ne_top (EReal.coe_nonneg.mpr hc) (EReal.coe_ne_top c), ih]

/-- The tiles' parts of the loss add up to the loss. -/
theorem loss_tiles (q : Fin 8192 → EReal) :
    (∑ t : Fin 32, Ideal.ofBits .f32 0x3F000000#32 * (∑ i : Fin 256, q ⟨t.val * 256 + i.val, by omega⟩) * Ideal.ofBits .f32 0x3A800000#32)
      = Ideal.ofBits .f32 0x3F000000#32 * ∑ l : Fin 8192, Ideal.div (q l) (Ideal.ofBits .f32 0x44800000#32) := by
  simp only [div_width]
  rw [half_word, part_word, ← factor_sum _ _ (by norm_num), ← mul_assoc, ← EReal.coe_mul, ← Fin.sum_mul_add_fin 32 256 q,
    factor_sum _ _ (by norm_num)]
  refine Finset.sum_congr rfl fun t _ => ?_
  rw [mul_right_comm, ← EReal.coe_mul]

end Cert.Proof.Mlp
-- ==== Proof.Mlp.Results.lean ====
/- The three results: the points' tiles side by side, and the loss of the last point. -/
module

public import proofs.«01_k».proof.Proof.Gen.Kernel7Ideal.Value
public import proofs.«01_k».proof.Proof.Mlp.Points
public import proofs.«01_k».proof.Proof.Mlp.Loss

@[expose] public section

noncomputable section

namespace Cert.Proof.Mlp

open Cert.Kernel7Ideal Cert.Kernel7Ideal.Gen
open Idealize.ShloMosaic Idealize.ShloMosaic.TcCoe Idealize.ShloMosaic.StableHlo Idealize.ShloMosaic.ValueIdx Idealize.ShloMosaic.ValueKit Idealize.SL.Sem

variable (m : (ℓ : Loc nD τ sig) → Buf (Elt Ideal) ℓ) (c : Dev nD)

/-- The normalized rows. -/
def firsts : S8192x1024.Idx → EReal := fun y => first m c (y 0) (y 1)

/-- The hidden units. -/
def units : S8192x4096.Idx → EReal := fun y => hidden (first m c (y 0)) (entry (upward m c)) (y 1)

/-- The loss, the same in each entry. -/
def loss : S8x128.Idx → EReal := fun _ => Ideal.ofBits .f32 0x3F000000#32
  * ∑ l : Fin 8192, Ideal.div (squares (missed m c l)) (Ideal.ofBits .f32 0x44800000#32)

theorem first_result : (dats m 0 c).arrAt 7 cfg0.N = firsts m c := by
  refine (dats m 0 c).arrAt_eq_of_covers 7 _ (by decide +kernel) fun t hf y => ?_
  blk_simp
  rw [after0_7]
  refine (congrArg (outsAt0 m c t.val t.isLt).2.1 (pair_eq (A := 256) (B := 1024) (y 0) (y 1) y rfl rfl)).trans ((first_left m c t (y 0) (y 1)).trans ?_)
  have e : ∀ z : S8192x1024.Idx, z = ix2 (place t (y 0)) (y 1) → first m c (place t (y 0)) (y 1) = firsts m c z := fun z hz => by rw [hz]; rfl
  refine e _ ?_
  blk_ext [index7]
  rfl

theorem unit_result : (dats m 0 c).arrAt 9 cfg0.N = units m c := by
  refine (dats m 0 c).arrAt_eq_of_covers 9 _ (by decide +kernel) fun t hf y => ?_
  blk_simp
  rw [after0_9]
  refine (hidden_left m c t y).trans ?_
  have e : ∀ z : S8192x4096.Idx, z = ix2 (place t (y 0)) (y 1) →
      hidden (first m c (place t (y 0))) (entry (upward m c)) (y 1) = units m c z := fun z hz => by rw [hz]; rfl
  refine e _ ?_
  blk_ext [index9]
  rfl

theorem loss_flushes : ∀ t : Fin cfg0.N, win0_11.flush t = true → t.val % 32 = 31 := (by decide +kernel : ∀ t : Fin grid0.N, _)

theorem loss_sum : (∑ s : Fin 32, part m c s) = Ideal.ofBits .f32 0x3F000000#32
    * ∑ l : Fin 8192, Ideal.div (squares (missed m c l)) (Ideal.ofBits .f32 0x44800000#32) :=
  loss_tiles fun l => squares (missed m c l)

theorem loss_result : (dats m 0 c).arrAt 11 cfg0.N = loss m c := by
  refine (dats m 0 c).arrAt_eq_of_covers 11 _ (by decide +kernel) fun t hf y => ?_
  blk_simp
  rw [after0_11]
  exact (loss_left m c t (loss_flushes t hf) y).trans (loss_sum m c)

end Cert.Proof.Mlp
-- ==== Proof.Mlp.Reference.lean ====
/- The reference's results, row by row. -/
module

public import proofs.«01_k».proof.Proof.Gen.Reference7Ideal.Read
public import proofs.«01_k».proof.Proof.Mlp.Row
public import Idealize.ShloMosaic.Lib.ValueIdxRank1

@[expose] public section

noncomputable section

namespace Cert.Proof.Mlp

open Cert.Reference7Ideal Cert.Reference7Ideal.Read
open Idealize.ShloMosaic Idealize.ShloMosaic.ValueIdx Idealize.ShloMosaic.StableHlo

theorem zero_sum (s : EReal) : Ideal.ofBits .f32 0x00000000#32 + s = s := by
  rw [Ideal.ofBits_zero_f32, zero_add]

/-- A sum over a vector's entries. -/
theorem sum_vector (F : S8192.Idx → EReal) : ∑ y : S8192.Idx, F y = ∑ i : Fin 8192, F (ix1 i) := by
  have e : ∀ y : S8192.Idx, ix1 (n := 8192) (y 0) = y := fun y => funext fun a => match a with
    | ⟨0, _⟩ => rfl
  exact (Fintype.sum_equiv (Equiv.mk (fun i : Fin 8192 => (ix1 (n := 8192) i : S8192.Idx)) (fun y : S8192.Idx => (y 0 : Fin 8192))
    (fun _ => rfl) e) _ _ fun _ => rfl).symm

variable (x0 x1 : FVec Ideal S8192x1024 .f32) (x2 x3 x4 x5 : FVec Ideal S1024 .f32) (x6 : FVec Ideal S1024x4096 .f32)
  (x7 : FVec Ideal S4096x1024 .f32)

theorem centred_ref (i : Fin 8192) (j : Fin 1024) : val_main_v5 (F := Ideal) x0 (ix2 i j) = centred (row x0 i) j := by
  rw [val_main_v5_apply, val_main_v4_apply, val_main_v3_apply, val_main_v2_apply, val_main_v1_apply, val_main_v0_apply]
  refine congrArg (x0 (ix2 i j) - ·) (congrArg (Ideal.div · _) ?_)
  refine (zero_sum _).trans (Finset.sum_congr rfl fun k _ => ?_)
  exact congrArg x0 (pair_eq i k _ rfl rfl)

theorem scale_ref (i : Fin 8192) (y : S8192x1.Idx) (h : (y 0).val = i.val) : val_main_v13 (F := Ideal) x0 y = scale (row x0 i) := by
  rw [val_main_v13_apply, val_main_v12_apply, val_main_v11_apply, val_main_v10_apply, val_main_v9_apply, val_main_v8_apply, val_main_v7_apply]
  refine congrArg (fun s => Ideal.rsqrt (Ideal.div s _ + _)) ?_
  refine (zero_sum _).trans (Finset.sum_congr rfl fun k _ => ?_)
  have e : val_main_v5 (F := Ideal) x0 (idx_main_v7 (idx_main_v8 y) k) = centred (row x0 i) k := by
    rw [pair_eq i k (idx_main_v7 (idx_main_v8 y) k) h rfl, centred_ref]
  exact congrArg₂ (· * ·) e e

theorem normed_ref (i : Fin 8192) (j : Fin 1024) :
    val_main_v21 (F := Ideal) x0 x2 x3 (ix2 i j) = normed (row x0 i) (line x2) (line x3) j := by
  rw [val_main_v21_apply, val_main_v20_apply, val_main_v19_apply, val_main_v18_apply, val_main_v17_apply, val_main_v16_apply,
    val_main_v15_apply, val_main_v14_apply, centred_ref, scale_ref x0 i _ rfl]
  exact congrArg₂ (· + ·) (congrArg (centred (row x0 i) j * scale (row x0 i) * ·) (congrArg x2 (funext fun a => match a with | ⟨0, _⟩ => rfl)))
    (congrArg x3 (funext fun a => match a with | ⟨0, _⟩ => rfl))

theorem hidden_ref (i : Fin 8192) (f : Fin 4096) :
    val_main_v24 (F := Ideal) x0 x2 x3 x6 (ix2 i f) = hidden (normed (row x0 i) (line x2) (line x3)) (entry x6) f := by
  rw [val_main_v24_apply, val_main_v23_apply, val_main_call0_v0_apply, val_main_v22_apply]
  have e : (∑ k : Fin 1024, val_main_v21 (F := Ideal) x0 x2 x3 (lidx_main_v22 (ix2 i f) k) * x6 (ridx_main_v22 (ix2 i f) k))
      = ∑ k : Fin 1024, normed (row x0 i) (line x2) (line x3) k * entry x6 k f := Finset.sum_congr rfl fun k _ => by
    rw [pair_eq i k (lidx_main_v22 (ix2 i f) k) rfl rfl, pair_eq k f (ridx_main_v22 (ix2 i f) k) rfl rfl, normed_ref]
    rfl
  rw [e]
  rfl

theorem joined_ref (i : Fin 8192) (j : Fin 1024) :
    val_main_v28 (F := Ideal) x0 x2 x3 x6 x7 (ix2 i j)
      = joined (normed (row x0 i) (line x2) (line x3)) (hidden (normed (row x0 i) (line x2) (line x3)) (entry x6)) (entry x7) j := by
  rw [val_main_v28_apply, val_main_v27_apply, val_main_v26_apply, val_main_v25_apply, normed_ref]
  refine congrArg (_ + ·) (Finset.sum_congr rfl fun f _ => ?_)
  rw [pair_eq i f (lidx_main_v27 (ix2 i j) f) rfl rfl, pair_eq f j (ridx_main_v27 (ix2 i j) f) rfl rfl, hidden_ref]
  rfl

/-- The second normalization is the first, of the joined rows. -/
theorem again : val_main_v50 (F := Ideal) x0 x2 x3 x4 x5 x6 x7 = val_main_v21 (F := Ideal) (val_main_v28 (F := Ideal) x0 x2 x3 x6 x7) x4 x5 := rfl

theorem miss_ref (i : Fin 8192) (j : Fin 1024) :
    val_main_v51 (F := Ideal) x0 x1 x2 x3 x4 x5 x6 x7 (ix2 i j)
      = miss (row x0 i) (row x1 i) (line x2) (line x3) (line x4) (line x5) (entry x6) (entry x7) j := by
  rw [val_main_v51_apply, again, normed_ref]
  refine congrArg (· - x1 (ix2 i j)) ?_
  rw [show row (val_main_v28 (F := Ideal) x0 x2 x3 x6 x7) i = _ from funext fun k => joined_ref x0 x2 x3 x6 x7 i k]

theorem loss_ref (y : S8x128.Idx) :
    val_main_v60 (F := Ideal) x0 x1 x2 x3 x4 x5 x6 x7 y = Ideal.ofBits .f32 0x3F000000#32
      * ∑ i : Fin 8192, Ideal.div (squares (miss (row x0 i) (row x1 i) (line x2) (line x3) (line x4) (line x5) (entry x6) (entry x7)))
        (Ideal.ofBits .f32 0x44800000#32) := by
  rw [val_main_v60_apply, val_main_v57_apply, val_main_v56_apply]
  refine congrArg (Ideal.ofBits .f32 0x3F000000#32 * ·) ((zero_sum _).trans ((sum_vector _).trans (Finset.sum_congr rfl fun i _ => ?_)))
  rw [val_main_v55_apply, val_main_v54_apply, val_main_v53_apply]
  refine congrArg (Ideal.div · _) ((zero_sum _).trans (Finset.sum_congr rfl fun k _ => ?_))
  rw [val_main_v52_apply, pair_eq i k (idx_main_v53 (ix1 i) k) rfl rfl, miss_ref]
  rfl

end Cert.Proof.Mlp
-- ==== Proof.Mlp.Equal.lean ====
/- The feed-forward half: kernel and reference leave the same normalized rows, hidden units and loss. -/
module

public import proofs.«01_k».proof.Defs
public import proofs.«01_k».proof.Proof.Mlp.Results
public import proofs.«01_k».proof.Proof.Mlp.Reference
public import proofs.«01_k».proof.Proof.Gen.Reference7Ideal.Run

@[expose] public section

noncomputable section

namespace Cert.Proof.Mlp

open Idealize.ShloMosaic Idealize.ShloMosaic.TcCoe Idealize.ShloMosaic.ValueIdx Idealize.SL.Sem
open Cert.Reference7Ideal.Read

variable (m : (ℓ : Loc Cert.Kernel7Ideal.nD Cert.Kernel7Ideal.τ Cert.Kernel7Ideal.sig) → Buf (Elt Ideal) ℓ) (c : Dev Cert.Kernel7Ideal.nD)

theorem firsts_ref : val_main_v58 (F := Ideal) (stream m c) (gain2 m c) (shift2 m c) = firsts m c := by
  funext y
  rw [val_main_v58_apply, pair_eq (A := 8192) (B := 1024) (y 0) (y 1) y rfl rfl]
  exact normed_ref _ _ _ (y 0) (y 1)

theorem units_ref : val_main_v59 (F := Ideal) (stream m c) (gain2 m c) (shift2 m c) (upward m c) = units m c := by
  funext y
  rw [val_main_v59_apply, pair_eq (A := 8192) (B := 4096) (y 0) (y 1) y rfl rfl]
  exact hidden_ref _ _ _ _ (y 0) (y 1)

theorem loss_same : val_main_v60 (F := Ideal) (stream m c) (target m c) (gain2 m c) (shift2 m c) (gain3 m c) (shift3 m c) (upward m c) (downward m c)
    = loss m c :=
  funext fun y => loss_ref _ _ _ _ _ _ _ _ y

theorem equal : Cert.algebraic_Kernel7Ideal_Reference7Ideal := fun m g m' g' _ hargs =>
  ⟨fun c => firsts m c, fun c => units m c, fun c => loss m c,
    (θ_run Cert.Kernel7Ideal.defs _ _).mono (fun _ h c => ⟨(h c).2.1.trans (first_result m c), (h c).2.2.2.1.trans (unit_result m c),
      (h c).2.2.2.2.2.1.trans (loss_result m c), (h c).2.2.2.2.2.2.2.2⟩) (Cert.Kernel7Ideal.Value.run_blocks m g),
    (θ_run Cert.Reference7Ideal.defs _ _).mono (fun _ h c => by
      obtain ⟨a0, a1, a2, a3, a4, a5, a6, a7⟩ := hargs c
      refine ⟨(h c).1.trans ?_, (h c).2.1.trans ?_, (h c).2.2.1.trans ?_, (h c).2.2.2⟩
      · rw [a0, a2, a3, val_main_v58_eq]
        exact firsts_ref m c
      · rw [val_main_v59_eq, a0, a2, a3, a6]
        exact units_ref m c
      · rw [val_main_v60_eq, a0, a1, a2, a3, a4, a5, a6, a7]
        exact loss_same m c) (Cert.Reference7Ideal.Value.run m' g')⟩

end Cert.Proof.Mlp
-- ==== Proof.Product.Square.lean ====
/- The product of two 1024-column matrices over their 8192 rows: what the kernel leaves is the sum over all the rows. -/
module

public import proofs.«01_k».proof.Proof.Gen.Kernel4Ideal.Value
public import proofs.«01_k».proof.Proof.Product.Sum

@[expose] public section

noncomputable section

namespace Cert.Proof.Product.Square

open Cert.Kernel4Ideal Cert.Kernel4Ideal.Gen
open Idealize.ShloMosaic Idealize.ShloMosaic.TcCoe Idealize.ShloMosaic.StableHlo Idealize.ShloMosaic.ValueIdx Idealize.ShloMosaic.ValueKit Idealize.SL.Sem

/-- One tile's part of the product. -/
theorem pay2_apply (acc : FVec Ideal S1024x1024 .f32) (x w : FVec Ideal S2048x1024 .bf16) (y : S1024x1024.Idx) :
    k0_pay2 acc x w y = acc y + ∑ k : Fin 2048, x (ix2 k (y 0)) * w (ix2 k (y 1)) := by
  unfold k0_pay2
  simp only [shapeCast_self]
  have e : y = ix2 (y 0) (y 1) := funext (Fin.forall_fin_two.mpr ⟨rfl, rfl⟩)
  rw [e]
  exact overRows_apply x w acc (y 0) (y 1)

variable (m : (ℓ : Loc nD τ sig) → Buf (Elt Ideal) ℓ) (c : Dev nD)

def arg0 : FVec Ideal S8192x1024 .f32 := m ((c.tc : Thread nD τ).loc main_arg0)
def arg1 : FVec Ideal S8192x1024 .f32 := m ((c.tc : Thread nD τ).loc main_arg1)

theorem V_x : V m c main_v0 = truncf .bf16 (arg0 m c) bitsLt_bf16_f32 := by
  unfold V
  simp only [hostOps0]
  after_results_simp <;> rfl
theorem V_w : V m c main_v1 = truncf .bf16 (arg1 m c) bitsLt_bf16_f32 := by
  unfold V
  simp only [hostOps0]
  after_results_simp <;> rfl

theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, 0] := (by decide +kernel : ∀ t : Fin grid0.N, _)

theorem block_x (t : Fin cfg0.N) (k : Fin 2048) (i : Fin 1024) :
    iblk m c 0 t (ix2 k i) = arg0 m c (ix2 ⟨t.val % 4 * 2048 + k.val, by omega⟩ i) := by
  have e : iblk m c 0 t (ix2 k i) = V m c main_v0 (ix2 ⟨t.val % 4 * 2048 + k.val, by omega⟩ i) := by
    blk_simp [iblk]
    refine congrArg (V m c main_v0) ?_
    blk_ext [index0]
  rw [e, V_x]
  rfl

theorem block_w (t : Fin cfg0.N) (k : Fin 2048) (i : Fin 1024) :
    iblk m c 1 t (ix2 k i) = arg1 m c (ix2 ⟨t.val % 4 * 2048 + k.val, by omega⟩ i) := by
  have e : iblk m c 1 t (ix2 k i) = V m c main_v1 (ix2 ⟨t.val % 4 * 2048 + k.val, by omega⟩ i) := by
    blk_simp [iblk]
    refine congrArg (V m c main_v1) ?_
    blk_ext [index1]
  rw [e, V_w]
  rfl

/-- A point adds its tile's part. -/
theorem step (t : Fin cfg0.N) (acc : FVec Ideal S1024x1024 .f32) (y : S1024x1024.Idx) :
    k0_pay2 acc (iblk m c 0 t) (iblk m c 1 t) y = acc y + ∑ k : Fin 2048,
      arg0 m c (ix2 ⟨t.val % 4 * 2048 + k.val, by omega⟩ (y 0)) * arg1 m c (ix2 ⟨t.val % 4 * 2048 + k.val, by omega⟩ (y 1)) := by
  rw [pay2_apply]
  exact congrArg (acc y + ·) (Finset.sum_congr rfl fun k _ =>
    congrArg₂ (· * ·) (block_x m c t k (y 0)) (block_w m c t k (y 1)))

/-- The product. -/
def product (x w : FVec Ideal S8192x1024 .f32) : S1024x1024.Idx → EReal :=
  fun y => ∑ l : Fin 8192, x (ix2 l (y 0)) * w (ix2 l (y 1))

theorem kept (t : Fin cfg0.N) (h : t.val % 4 = 3) (y : S1024x1024.Idx) :
    (outsAt0 m c t.val t.isLt).2 y = product (arg0 m c) (arg1 m c) y := by
  refine four_tiles (fun n h => (outsAt0 m c n h).2) (fun _ y l => arg0 m c (ix2 l (y 0)) * arg1 m c (ix2 l (y 1)))
    (fun t h y => ?_) (fun t h y => ?_) t h y
  · rw [outsAt0_A m c t h (by omega)]
    frame_out
    rw [step]
    refine congrArg (· + _) ?_
    unfold k0_pay1
    rw [shapeCast_self]
    exact Ideal.ofBits_zero_f32
  · by_cases h1 : t.val % 4 = 3
    · rw [outsAt0_C m c t h h1]
      frame_out
      rw [read_unread_whole]
      exact step m c t _ y
    · rw [outsAt0_B m c t h h1]
      frame_out
      rw [read_unread_whole]
      exact step m c t _ y

/-- The last point of a block writes the sum back. -/
theorem written (t : Fin cfg0.N) (h : t.val % 4 = 3) (y : S1024x1024.Idx) :
    (outsAt0 m c t.val t.isLt).1 y = (outsAt0 m c t.val t.isLt).2 y := by
  rw [outsAt0_C m c t (by omega) h]
  frame_out
  rfl

theorem flushes : ∀ t : Fin cfg0.N, win0_2.flush t = true → t.val % 4 = 3 := (by decide +kernel : ∀ t : Fin grid0.N, _)

theorem result : (dats m 0 c).arrAt 2 cfg0.N = product (arg0 m c) (arg1 m c) := by
  refine (dats m 0 c).arrAt_eq_of_covers 2 _ (by decide +kernel) fun t hf y => ?_
  blk_simp
  rw [after0_2]
  refine ((written m c t (flushes t hf) y).trans (kept m c t (flushes t hf) y)).trans ?_
  refine congrArg (product (arg0 m c) (arg1 m c)) ?_
  blk_ext [index2]

end Cert.Proof.Product.Square
-- ==== Proof.Product.SquareEqual.lean ====
/- The product of two 1024-column matrices: kernel and reference leave the same. -/
module

public import proofs.«01_k».proof.Defs
public import proofs.«01_k».proof.Proof.Product.Square
public import proofs.«01_k».proof.Proof.Gen.Reference4Ideal.Run
public import proofs.«01_k».proof.Proof.Gen.Reference4Ideal.Read

@[expose] public section

noncomputable section

namespace Cert.Proof.Product.Square

open Idealize.ShloMosaic Idealize.ShloMosaic.TcCoe Idealize.SL.Sem
open Cert.Reference4Ideal.Read

theorem reference (x w : FVec Ideal Cert.Kernel4Ideal.S8192x1024 .f32) : val_main_v4 (F := Ideal) x w = product x w := by
  funext y
  rw [val_main_v4_apply, val_main_v3_apply, val_main_v2_apply]
  refine Finset.sum_congr rfl fun l _ => (mul_comm _ _).trans ?_
  exact congrArg₂ (· * ·) (congrArg x (funext (Fin.forall_fin_two.mpr ⟨rfl, rfl⟩))) (congrArg w (funext (Fin.forall_fin_two.mpr ⟨rfl, rfl⟩)))

theorem equal : Cert.algebraic_Kernel4Ideal_Reference4Ideal := fun m g m' g' _ hargs =>
  ⟨fun c => product (arg0 m c) (arg1 m c),
    (θ_run Cert.Kernel4Ideal.defs _ _).mono (fun _ h c => ⟨(h c).1.trans (result m c), (h c).2⟩) (Cert.Kernel4Ideal.Value.run_blocks m g),
    (θ_run Cert.Reference4Ideal.defs _ _).mono (fun _ h c => ⟨(h c).1.trans (by
      rw [(hargs c).1, (hargs c).2, val_main_v4_eq]
      exact reference (arg0 m c) (arg1 m c)), (h c).2⟩) (Cert.Reference4Ideal.Value.run m' g')⟩

end Cert.Proof.Product.Square
-- ==== Proof.lean ====
/- The proof of the certificate's claim: the frames and the kept rewrites from the runs of the programs, and the
   equality of the results from the values the runs end with. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel5.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import proofs.«01_k».proof.Proof.Bits.Run
public import proofs.«01_k».proof.Proof.Ideal.Run
public import proofs.«01_k».proof.Proof.Value.Equal
public import proofs.«01_k».proof.Proof.Product.UpEqual
public import proofs.«01_k».proof.Proof.Product.DownEqual
public import proofs.«01_k».proof.Proof.Product.WideEqual
public import proofs.«01_k».proof.Proof.Product.InputEqual
public import proofs.«01_k».proof.Proof.Mlp.Equal
public import proofs.«01_k».proof.Proof.Product.SquareEqual
public import Idealize.ShloMosaic.Lib.Quiescent

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_inputs.Gen.facts,
  fun m g _ => Cert.Proof.Kernel.quiescent m g,
  fun m g _ => Cert.Proof.KernelIdeal.quiescent m g,
  fun m g _ => Cert.Proof.KernelIdeal.quiescent m g,
  fun m g _ => (θ_run Cert.ReferenceIdeal.defs _ _).mono (fun r h => ⟨fun c => (h c).2.2.2, sem_eq_zero_of_no_sems (by decide) r.2⟩) (Cert.ReferenceIdeal.Value.run (F := Ideal) m g),
  fun m g _ => (θ_run Cert.ReferenceIdeal.defs _ _).mono (fun r h => ⟨fun c => (h c).2.2.2, sem_eq_zero_of_no_sems (by decide) r.2⟩) (Cert.ReferenceIdeal.Value.run (F := Ideal) m g),
  fun m g _ => Cert.Kernel2.Gen.frame (F := Bits) m g,
  fun m g _ => Cert.Kernel2Ideal.Gen.frame (F := Ideal) m g,
  fun m g _ => (θ_run Cert.Reference2Ideal.defs _ _).mono (fun r h => ⟨fun c => (h c).2, sem_eq_zero_of_no_sems (by decide) r.2⟩) (Cert.Reference2Ideal.Value.run (F := Ideal) m g),
  fun m g _ => Cert.Kernel3.Gen.frame (F := Bits) m g,
  fun m g _ => Cert.Kernel3Ideal.Gen.frame (F := Ideal) m g,
  fun m g _ => (θ_run Cert.Reference3Ideal.defs _ _).mono (fun r h => ⟨fun c => (h c).2, sem_eq_zero_of_no_sems (by decide) r.2⟩) (Cert.Reference3Ideal.Value.run (F := Ideal) m g),
  fun m g _ => Cert.Kernel4.Gen.frame (F := Bits) m g,
  fun m g _ => Cert.Kernel4Ideal.Gen.frame (F := Ideal) m g,
  fun m g _ => (θ_run Cert.Reference4Ideal.defs _ _).mono (fun r h => ⟨fun c => (h c).2, sem_eq_zero_of_no_sems (by decide) r.2⟩) (Cert.Reference4Ideal.Value.run (F := Ideal) m g),
  fun m g _ => Cert.Kernel5.Gen.frame (F := Bits) m g,
  fun m g _ => Cert.Kernel5Ideal.Gen.frame (F := Ideal) m g,
  fun m g _ => (θ_run Cert.Reference5Ideal.defs _ _).mono (fun r h => ⟨fun c => (h c).2, sem_eq_zero_of_no_sems (by decide) r.2⟩) (Cert.Reference5Ideal.Value.run (F := Ideal) m g),
  fun m g _ => Cert.Kernel6.Gen.frame (F := Bits) m g,
  fun m g _ => Cert.Kernel6Ideal.Gen.frame (F := Ideal) m g,
  fun m g _ => (θ_run Cert.Reference6Ideal.defs _ _).mono (fun r h => ⟨fun c => (h c).2, sem_eq_zero_of_no_sems (by decide) r.2⟩) (Cert.Reference6Ideal.Value.run (F := Ideal) m g),
  fun m g _ => Cert.Kernel7.Gen.frame (F := Bits) m g,
  fun m g _ => Cert.Kernel7Ideal.Gen.frame (F := Ideal) m g,
  fun m g _ => (θ_run Cert.Reference7Ideal.defs _ _).mono (fun r h => ⟨fun c => (h c).2.2.2, sem_eq_zero_of_no_sems (by decide) r.2⟩) (Cert.Reference7Ideal.Value.run (F := Ideal) m g),
  ⟨IdealRules.named_const.statement Cert.KernelIdeal.κ "scale2" .f32 _ _ rfl, IdealRules.named_const.statement Cert.KernelIdeal.κ "log2e" .f32 _ _ rfl⟩,
  Cert.Proof.Value.equal,
  trivial, Cert.Proof.Product.Up.equal,
  trivial, Cert.Proof.Product.Down.equal,
  trivial, Cert.Proof.Product.Square.equal,
  trivial, Cert.Proof.Product.Wide.equal,
  trivial, Cert.Proof.Product.Input.equal,
  trivial, Cert.Proof.Mlp.equal⟩

end Cert.Proof

end
